-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v162) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v29) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v1_0)) (v1 : (c : Dev Cert.Kernel3Ideal.nD) → Buf (Elt Ideal) ((c.tc : Thread Cert.Kernel3Ideal.nD Cert.Kernel3Ideal.τ).loc Cert.Kernel3Ideal.main_v1_1)) (v2 : (c : Dev Cert.Kernel3Ideal.nD) → Buf (Elt Ideal) ((c.tc : Thread Cert.Kernel3Ideal.nD Cert.Kernel3Ideal.τ).loc Cert.Kernel3Ideal.main_v1_2)) (v3 : (c : Dev Cert.Kernel3Ideal.nD) → Buf (Elt Ideal) ((c.tc : Thread Cert.Kernel3Ideal.nD Cert.Kernel3Ideal.τ).loc Cert.Kernel3Ideal.main_v1_3)) (v4 : (c : Dev Cert.Kernel3Ideal.nD) → Buf (Elt Ideal) ((c.tc : Thread Cert.Kernel3Ideal.nD Cert.Kernel3Ideal.τ).loc Cert.Kernel3Ideal.main_v1_4)) (v5 : (c : Dev Cert.Kernel3Ideal.nD) → Buf (Elt Ideal) ((c.tc : Thread Cert.Kernel3Ideal.nD Cert.Kernel3Ideal.τ).loc Cert.Kernel3Ideal.main_v1_5)) (v6 : (c : Dev Cert.Kernel3Ideal.nD) → Buf (Elt Ideal) ((c.tc : Thread Cert.Kernel3Ideal.nD Cert.Kernel3Ideal.τ).loc Cert.Kernel3Ideal.main_v1_6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1_0) = v0 c
          ∧ r.2.mem ((c.tc : Thread Cert.Kernel3Ideal.nD Cert.Kernel3Ideal.τ).loc Cert.Kernel3Ideal.main_v1_1) = v1 c
          ∧ r.2.mem ((c.tc : Thread Cert.Kernel3Ideal.nD Cert.Kernel3Ideal.τ).loc Cert.Kernel3Ideal.main_v1_2) = v2 c
          ∧ r.2.mem ((c.tc : Thread Cert.Kernel3Ideal.nD Cert.Kernel3Ideal.τ).loc Cert.Kernel3Ideal.main_v1_3) = v3 c
          ∧ r.2.mem ((c.tc : Thread Cert.Kernel3Ideal.nD Cert.Kernel3Ideal.τ).loc Cert.Kernel3Ideal.main_v1_4) = v4 c
          ∧ r.2.mem ((c.tc : Thread Cert.Kernel3Ideal.nD Cert.Kernel3Ideal.τ).loc Cert.Kernel3Ideal.main_v1_5) = v5 c
          ∧ r.2.mem ((c.tc : Thread Cert.Kernel3Ideal.nD Cert.Kernel3Ideal.τ).loc Cert.Kernel3Ideal.main_v1_6) = v6 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v1) = v0 c
          ∧ r.2.mem ((c.tc : Thread Cert.Reference3Ideal.nD Cert.Reference3Ideal.τ).loc Cert.Reference3Ideal.main_v14) = v1 c
          ∧ r.2.mem ((c.tc : Thread Cert.Reference3Ideal.nD Cert.Reference3Ideal.τ).loc Cert.Reference3Ideal.main_v15) = v2 c
          ∧ r.2.mem ((c.tc : Thread Cert.Reference3Ideal.nD Cert.Reference3Ideal.τ).loc Cert.Reference3Ideal.main_v16) = v3 c
          ∧ r.2.mem ((c.tc : Thread Cert.Reference3Ideal.nD Cert.Reference3Ideal.τ).loc Cert.Reference3Ideal.main_v17) = v4 c
          ∧ r.2.mem ((c.tc : Thread Cert.Reference3Ideal.nD Cert.Reference3Ideal.τ).loc Cert.Reference3Ideal.main_v18) = v5 c
          ∧ r.2.mem ((c.tc : Thread Cert.Reference3Ideal.nD Cert.Reference3Ideal.τ).loc Cert.Reference3Ideal.main_v19) = v6 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v27) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite.lean ====
abbrev S16384x1024 : Shape := ⟨2, ![16384, 1024]⟩
abbrev S1024x8 : Shape := ⟨2, ![1024, 8]⟩
abbrev S8x1024x2816 : Shape := ⟨3, ![8, 1024, 2816]⟩
abbrev S8x2816x1024 : Shape := ⟨3, ![8, 2816, 1024]⟩
abbrev S1024 : Shape := ⟨1, ![1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024x8 : S_.BroadcastsInDim S1024x8 (![] : Fin 0 → Fin S1024x8.rank)
  reducesTo_S1024x8_S_d0_1 : S1024x8.ReducesTo [0, 1] S_

variable [Facts]

def fn {F : FTy → Type} [FloatOps F] (main_arg0 : FVec F S16384x1024 .f32) (main_arg1 : FVec F S1024x8 .f32) (main_arg2 : FVec F S8x1024x2816 .f32) (main_arg3 : FVec F S8x1024x2816 .f32) (main_arg4 : FVec F S8x2816x1024 .f32) (main_arg5 : FVec F S1024 .f32) (main_arg6 : FVec F S1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S1024x8 .f32 := Host.absf main_arg1
  let main_cst_0 : FVec F S_ .f32 := constant S_ .f32 0x7F800000#32
  let main_v5 : FVec F S1024x8 .f32 := broadcastInDim S1024x8 ![] bcast_S_S1024x8 main_cst_0
  let main_v6 : IVec S1024x8 1 := cmpf .olt main_v4 main_v5
  let main_c_1 : IVec S_ 1 := constantI S_ 1 1#1
  let main_v7 : IVec S_ 1 := (fun x v => Host.reduce IntOp.andi x v reducesTo_S1024x8_S_d0_1 h_S_) main_v6 main_c_1
  let main_v8 : IVec S_ 1 := andi main_v3 main_v7
  main_v8
-- ==== Kernel.lean ====
abbrev S16384x1024 : Shape := ⟨2, ![16384, 1024]⟩
abbrev S1024x8 : Shape := ⟨2, ![1024, 8]⟩
abbrev S8x1024x2816 : Shape := ⟨3, ![8, 1024, 2816]⟩
abbrev S8x2816x1024 : Shape := ⟨3, ![8, 2816, 1024]⟩
abbrev S1024 : Shape := ⟨1, ![1024]⟩
abbrev S1x1024 : Shape := ⟨2, ![1, 1024]⟩
abbrev S_ : Shape := ⟨0, ![]⟩
abbrev S1024x128 : Shape := ⟨2, ![1024, 128]⟩
abbrev S16384x128 : Shape := ⟨2, ![16384, 128]⟩
abbrev S16x8x128 : Shape := ⟨3, ![16, 8, 128]⟩
abbrev S1024x1024 : Shape := ⟨2, ![1024, 1024]⟩
abbrev S1x8x128 : Shape := ⟨3, ![1, 8, 128]⟩
abbrev S1024x1 : Shape := ⟨2, ![1024, 1]⟩
abbrev S128 : Shape := ⟨1, ![128]⟩
abbrev S1x128 : Shape := ⟨2, ![1, 128]⟩
abbrev S8x128 : Shape := ⟨2, ![8, 128]⟩
abbrev S16384x8 : Shape := ⟨2, ![16384, 8]⟩
abbrev S8x16384 : Shape := ⟨2, ![8, 16384]⟩
abbrev S16x1x8 : Shape := ⟨3, ![16, 1, 8]⟩
abbrev S16x8 : Shape := ⟨2, ![16, 8]⟩
abbrev S8x1024 : Shape := ⟨2, ![8, 1024]⟩
abbrev S1x1024x1408 : Shape := ⟨3, ![1, 1024, 1408]⟩
abbrev S1x1408x1024 : Shape := ⟨3, ![1, 1408, 1024]⟩
abbrev S1248x1024 : Shape := ⟨2, ![1248, 1024]⟩
abbrev S1 : Shape := ⟨1, ![1]⟩
abbrev S288x1024 : Shape := ⟨2, ![288, 1024]⟩
abbrev S1x1024x256 : Shape := ⟨3, ![1, 1024, 256]⟩
abbrev S1024x256 : Shape := ⟨2, ![1024, 256]⟩
abbrev S288x256 : Shape := ⟨2, ![288, 256]⟩
abbrev S1x256x1024 : Shape := ⟨3, ![1, 256, 1024]⟩
abbrev S256x1024 : Shape := ⟨2, ![256, 1024]⟩
abbrev S1x1024x128 : Shape := ⟨3, ![1, 1024, 128]⟩
abbrev S288x128 : Shape := ⟨2, ![288, 128]⟩
abbrev S1x128x1024 : Shape := ⟨3, ![1, 128, 1024]⟩
abbrev S128x1024 : Shape := ⟨2, ![128, 1024]⟩
abbrev S384x1024 : Shape := ⟨2, ![384, 1024]⟩
abbrev S256x384 : Shape := ⟨2, ![256, 384]⟩
abbrev S256x1 : Shape := ⟨2, ![256, 1]⟩

abbrev nBuf : Space → Nat
  | .hbm => 26
  | .vmem => 35
  | .smem => 1
  | _ => 0

abbrev bufTy : (tb : Table) → Fin (tcTables nBuf tb) → BufTy
  | .hbm, ⟨0, _⟩ => ⟨S16384x1024, .f32⟩
  | .hbm, ⟨1, _⟩ => ⟨S1024x8, .f32⟩
  | .hbm, ⟨2, _⟩ => ⟨S8x1024x2816, .f32⟩
  | .hbm, ⟨3, _⟩ => ⟨S8x1024x2816, .f32⟩
  | .hbm, ⟨4, _⟩ => ⟨S8x2816x1024, .f32⟩
  | .hbm, ⟨5, _⟩ => ⟨S1024, .f32⟩
  | .hbm, ⟨6, _⟩ => ⟨S1024, .f32⟩
  | .hbm, ⟨7, _⟩ => ⟨S8x1024x2816, .bf16⟩
  | .hbm, ⟨8, _⟩ => ⟨S8x1024x2816, .bf16⟩
  | .hbm, ⟨9, _⟩ => ⟨S8x2816x1024, .bf16⟩
  | .hbm, ⟨10, _⟩ => ⟨S1x1024, .f32⟩
  | .hbm, ⟨11, _⟩ => ⟨S1x1024, .f32⟩
  | .hbm, ⟨12, _⟩ => ⟨S_, .i32⟩
  | .hbm, ⟨13, _⟩ => ⟨S_, .f32⟩
  | .hbm, ⟨14, _⟩ => ⟨S1024x128, .f32⟩
  | .hbm, ⟨15, _⟩ => ⟨S16384x128, .f32⟩
  | .hbm, ⟨16, _⟩ => ⟨S16384x128, .f32⟩
  | .hbm, ⟨17, _⟩ => ⟨S16x8x128, .f32⟩
  | .hbm, ⟨18, _⟩ => ⟨S16384x8, .f32⟩
  | .hbm, ⟨19, _⟩ => ⟨S8x16384, .f32⟩
  | .hbm, ⟨20, _⟩ => ⟨S16x1x8, .f32⟩
  | .hbm, ⟨21, _⟩ => ⟨S16x8, .f32⟩
  | .hbm, ⟨22, _⟩ => ⟨S16x8, .i32⟩
  | .hbm, ⟨23, _⟩ => ⟨S16384x1024, .bf16⟩
  | .hbm, ⟨24, _⟩ => ⟨S16384x1024, .f32⟩
  | .hbm, ⟨25, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1x8x128, .f32⟩
  | .local _ .vmem, ⟨8, _⟩ => ⟨S1x8x128, .f32⟩
  | .local _ .vmem, ⟨9, _⟩ => ⟨S1024x1024, .bf16⟩
  | .local _ .vmem, ⟨10, _⟩ => ⟨S1024x1024, .bf16⟩
  | .local _ .vmem, ⟨11, _⟩ => ⟨S8x1024, .f32⟩
  | .local _ .vmem, ⟨12, _⟩ => ⟨S8x1024, .f32⟩
  | .local _ .vmem, ⟨13, _⟩ => ⟨S1024x128, .f32⟩
  | .local _ .vmem, ⟨14, _⟩ => ⟨S1024x128, .f32⟩
  | .local _ .vmem, ⟨15, _⟩ => ⟨S1024x128, .f32⟩
  | .local _ .vmem, ⟨16, _⟩ => ⟨S1024x128, .f32⟩
  | .local _ .vmem, ⟨17, _⟩ => ⟨S1x1024x1408, .bf16⟩
  | .local _ .vmem, ⟨18, _⟩ => ⟨S1x1024x1408, .bf16⟩
  | .local _ .vmem, ⟨19, _⟩ => ⟨S1x1024x1408, .bf16⟩
  | .local _ .vmem, ⟨20, _⟩ => ⟨S1x1024x1408, .bf16⟩
  | .local _ .vmem, ⟨21, _⟩ => ⟨S1x1408x1024, .bf16⟩
  | .local _ .vmem, ⟨22, _⟩ => ⟨S1x1408x1024, .bf16⟩
  | .local _ .vmem, ⟨23, _⟩ => ⟨S1024x1024, .f32⟩
  | .local _ .vmem, ⟨24, _⟩ => ⟨S1024x1024, .f32⟩
  | .local _ .vmem, ⟨25, _⟩ => ⟨S1248x1024, .bf16⟩
  | .local _ .vmem, ⟨26, _⟩ => ⟨S1248x1024, .f32⟩
  | .local _ .vmem, ⟨27, _⟩ => ⟨S1024x1024, .f32⟩
  | .local _ .vmem, ⟨28, _⟩ => ⟨S1024x1024, .f32⟩
  | .local _ .vmem, ⟨29, _⟩ => ⟨S1024x1024, .f32⟩
  | .local _ .vmem, ⟨30, _⟩ => ⟨S1024x1024, .f32⟩
  | .local _ .vmem, ⟨31, _⟩ => ⟨S1x1024, .f32⟩
  | .local _ .vmem, ⟨32, _⟩ => ⟨S1x1024, .f32⟩
  | .local _ .vmem, ⟨33, _⟩ => ⟨S1024x1024, .f32⟩
  | .local _ .vmem, ⟨34, _⟩ => ⟨S1024x1024, .f32⟩
  | .local _ .smem, ⟨0, _⟩ => ⟨S128, .i32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_call0_v0 : Ref sig .tc := ⟨.hbm, 13, rfl⟩
abbrev main_v5 : Ref sig .tc := ⟨.hbm, 14, rfl⟩
abbrev main_v6_0 : Ref sig .tc := ⟨.hbm, 15, rfl⟩
abbrev main_v6_1 : Ref sig .tc := ⟨.hbm, 16, rfl⟩
abbrev main_v6_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v12 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc1_stg4_1 : Ref sig .tc := ⟨.vmem, 18, rfl⟩
abbrev cc1_stg5_0 : Ref sig .tc := ⟨.vmem, 19, rfl⟩
abbrev cc1_stg5_1 : Ref sig .tc := ⟨.vmem, 20, rfl⟩
abbrev cc1_stg6_0 : Ref sig .tc := ⟨.vmem, 21, rfl⟩
abbrev cc1_stg6_1 : Ref sig .tc := ⟨.vmem, 22, rfl⟩
abbrev cc1_stg7_0 : Ref sig .tc := ⟨.vmem, 23, rfl⟩
abbrev cc1_stg7_1 : Ref sig .tc := ⟨.vmem, 24, rfl⟩
abbrev cc1_scratch0 : Ref sig .tc := ⟨.vmem, 25, rfl⟩
abbrev cc1_scratch1 : Ref sig .tc := ⟨.vmem, 26, rfl⟩
abbrev cc2_stg0_0 : Ref sig .tc := ⟨.vmem, 27, rfl⟩
abbrev cc2_stg0_1 : Ref sig .tc := ⟨.vmem, 28, rfl⟩
abbrev cc2_stg1_0 : Ref sig .tc := ⟨.vmem, 29, rfl⟩
abbrev cc2_stg1_1 : Ref sig .tc := ⟨.vmem, 30, rfl⟩
abbrev cc2_stg2_0 : Ref sig .tc := ⟨.vmem, 31, rfl⟩
abbrev cc2_stg3_0 : Ref sig .tc := ⟨.vmem, 32, rfl⟩
abbrev cc2_stg4_0 : Ref sig .tc := ⟨.vmem, 33, rfl⟩
abbrev cc2_stg4_1 : Ref sig .tc := ⟨.vmem, 34, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16
abbrev cc1_sem4_0 : DmaSem sig := 17
abbrev cc1_sem4_1 : DmaSem sig := 18
abbrev cc1_sem5_0 : DmaSem sig := 19
abbrev cc1_sem5_1 : DmaSem sig := 20
abbrev cc1_sem6_0 : DmaSem sig := 21
abbrev cc1_sem6_1 : DmaSem sig := 22
abbrev cc1_sem7_0 : DmaSem sig := 23
abbrev cc1_sem7_1 : DmaSem sig := 24
abbrev cc2_sem0_0 : DmaSem sig := 25
abbrev cc2_sem0_1 : DmaSem sig := 26
abbrev cc2_sem1_0 : DmaSem sig := 27
abbrev cc2_sem1_1 : DmaSem sig := 28
abbrev cc2_sem2_0 : DmaSem sig := 29
abbrev cc2_sem3_0 : DmaSem sig := 30
abbrev cc2_sem4_0 : DmaSem sig := 31
abbrev cc2_sem4_1 : DmaSem sig := 32

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨3, ![16, 8, 2], ![false, false, false]⟩

abbrev pre1 : Pipeline.Prefetch sig := ⟨1, ![main_v12.idx], fun | 0 => main_v12.names | ⟨_ + 1, h⟩ => absurd h (Nat.not_lt.2 (Nat.le_add_left _ _)), fun | 0 => rfl | ⟨_ + 1, h⟩ => absurd h (Nat.not_lt.2 (Nat.le_add_left _ _))⟩

def k1_off1 (i : grid1.Coords) : Fin 1 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let v2 : Index := Scalar.indexCast v1
  ![v2.toNat]
def k1_cond3 (i : grid1.Coords) : BitVec 1 :=
  let arg2 : BitVec 32 := BitVec.ofNat 32 (i 2).val
  let c0_i32_13 : BitVec 32 := 0#32
  let v35 : BitVec 1 := Scalar.cmpi .eq arg2 c0_i32_13
  let v36 : BitVec 32 := Scalar.extui v35
  let c0_i32_14 : BitVec 32 := 0#32
  let v37 : BitVec 1 := Scalar.cmpi .ne v36 c0_i32_14
  v37

def k1_off2 (i : grid1.Coords) : Fin 2 → Nat :=
  let arg1 : BitVec 32 := BitVec.ofNat 32 (i 1).val
  let v46 : Index := Scalar.indexCast arg1
  let c0 : Index := 0#32
  ![v46.toNat, 0]
@[reducible] def k1_t1_loop (v3 : BitVec 32) : Scf.Loop 32 :=
  let c0_i32_23 : BitVec 32 := 0#32
  let c288_i32 : BitVec 32 := 288#32
  let v4 : BitVec 32 := Scalar.addi v3 c288_i32
  let c1_i32 : BitVec 32 := 1#32
  let v5 : BitVec 32 := Scalar.subi v4 c1_i32
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c288_i32_0 : BitVec 32 := 288#32
  let c0_i32_2 : BitVec 32 := 0#32
  let v12 : BitVec 1 := Scalar.cmpi .sgt c288_i32_0 c0_i32_2
  let v13 : BitVec 32 := Scalar.extui v12
  let c0_i32_3 : BitVec 32 := 0#32
  let v14 : BitVec 1 := Scalar.cmpi .slt c288_i32_0 c0_i32_3
  let v15 : BitVec 32 := Scalar.extui v14
  let v16 : BitVec 32 := Scalar.subi v13 v15
  let v17 : BitVec 1 := Scalar.cmpi .ne v11 v16
  let v18 : BitVec 32 := Scalar.remsi v5 c288_i32_0
  let c0_i32_4 : BitVec 32 := 0#32
  let v19 : BitVec 1 := Scalar.cmpi .ne v18 c0_i32_4
  let v20 : BitVec 1 := Scalar.andi v17 v19
  let v6 : BitVec 32 := Scalar.divsi v5 c288_i32_0
  let c1_i32_5 : BitVec 32 := 1#32
  let v21 : BitVec 32 := Scalar.subi v6 c1_i32_5
  let v22 : BitVec 32 := Scalar.select v20 v21 v6
  let v49 : BitVec 32 := Scalar.subi v22 c0_i32_23
  let c1_i32_24 : BitVec 32 := 1#32
  let v51 : BitVec 32 := Scalar.divsi v49 c1_i32_24
  let v52 : BitVec 32 := Scalar.muli v51 c1_i32_24
  let v53 : BitVec 32 := Scalar.addi c0_i32_23 v52
  let c1_i32_25 : BitVec 32 := 1#32
  ⟨c0_i32_23, v53, c1_i32_25⟩

def k1_mult1 (v3 : BitVec 32) (k1_t1 : Fin (k1_t1_loop v3).trips) : BitVec 32 :=
  let c0_i32_23 : BitVec 32 := 0#32
  let c1_i32_25 : BitVec 32 := 1#32
  let arg14 : BitVec 32 := Scf.iv c0_i32_23 c1_i32_25 k1_t1
  let c288_i32_27 : BitVec 32 := 288#32
  let v54 : BitVec 32 := Scalar.muli arg14 c288_i32_27
  v54
def k1_off3 (v3 : BitVec 32) (k1_t1 : Fin (k1_t1_loop v3).trips) : Fin 2 → Nat :=
  let c0_i32_23 : BitVec 32 := 0#32
  let c1_i32_25 : BitVec 32 := 1#32
  let arg14 : BitVec 32 := Scf.iv c0_i32_23 c1_i32_25 k1_t1
  let c288_i32_27 : BitVec 32 := 288#32
  let v54 : BitVec 32 := Scalar.muli arg14 c288_i32_27
  let v55 : BitVec 32 := v54
  let v70 : Index := Scalar.indexCast v55
  let c0_32 : Index := 0#32
  ![v70.toNat, 0]
@[reducible] def k1_t2_loop (v3 : BitVec 32) : Scf.Loop 32 :=
  let c0_i32_23 : BitVec 32 := 0#32
  let c288_i32 : BitVec 32 := 288#32
  let v4 : BitVec 32 := Scalar.addi v3 c288_i32
  let c1_i32 : BitVec 32 := 1#32
  let v5 : BitVec 32 := Scalar.subi v4 c1_i32
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c288_i32_0 : BitVec 32 := 288#32
  let c0_i32_2 : BitVec 32 := 0#32
  let v12 : BitVec 1 := Scalar.cmpi .sgt c288_i32_0 c0_i32_2
  let v13 : BitVec 32 := Scalar.extui v12
  let c0_i32_3 : BitVec 32 := 0#32
  let v14 : BitVec 1 := Scalar.cmpi .slt c288_i32_0 c0_i32_3
  let v15 : BitVec 32 := Scalar.extui v14
  let v16 : BitVec 32 := Scalar.subi v13 v15
  let v17 : BitVec 1 := Scalar.cmpi .ne v11 v16
  let v18 : BitVec 32 := Scalar.remsi v5 c288_i32_0
  let c0_i32_4 : BitVec 32 := 0#32
  let v19 : BitVec 1 := Scalar.cmpi .ne v18 c0_i32_4
  let v20 : BitVec 1 := Scalar.andi v17 v19
  let v6 : BitVec 32 := Scalar.divsi v5 c288_i32_0
  let c1_i32_5 : BitVec 32 := 1#32
  let v21 : BitVec 32 := Scalar.subi v6 c1_i32_5
  let v22 : BitVec 32 := Scalar.select v20 v21 v6
  let v49 : BitVec 32 := Scalar.subi v22 c0_i32_23
  let c1_i32_24 : BitVec 32 := 1#32
  let v51 : BitVec 32 := Scalar.divsi v49 c1_i32_24
  let v52 : BitVec 32 := Scalar.muli v51 c1_i32_24
  let v53 : BitVec 32 := Scalar.addi c0_i32_23 v52
  let v50 : BitVec 32 := Scalar.addi c0_i32_23 v49
  let c1_i32_26 : BitVec 32 := 1#32
  ⟨v53, v50, c1_i32_26⟩
def k1_mult2 (v3 : BitVec 32) (k1_t2 : Fin (k1_t2_loop v3).trips) : BitVec 32 :=
  let c0_i32_23 : BitVec 32 := 0#32
  let c288_i32 : BitVec 32 := 288#32
  let v4 : BitVec 32 := Scalar.addi v3 c288_i32
  let c1_i32 : BitVec 32 := 1#32
  let v5 : BitVec 32 := Scalar.subi v4 c1_i32
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c288_i32_0 : BitVec 32 := 288#32
  let c0_i32_2 : BitVec 32 := 0#32
  let v12 : BitVec 1 := Scalar.cmpi .sgt c288_i32_0 c0_i32_2
  let v13 : BitVec 32 := Scalar.extui v12
  let c0_i32_3 : BitVec 32 := 0#32
  let v14 : BitVec 1 := Scalar.cmpi .slt c288_i32_0 c0_i32_3
  let v15 : BitVec 32 := Scalar.extui v14
  let v16 : BitVec 32 := Scalar.subi v13 v15
  let v17 : BitVec 1 := Scalar.cmpi .ne v11 v16
  let v18 : BitVec 32 := Scalar.remsi v5 c288_i32_0
  let c0_i32_4 : BitVec 32 := 0#32
  let v19 : BitVec 1 := Scalar.cmpi .ne v18 c0_i32_4
  let v20 : BitVec 1 := Scalar.andi v17 v19
  let v6 : BitVec 32 := Scalar.divsi v5 c288_i32_0
  let c1_i32_5 : BitVec 32 := 1#32
  let v21 : BitVec 32 := Scalar.subi v6 c1_i32_5
  let v22 : BitVec 32 := Scalar.select v20 v21 v6
  let v49 : BitVec 32 := Scalar.subi v22 c0_i32_23
  let c1_i32_24 : BitVec 32 := 1#32
  let v51 : BitVec 32 := Scalar.divsi v49 c1_i32_24
  let v52 : BitVec 32 := Scalar.muli v51 c1_i32_24
  let v53 : BitVec 32 := Scalar.addi c0_i32_23 v52
  let c1_i32_26 : BitVec 32 := 1#32
  let arg14 : BitVec 32 := Scf.iv v53 c1_i32_26 k1_t2
  let c288_i32_27 : BitVec 32 := 288#32
  let v54 : BitVec 32 := Scalar.muli arg14 c288_i32_27
  v54
def k1_off4 (v3 : BitVec 32) (k1_t2 : Fin (k1_t2_loop v3).trips) : Fin 2 → Nat :=
  let c0_i32_23 : BitVec 32 := 0#32
  let c288_i32 : BitVec 32 := 288#32
  let v4 : BitVec 32 := Scalar.addi v3 c288_i32
  let c1_i32 : BitVec 32 := 1#32
  let v5 : BitVec 32 := Scalar.subi v4 c1_i32
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c288_i32_0 : BitVec 32 := 288#32
  let c0_i32_2 : BitVec 32 := 0#32
  let v12 : BitVec 1 := Scalar.cmpi .sgt c288_i32_0 c0_i32_2
  let v13 : BitVec 32 := Scalar.extui v12
  let c0_i32_3 : BitVec 32 := 0#32
  let v14 : BitVec 1 := Scalar.cmpi .slt c288_i32_0 c0_i32_3
  let v15 : BitVec 32 := Scalar.extui v14
  let v16 : BitVec 32 := Scalar.subi v13 v15
  let v17 : BitVec 1 := Scalar.cmpi .ne v11 v16
  let v18 : BitVec 32 := Scalar.remsi v5 c288_i32_0
  let c0_i32_4 : BitVec 32 := 0#32
  let v19 : BitVec 1 := Scalar.cmpi .ne v18 c0_i32_4
  let v20 : BitVec 1 := Scalar.andi v17 v19
  let v6 : BitVec 32 := Scalar.divsi v5 c288_i32_0
  let c1_i32_5 : BitVec 32 := 1#32
  let v21 : BitVec 32 := Scalar.subi v6 c1_i32_5
  let v22 : BitVec 32 := Scalar.select v20 v21 v6
  let v49 : BitVec 32 := Scalar.subi v22 c0_i32_23
  let c1_i32_24 : BitVec 32 := 1#32
  let v51 : BitVec 32 := Scalar.divsi v49 c1_i32_24
  let v52 : BitVec 32 := Scalar.muli v51 c1_i32_24
  let v53 : BitVec 32 := Scalar.addi c0_i32_23 v52
  let c1_i32_26 : BitVec 32 := 1#32
  let arg14 : BitVec 32 := Scf.iv v53 c1_i32_26 k1_t2
  let c288_i32_27 : BitVec 32 := 288#32
  let v54 : BitVec 32 := Scalar.muli arg14 c288_i32_27
  let v55 : BitVec 32 := v54
  let v70 : Index := Scalar.indexCast v55
  let c0_32 : Index := 0#32
  ![v70.toNat, 0]
@[reducible] def k1_t3_loop (v3 : BitVec 32) : Scf.Loop 32 :=
  let c0_i32_16 : BitVec 32 := 0#32
  let c288_i32 : BitVec 32 := 288#32
  let v4 : BitVec 32 := Scalar.addi v3 c288_i32
  let c1_i32 : BitVec 32 := 1#32
  let v5 : BitVec 32 := Scalar.subi v4 c1_i32
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c288_i32_0 : BitVec 32 := 288#32
  let c0_i32_2 : BitVec 32 := 0#32
  let v12 : BitVec 1 := Scalar.cmpi .sgt c288_i32_0 c0_i32_2
  let v13 : BitVec 32 := Scalar.extui v12
  let c0_i32_3 : BitVec 32 := 0#32
  let v14 : BitVec 1 := Scalar.cmpi .slt c288_i32_0 c0_i32_3
  let v15 : BitVec 32 := Scalar.extui v14
  let v16 : BitVec 32 := Scalar.subi v13 v15
  let v17 : BitVec 1 := Scalar.cmpi .ne v11 v16
  let v18 : BitVec 32 := Scalar.remsi v5 c288_i32_0
  let c0_i32_4 : BitVec 32 := 0#32
  let v19 : BitVec 1 := Scalar.cmpi .ne v18 c0_i32_4
  let v20 : BitVec 1 := Scalar.andi v17 v19
  let v6 : BitVec 32 := Scalar.divsi v5 c288_i32_0
  let c1_i32_5 : BitVec 32 := 1#32
  let v21 : BitVec 32 := Scalar.subi v6 c1_i32_5
  let v22 : BitVec 32 := Scalar.select v20 v21 v6
  let v38 : BitVec 32 := Scalar.subi v22 c0_i32_16
  let c1_i32_17 : BitVec 32 := 1#32
  let v40 : BitVec 32 := Scalar.divsi v38 c1_i32_17
  let v41 : BitVec 32 := Scalar.muli v40 c1_i32_17
  let v42 : BitVec 32 := Scalar.addi c0_i32_16 v41
  let c1_i32_18 : BitVec 32 := 1#32
  ⟨c0_i32_16, v42, c1_i32_18⟩
def k1_mult3 (v3 : BitVec 32) (k1_t3 : Fin (k1_t3_loop v3).trips) : BitVec 32 :=
  let c0_i32_16 : BitVec 32 := 0#32
  let c1_i32_18 : BitVec 32 := 1#32
  let arg14 : BitVec 32 := Scf.iv c0_i32_16 c1_i32_18 k1_t3
  let c288_i32_22 : BitVec 32 := 288#32
  let v46 : BitVec 32 := Scalar.muli arg14 c288_i32_22
  v46
def k1_off5 (v3 : BitVec 32) (k1_t3 : Fin (k1_t3_loop v3).trips) : Fin 2 → Nat :=
  let c0_i32_16 : BitVec 32 := 0#32
  let c1_i32_18 : BitVec 32 := 1#32
  let arg14 : BitVec 32 := Scf.iv c0_i32_16 c1_i32_18 k1_t3
  let c288_i32_22 : BitVec 32 := 288#32
  let v46 : BitVec 32 := Scalar.muli arg14 c288_i32_22
  let v47 : BitVec 32 := v46
  let v48 : Index := Scalar.indexCast v47
  let c0 : Index := 0#32
  ![v48.toNat, 0]
def k1_cond4 (i : grid1.Coords) : BitVec 1 :=
  let arg2 : BitVec 32 := BitVec.ofNat 32 (i 2).val
  let c0_i32_107 : BitVec 32 := 0#32
  let v169 : BitVec 1 := Scalar.cmpi .eq arg2 c0_i32_107
  let v170 : BitVec 32 := Scalar.extui v169
  let c0_i32_108 : BitVec 32 := 0#32
  let v171 : BitVec 1 := Scalar.cmpi .ne v170 c0_i32_108
  v171

def k1_off6 (v3 : BitVec 32) (k1_t3 : Fin (k1_t3_loop v3).trips) : Fin 2 → Nat :=
  let c0_i32_16 : BitVec 32 := 0#32
  let c1_i32_18 : BitVec 32 := 1#32
  let arg14 : BitVec 32 := Scf.iv c0_i32_16 c1_i32_18 k1_t3
  let c288_i32_22 : BitVec 32 := 288#32
  let v46 : BitVec 32 := Scalar.muli arg14 c288_i32_22
  let v47 : BitVec 32 := v46
  let v175 : Index := Scalar.indexCast v47
  let c0_111 : Index := 0#32
  ![v175.toNat, 0]
def k1_cond5 (i : grid1.Coords) : BitVec 1 :=
  let arg2 : BitVec 32 := BitVec.ofNat 32 (i 2).val
  let c0_i32_109 : BitVec 32 := 0#32
  let v172 : BitVec 1 := Scalar.cmpi .ne arg2 c0_i32_109
  let v173 : BitVec 32 := Scalar.extui v172
  let c0_i32_110 : BitVec 32 := 0#32
  let v174 : BitVec 1 := Scalar.cmpi .ne v173 c0_i32_110
  v174

def k1_off7 (v3 : BitVec 32) (k1_t3 : Fin (k1_t3_loop v3).trips) : Fin 2 → Nat :=
  let c0_i32_16 : BitVec 32 := 0#32
  let c1_i32_18 : BitVec 32 := 1#32
  let arg14 : BitVec 32 := Scf.iv c0_i32_16 c1_i32_18 k1_t3
  let c288_i32_22 : BitVec 32 := 288#32
  let v46 : BitVec 32 := Scalar.muli arg14 c288_i32_22
  let v47 : BitVec 32 := v46
  let v175 : Index := Scalar.indexCast v47
  let c0_111 : Index := 0#32
  ![v175.toNat, 0]
@[reducible] def k1_t4_loop (v3 : BitVec 32) : Scf.Loop 32 :=
  let c0_i32_16 : BitVec 32 := 0#32
  let c288_i32 : BitVec 32 := 288#32
  let v4 : BitVec 32 := Scalar.addi v3 c288_i32
  let c1_i32 : BitVec 32 := 1#32
  let v5 : BitVec 32 := Scalar.subi v4 c1_i32
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c288_i32_0 : BitVec 32 := 288#32
  let c0_i32_2 : BitVec 32 := 0#32
  let v12 : BitVec 1 := Scalar.cmpi .sgt c288_i32_0 c0_i32_2
  let v13 : BitVec 32 := Scalar.extui v12
  let c0_i32_3 : BitVec 32 := 0#32
  let v14 : BitVec 1 := Scalar.cmpi .slt c288_i32_0 c0_i32_3
  let v15 : BitVec 32 := Scalar.extui v14
  let v16 : BitVec 32 := Scalar.subi v13 v15
  let v17 : BitVec 1 := Scalar.cmpi .ne v11 v16
  let v18 : BitVec 32 := Scalar.remsi v5 c288_i32_0
  let c0_i32_4 : BitVec 32 := 0#32
  let v19 : BitVec 1 := Scalar.cmpi .ne v18 c0_i32_4
  let v20 : BitVec 1 := Scalar.andi v17 v19
  let v6 : BitVec 32 := Scalar.divsi v5 c288_i32_0
  let c1_i32_5 : BitVec 32 := 1#32
  let v21 : BitVec 32 := Scalar.subi v6 c1_i32_5
  let v22 : BitVec 32 := Scalar.select v20 v21 v6
  let v38 : BitVec 32 := Scalar.subi v22 c0_i32_16
  let c1_i32_17 : BitVec 32 := 1#32
  let v40 : BitVec 32 := Scalar.divsi v38 c1_i32_17
  let v41 : BitVec 32 := Scalar.muli v40 c1_i32_17
  let v42 : BitVec 32 := Scalar.addi c0_i32_16 v41
  let v39 : BitVec 32 := Scalar.addi c0_i32_16 v38
  let c1_i32_19 : BitVec 32 := 1#32
  ⟨v42, v39, c1_i32_19⟩
def k1_mult4 (v3 : BitVec 32) (k1_t4 : Fin (k1_t4_loop v3).trips) : BitVec 32 :=
  let c0_i32_16 : BitVec 32 := 0#32
  let c288_i32 : BitVec 32 := 288#32
  let v4 : BitVec 32 := Scalar.addi v3 c288_i32
  let c1_i32 : BitVec 32 := 1#32
  let v5 : BitVec 32 := Scalar.subi v4 c1_i32
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c288_i32_0 : BitVec 32 := 288#32
  let c0_i32_2 : BitVec 32 := 0#32
  let v12 : BitVec 1 := Scalar.cmpi .sgt c288_i32_0 c0_i32_2
  let v13 : BitVec 32 := Scalar.extui v12
  let c0_i32_3 : BitVec 32 := 0#32
  let v14 : BitVec 1 := Scalar.cmpi .slt c288_i32_0 c0_i32_3
  let v15 : BitVec 32 := Scalar.extui v14
  let v16 : BitVec 32 := Scalar.subi v13 v15
  let v17 : BitVec 1 := Scalar.cmpi .ne v11 v16
  let v18 : BitVec 32 := Scalar.remsi v5 c288_i32_0
  let c0_i32_4 : BitVec 32 := 0#32
  let v19 : BitVec 1 := Scalar.cmpi .ne v18 c0_i32_4
  let v20 : BitVec 1 := Scalar.andi v17 v19
  let v6 : BitVec 32 := Scalar.divsi v5 c288_i32_0
  let c1_i32_5 : BitVec 32 := 1#32
  let v21 : BitVec 32 := Scalar.subi v6 c1_i32_5
  let v22 : BitVec 32 := Scalar.select v20 v21 v6
  let v38 : BitVec 32 := Scalar.subi v22 c0_i32_16
  let c1_i32_17 : BitVec 32 := 1#32
  let v40 : BitVec 32 := Scalar.divsi v38 c1_i32_17
  let v41 : BitVec 32 := Scalar.muli v40 c1_i32_17
  let v42 : BitVec 32 := Scalar.addi c0_i32_16 v41
  let c1_i32_19 : BitVec 32 := 1#32
  let arg14 : BitVec 32 := Scf.iv v42 c1_i32_19 k1_t4
  let c288_i32_22 : BitVec 32 := 288#32
  let v46 : BitVec 32 := Scalar.muli arg14 c288_i32_22
  v46
def k1_off8 (v3 : BitVec 32) (k1_t4 : Fin (k1_t4_loop v3).trips) : Fin 2 → Nat :=
  let c0_i32_16 : BitVec 32 := 0#32
  let c288_i32 : BitVec 32 := 288#32
  let v4 : BitVec 32 := Scalar.addi v3 c288_i32
  let c1_i32 : BitVec 32 := 1#32
  let v5 : BitVec 32 := Scalar.subi v4 c1_i32
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c288_i32_0 : BitVec 32 := 288#32
  let c0_i32_2 : BitVec 32 := 0#32
  let v12 : BitVec 1 := Scalar.cmpi .sgt c288_i32_0 c0_i32_2
  let v13 : BitVec 32 := Scalar.extui v12
  let c0_i32_3 : BitVec 32 := 0#32
  let v14 : BitVec 1 := Scalar.cmpi .slt c288_i32_0 c0_i32_3
  let v15 : BitVec 32 := Scalar.extui v14
  let v16 : BitVec 32 := Scalar.subi v13 v15
  let v17 : BitVec 1 := Scalar.cmpi .ne v11 v16
  let v18 : BitVec 32 := Scalar.remsi v5 c288_i32_0
  let c0_i32_4 : BitVec 32 := 0#32
  let v19 : BitVec 1 := Scalar.cmpi .ne v18 c0_i32_4
  let v20 : BitVec 1 := Scalar.andi v17 v19
  let v6 : BitVec 32 := Scalar.divsi v5 c288_i32_0
  let c1_i32_5 : BitVec 32 := 1#32
  let v21 : BitVec 32 := Scalar.subi v6 c1_i32_5
  let v22 : BitVec 32 := Scalar.select v20 v21 v6
  let v38 : BitVec 32 := Scalar.subi v22 c0_i32_16
  let c1_i32_17 : BitVec 32 := 1#32
  let v40 : BitVec 32 := Scalar.divsi v38 c1_i32_17
  let v41 : BitVec 32 := Scalar.muli v40 c1_i32_17
  let v42 : BitVec 32 := Scalar.addi c0_i32_16 v41
  let c1_i32_19 : BitVec 32 := 1#32
  let arg14 : BitVec 32 := Scf.iv v42 c1_i32_19 k1_t4
  let c288_i32_22 : BitVec 32 := 288#32
  let v46 : BitVec 32 := Scalar.muli arg14 c288_i32_22
  let v47 : BitVec 32 := v46
  let v48 : Index := Scalar.indexCast v47
  let c0 : Index := 0#32
  ![v48.toNat, 0]
def k1_cond6 (i : grid1.Coords) : BitVec 1 :=
  let arg2 : BitVec 32 := BitVec.ofNat 32 (i 2).val
  let c0_i32_107 : BitVec 32 := 0#32
  let v169 : BitVec 1 := Scalar.cmpi .eq arg2 c0_i32_107
  let v170 : BitVec 32 := Scalar.extui v169
  let c0_i32_108 : BitVec 32 := 0#32
  let v171 : BitVec 1 := Scalar.cmpi .ne v170 c0_i32_108
  v171

def k1_off9 (v3 : BitVec 32) (k1_t4 : Fin (k1_t4_loop v3).trips) : Fin 2 → Nat :=
  let c0_i32_16 : BitVec 32 := 0#32
  let c288_i32 : BitVec 32 := 288#32
  let v4 : BitVec 32 := Scalar.addi v3 c288_i32
  let c1_i32 : BitVec 32 := 1#32
  let v5 : BitVec 32 := Scalar.subi v4 c1_i32
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c288_i32_0 : BitVec 32 := 288#32
  let c0_i32_2 : BitVec 32 := 0#32
  let v12 : BitVec 1 := Scalar.cmpi .sgt c288_i32_0 c0_i32_2
  let v13 : BitVec 32 := Scalar.extui v12
  let c0_i32_3 : BitVec 32 := 0#32
  let v14 : BitVec 1 := Scalar.cmpi .slt c288_i32_0 c0_i32_3
  let v15 : BitVec 32 := Scalar.extui v14
  let v16 : BitVec 32 := Scalar.subi v13 v15
  let v17 : BitVec 1 := Scalar.cmpi .ne v11 v16
  let v18 : BitVec 32 := Scalar.remsi v5 c288_i32_0
  let c0_i32_4 : BitVec 32 := 0#32
  let v19 : BitVec 1 := Scalar.cmpi .ne v18 c0_i32_4
  let v20 : BitVec 1 := Scalar.andi v17 v19
  let v6 : BitVec 32 := Scalar.divsi v5 c288_i32_0
  let c1_i32_5 : BitVec 32 := 1#32
  let v21 : BitVec 32 := Scalar.subi v6 c1_i32_5
  let v22 : BitVec 32 := Scalar.select v20 v21 v6
  let v38 : BitVec 32 := Scalar.subi v22 c0_i32_16
  let c1_i32_17 : BitVec 32 := 1#32
  let v40 : BitVec 32 := Scalar.divsi v38 c1_i32_17
  let v41 : BitVec 32 := Scalar.muli v40 c1_i32_17
  let v42 : BitVec 32 := Scalar.addi c0_i32_16 v41
  let c1_i32_19 : BitVec 32 := 1#32
  let arg14 : BitVec 32 := Scf.iv v42 c1_i32_19 k1_t4
  let c288_i32_22 : BitVec 32 := 288#32
  let v46 : BitVec 32 := Scalar.muli arg14 c288_i32_22
  let v47 : BitVec 32 := v46
  let v175 : Index := Scalar.indexCast v47
  let c0_111 : Index := 0#32
  ![v175.toNat, 0]
def k1_cond7 (i : grid1.Coords) : BitVec 1 :=
  let arg2 : BitVec 32 := BitVec.ofNat 32 (i 2).val
  let c0_i32_109 : BitVec 32 := 0#32
  let v172 : BitVec 1 := Scalar.cmpi .ne arg2 c0_i32_109
  let v173 : BitVec 32 := Scalar.extui v172
  let c0_i32_110 : BitVec 32 := 0#32
  let v174 : BitVec 1 := Scalar.cmpi .ne v173 c0_i32_110
  v174

def k1_off10 (v3 : BitVec 32) (k1_t4 : Fin (k1_t4_loop v3).trips) : Fin 2 → Nat :=
  let c0_i32_16 : BitVec 32 := 0#32
  let c288_i32 : BitVec 32 := 288#32
  let v4 : BitVec 32 := Scalar.addi v3 c288_i32
  let c1_i32 : BitVec 32 := 1#32
  let v5 : BitVec 32 := Scalar.subi v4 c1_i32
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c288_i32_0 : BitVec 32 := 288#32
  let c0_i32_2 : BitVec 32 := 0#32
  let v12 : BitVec 1 := Scalar.cmpi .sgt c288_i32_0 c0_i32_2
  let v13 : BitVec 32 := Scalar.extui v12
  let c0_i32_3 : BitVec 32 := 0#32
  let v14 : BitVec 1 := Scalar.cmpi .slt c288_i32_0 c0_i32_3
  let v15 : BitVec 32 := Scalar.extui v14
  let v16 : BitVec 32 := Scalar.subi v13 v15
  let v17 : BitVec 1 := Scalar.cmpi .ne v11 v16
  let v18 : BitVec 32 := Scalar.remsi v5 c288_i32_0
  let c0_i32_4 : BitVec 32 := 0#32
  let v19 : BitVec 1 := Scalar.cmpi .ne v18 c0_i32_4
  let v20 : BitVec 1 := Scalar.andi v17 v19
  let v6 : BitVec 32 := Scalar.divsi v5 c288_i32_0
  let c1_i32_5 : BitVec 32 := 1#32
  let v21 : BitVec 32 := Scalar.subi v6 c1_i32_5
  let v22 : BitVec 32 := Scalar.select v20 v21 v6
  let v38 : BitVec 32 := Scalar.subi v22 c0_i32_16
  let c1_i32_17 : BitVec 32 := 1#32
  let v40 : BitVec 32 := Scalar.divsi v38 c1_i32_17
  let v41 : BitVec 32 := Scalar.muli v40 c1_i32_17
  let v42 : BitVec 32 := Scalar.addi c0_i32_16 v41
  let c1_i32_19 : BitVec 32 := 1#32
  let arg14 : BitVec 32 := Scf.iv v42 c1_i32_19 k1_t4
  let c288_i32_22 : BitVec 32 := 288#32
  let v46 : BitVec 32 := Scalar.muli arg14 c288_i32_22
  let v47 : BitVec 32 := v46
  let v175 : Index := Scalar.indexCast v47
  let c0_111 : Index := 0#32
  ![v175.toNat, 0]
def k1_cond8 (i : grid1.Coords) : BitVec 1 :=
  let arg2 : BitVec 32 := BitVec.ofNat 32 (i 2).val
  let c1_i32_20 : BitVec 32 := 1#32
  let v43 : BitVec 1 := Scalar.cmpi .eq arg2 c1_i32_20
  let v44 : BitVec 32 := Scalar.extui v43
  let c0_i32_21 : BitVec 32 := 0#32
  let v45 : BitVec 1 := Scalar.cmpi .ne v44 c0_i32_21
  v45

@[reducible] def k1_t5_loop (v3 : BitVec 32) : Scf.Loop 32 :=
  let c0_i32_29 : BitVec 32 := 0#32
  let c288_i32 : BitVec 32 := 288#32
  let v4 : BitVec 32 := Scalar.addi v3 c288_i32
  let c1_i32 : BitVec 32 := 1#32
  let v5 : BitVec 32 := Scalar.subi v4 c1_i32
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c288_i32_0 : BitVec 32 := 288#32
  let c0_i32_2 : BitVec 32 := 0#32
  let v12 : BitVec 1 := Scalar.cmpi .sgt c288_i32_0 c0_i32_2
  let v13 : BitVec 32 := Scalar.extui v12
  let c0_i32_3 : BitVec 32 := 0#32
  let v14 : BitVec 1 := Scalar.cmpi .slt c288_i32_0 c0_i32_3
  let v15 : BitVec 32 := Scalar.extui v14
  let v16 : BitVec 32 := Scalar.subi v13 v15
  let v17 : BitVec 1 := Scalar.cmpi .ne v11 v16
  let v18 : BitVec 32 := Scalar.remsi v5 c288_i32_0
  let c0_i32_4 : BitVec 32 := 0#32
  let v19 : BitVec 1 := Scalar.cmpi .ne v18 c0_i32_4
  let v20 : BitVec 1 := Scalar.andi v17 v19
  let v6 : BitVec 32 := Scalar.divsi v5 c288_i32_0
  let c1_i32_5 : BitVec 32 := 1#32
  let v21 : BitVec 32 := Scalar.subi v6 c1_i32_5
  let v22 : BitVec 32 := Scalar.select v20 v21 v6
  let v61 : BitVec 32 := Scalar.subi v22 c0_i32_29
  let c1_i32_30 : BitVec 32 := 1#32
  let v63 : BitVec 32 := Scalar.divsi v61 c1_i32_30
  let v64 : BitVec 32 := Scalar.muli v63 c1_i32_30
  let v65 : BitVec 32 := Scalar.addi c0_i32_29 v64
  let c1_i32_31 : BitVec 32 := 1#32
  ⟨c0_i32_29, v65, c1_i32_31⟩
def k1_mult5 (v3 : BitVec 32) (k1_t5 : Fin (k1_t5_loop v3).trips) : BitVec 32 :=
  let c0_i32_29 : BitVec 32 := 0#32
  let c1_i32_31 : BitVec 32 := 1#32
  let arg14 : BitVec 32 := Scf.iv c0_i32_29 c1_i32_31 k1_t5
  let c288_i32_33 : BitVec 32 := 288#32
  let v66 : BitVec 32 := Scalar.muli arg14 c288_i32_33
  v66
def k1_off11 (v3 : BitVec 32) (k1_t5 : Fin (k1_t5_loop v3).trips) : Fin 2 → Nat :=
  let c0_i32_29 : BitVec 32 := 0#32
  let c1_i32_31 : BitVec 32 := 1#32
  let arg14 : BitVec 32 := Scf.iv c0_i32_29 c1_i32_31 k1_t5
  let c288_i32_33 : BitVec 32 := 288#32
  let v66 : BitVec 32 := Scalar.muli arg14 c288_i32_33
  let v67 : BitVec 32 := v66
  let v68 : Index := Scalar.indexCast v67
  let c0_34 : Index := 0#32
  ![v68.toNat, 0]
@[reducible] def k1_t6_loop (v3 : BitVec 32) : Scf.Loop 32 :=
  let c0_i32_29 : BitVec 32 := 0#32
  let c288_i32 : BitVec 32 := 288#32
  let v4 : BitVec 32 := Scalar.addi v3 c288_i32
  let c1_i32 : BitVec 32 := 1#32
  let v5 : BitVec 32 := Scalar.subi v4 c1_i32
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c288_i32_0 : BitVec 32 := 288#32
  let c0_i32_2 : BitVec 32 := 0#32
  let v12 : BitVec 1 := Scalar.cmpi .sgt c288_i32_0 c0_i32_2
  let v13 : BitVec 32 := Scalar.extui v12
  let c0_i32_3 : BitVec 32 := 0#32
  let v14 : BitVec 1 := Scalar.cmpi .slt c288_i32_0 c0_i32_3
  let v15 : BitVec 32 := Scalar.extui v14
  let v16 : BitVec 32 := Scalar.subi v13 v15
  let v17 : BitVec 1 := Scalar.cmpi .ne v11 v16
  let v18 : BitVec 32 := Scalar.remsi v5 c288_i32_0
  let c0_i32_4 : BitVec 32 := 0#32
  let v19 : BitVec 1 := Scalar.cmpi .ne v18 c0_i32_4
  let v20 : BitVec 1 := Scalar.andi v17 v19
  let v6 : BitVec 32 := Scalar.divsi v5 c288_i32_0
  let c1_i32_5 : BitVec 32 := 1#32
  let v21 : BitVec 32 := Scalar.subi v6 c1_i32_5
  let v22 : BitVec 32 := Scalar.select v20 v21 v6
  let v61 : BitVec 32 := Scalar.subi v22 c0_i32_29
  let c1_i32_30 : BitVec 32 := 1#32
  let v63 : BitVec 32 := Scalar.divsi v61 c1_i32_30
  let v64 : BitVec 32 := Scalar.muli v63 c1_i32_30
  let v65 : BitVec 32 := Scalar.addi c0_i32_29 v64
  let v62 : BitVec 32 := Scalar.addi c0_i32_29 v61
  let c1_i32_32 : BitVec 32 := 1#32
  ⟨v65, v62, c1_i32_32⟩
def k1_mult6 (v3 : BitVec 32) (k1_t6 : Fin (k1_t6_loop v3).trips) : BitVec 32 :=
  let c0_i32_29 : BitVec 32 := 0#32
  let c288_i32 : BitVec 32 := 288#32
  let v4 : BitVec 32 := Scalar.addi v3 c288_i32
  let c1_i32 : BitVec 32 := 1#32
  let v5 : BitVec 32 := Scalar.subi v4 c1_i32
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c288_i32_0 : BitVec 32 := 288#32
  let c0_i32_2 : BitVec 32 := 0#32
  let v12 : BitVec 1 := Scalar.cmpi .sgt c288_i32_0 c0_i32_2
  let v13 : BitVec 32 := Scalar.extui v12
  let c0_i32_3 : BitVec 32 := 0#32
  let v14 : BitVec 1 := Scalar.cmpi .slt c288_i32_0 c0_i32_3
  let v15 : BitVec 32 := Scalar.extui v14
  let v16 : BitVec 32 := Scalar.subi v13 v15
  let v17 : BitVec 1 := Scalar.cmpi .ne v11 v16
  let v18 : BitVec 32 := Scalar.remsi v5 c288_i32_0
  let c0_i32_4 : BitVec 32 := 0#32
  let v19 : BitVec 1 := Scalar.cmpi .ne v18 c0_i32_4
  let v20 : BitVec 1 := Scalar.andi v17 v19
  let v6 : BitVec 32 := Scalar.divsi v5 c288_i32_0
  let c1_i32_5 : BitVec 32 := 1#32
  let v21 : BitVec 32 := Scalar.subi v6 c1_i32_5
  let v22 : BitVec 32 := Scalar.select v20 v21 v6
  let v61 : BitVec 32 := Scalar.subi v22 c0_i32_29
  let c1_i32_30 : BitVec 32 := 1#32
  let v63 : BitVec 32 := Scalar.divsi v61 c1_i32_30
  let v64 : BitVec 32 := Scalar.muli v63 c1_i32_30
  let v65 : BitVec 32 := Scalar.addi c0_i32_29 v64
  let c1_i32_32 : BitVec 32 := 1#32
  let arg14 : BitVec 32 := Scf.iv v65 c1_i32_32 k1_t6
  let c288_i32_33 : BitVec 32 := 288#32
  let v66 : BitVec 32 := Scalar.muli arg14 c288_i32_33
  v66
def k1_off12 (v3 : BitVec 32) (k1_t6 : Fin (k1_t6_loop v3).trips) : Fin 2 → Nat :=
  let c0_i32_29 : BitVec 32 := 0#32
  let c288_i32 : BitVec 32 := 288#32
  let v4 : BitVec 32 := Scalar.addi v3 c288_i32
  let c1_i32 : BitVec 32 := 1#32
  let v5 : BitVec 32 := Scalar.subi v4 c1_i32
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c288_i32_0 : BitVec 32 := 288#32
  let c0_i32_2 : BitVec 32 := 0#32
  let v12 : BitVec 1 := Scalar.cmpi .sgt c288_i32_0 c0_i32_2
  let v13 : BitVec 32 := Scalar.extui v12
  let c0_i32_3 : BitVec 32 := 0#32
  let v14 : BitVec 1 := Scalar.cmpi .slt c288_i32_0 c0_i32_3
  let v15 : BitVec 32 := Scalar.extui v14
  let v16 : BitVec 32 := Scalar.subi v13 v15
  let v17 : BitVec 1 := Scalar.cmpi .ne v11 v16
  let v18 : BitVec 32 := Scalar.remsi v5 c288_i32_0
  let c0_i32_4 : BitVec 32 := 0#32
  let v19 : BitVec 1 := Scalar.cmpi .ne v18 c0_i32_4
  let v20 : BitVec 1 := Scalar.andi v17 v19
  let v6 : BitVec 32 := Scalar.divsi v5 c288_i32_0
  let c1_i32_5 : BitVec 32 := 1#32
  let v21 : BitVec 32 := Scalar.subi v6 c1_i32_5
  let v22 : BitVec 32 := Scalar.select v20 v21 v6
  let v61 : BitVec 32 := Scalar.subi v22 c0_i32_29
  let c1_i32_30 : BitVec 32 := 1#32
  let v63 : BitVec 32 := Scalar.divsi v61 c1_i32_30
  let v64 : BitVec 32 := Scalar.muli v63 c1_i32_30
  let v65 : BitVec 32 := Scalar.addi c0_i32_29 v64
  let c1_i32_32 : BitVec 32 := 1#32
  let arg14 : BitVec 32 := Scf.iv v65 c1_i32_32 k1_t6
  let c288_i32_33 : BitVec 32 := 288#32
  let v66 : BitVec 32 := Scalar.muli arg14 c288_i32_33
  let v67 : BitVec 32 := v66
  let v68 : Index := Scalar.indexCast v67
  let c0_34 : Index := 0#32
  ![v68.toNat, 0]

def k1_chk1 (i : grid1.Coords) (v3 : BitVec 32) : Prop :=
  (∀ (k1_h3 : k1_cond3 i = 1#1), (k1_t1_loop v3).OK) ∧
  (∀ k1_t1 : Fin (k1_t1_loop v3).trips, ∀ (k1_h3 : k1_cond3 i = 1#1), 288 ∣ (k1_mult1 v3 k1_t1).toNat) ∧
  (∀ k1_t1 : Fin (k1_t1_loop v3).trips, ∀ (k1_h3 : k1_cond3 i = 1#1), ∀ a, (k1_off3 v3 k1_t1) a + S288x1024.size a ≤ S1248x1024.size a) ∧
  (∀ k1_t1 : Fin (k1_t1_loop v3).trips, ∀ (k1_h3 : k1_cond3 i = 1#1), ∀ (hinb : ∀ a, (k1_off3 v3 k1_t1) a + S288x1024.size a ≤ S1248x1024.size a), (Rect.unit (s := S1248x1024) (k1_off3 v3 k1_t1) S288x1024.size hinb).PackedRows (EltTy.packing .bf16)) ∧
  (∀ (k1_h3 : k1_cond3 i = 1#1), (k1_t2_loop v3).OK) ∧
  (∀ k1_t2 : Fin (k1_t2_loop v3).trips, ∀ (k1_h3 : k1_cond3 i = 1#1), 288 ∣ (k1_mult2 v3 k1_t2).toNat) ∧
  (∀ k1_t2 : Fin (k1_t2_loop v3).trips, ∀ (k1_h3 : k1_cond3 i = 1#1), ∀ a, (k1_off4 v3 k1_t2) a + S288x1024.size a ≤ S1248x1024.size a) ∧
  (∀ k1_t2 : Fin (k1_t2_loop v3).trips, ∀ (k1_h3 : k1_cond3 i = 1#1), ∀ (hinb : ∀ a, (k1_off4 v3 k1_t2) a + S288x1024.size a ≤ S1248x1024.size a), (Rect.unit (s := S1248x1024) (k1_off4 v3 k1_t2) S288x1024.size hinb).PackedRows (EltTy.packing .bf16)) ∧
  ((k1_t3_loop v3).OK) ∧
  (∀ k1_t3 : Fin (k1_t3_loop v3).trips, 288 ∣ (k1_mult3 v3 k1_t3).toNat) ∧
  (∀ k1_t3 : Fin (k1_t3_loop v3).trips, ∀ a, (k1_off5 v3 k1_t3) a + S288x1024.size a ≤ S1248x1024.size a) ∧
  (∀ k1_t3 : Fin (k1_t3_loop v3).trips, ∀ (k1_h4 : k1_cond4 i = 1#1), ∀ a, (k1_off6 v3 k1_t3) a + S288x1024.size a ≤ S1248x1024.size a) ∧
  (∀ k1_t3 : Fin (k1_t3_loop v3).trips, ∀ (k1_h5 : k1_cond5 i = 1#1), ∀ a, (k1_off7 v3 k1_t3) a + S288x1024.size a ≤ S1248x1024.size a) ∧
  ((k1_t4_loop v3).OK) ∧
  (∀ k1_t4 : Fin (k1_t4_loop v3).trips, 288 ∣ (k1_mult4 v3 k1_t4).toNat) ∧
  (∀ k1_t4 : Fin (k1_t4_loop v3).trips, ∀ a, (k1_off8 v3 k1_t4) a + S288x1024.size a ≤ S1248x1024.size a) ∧
  (∀ k1_t4 : Fin (k1_t4_loop v3).trips, ∀ (k1_h6 : k1_cond6 i = 1#1), ∀ a, (k1_off9 v3 k1_t4) a + S288x1024.size a ≤ S1248x1024.size a) ∧
  (∀ k1_t4 : Fin (k1_t4_loop v3).trips, ∀ (k1_h7 : k1_cond7 i = 1#1), ∀ a, (k1_off10 v3 k1_t4) a + S288x1024.size a ≤ S1248x1024.size a) ∧
  (∀ (k1_h8 : k1_cond8 i = 1#1), (k1_t5_loop v3).OK) ∧
  (∀ k1_t5 : Fin (k1_t5_loop v3).trips, ∀ (k1_h8 : k1_cond8 i = 1#1), 288 ∣ (k1_mult5 v3 k1_t5).toNat) ∧
  (∀ k1_t5 : Fin (k1_t5_loop v3).trips, ∀ (k1_h8 : k1_cond8 i = 1#1), ∀ a, (k1_off11 v3 k1_t5) a + S384x1024.size a ≤ S1248x1024.size a) ∧
  (∀ (k1_h8 : k1_cond8 i = 1#1), (k1_t6_loop v3).OK) ∧
  (∀ k1_t6 : Fin (k1_t6_loop v3).trips, ∀ (k1_h8 : k1_cond8 i = 1#1), 288 ∣ (k1_mult6 v3 k1_t6).toNat) ∧
  (∀ k1_t6 : Fin (k1_t6_loop v3).trips, ∀ (k1_h8 : k1_cond8 i = 1#1), ∀ a, (k1_off12 v3 k1_t6) a + S384x1024.size a ≤ S1248x1024.size a)
theorem k1_t1_ok : ∀ (i : grid1.Coords) (v3 : BitVec 32) (k1_hw1 : k1_chk1 i v3), ∀ (k1_h3 : k1_cond3 i = 1#1), (k1_t1_loop v3).OK := fun i v3 k1_hw1 k1_h3 => k1_hw1.1 k1_h3
theorem k1_mult1_dvd : ∀ (i : grid1.Coords) (v3 : BitVec 32) (k1_hw1 : k1_chk1 i v3) (k1_t1 : Fin (k1_t1_loop v3).trips), ∀ (k1_h3 : k1_cond3 i = 1#1), 288 ∣ (k1_mult1 v3 k1_t1).toNat := fun i v3 k1_hw1 k1_t1 k1_h3 => k1_hw1.2.1 k1_t1 k1_h3
theorem k1_off3_inb : ∀ (i : grid1.Coords) (v3 : BitVec 32) (k1_hw1 : k1_chk1 i v3) (k1_t1 : Fin (k1_t1_loop v3).trips), ∀ (k1_h3 : k1_cond3 i = 1#1), ∀ a, (k1_off3 v3 k1_t1) a + S288x1024.size a ≤ S1248x1024.size a := fun i v3 k1_hw1 k1_t1 k1_h3 => k1_hw1.2.2.1 k1_t1 k1_h3
theorem k1_off3_packedbf16 : ∀ (i : grid1.Coords) (v3 : BitVec 32) (k1_hw1 : k1_chk1 i v3) (k1_t1 : Fin (k1_t1_loop v3).trips), ∀ (k1_h3 : k1_cond3 i = 1#1), (Rect.unit (s := S1248x1024) (k1_off3 v3 k1_t1) S288x1024.size (k1_off3_inb i v3 k1_hw1 k1_t1 k1_h3)).PackedRows (EltTy.packing .bf16) := fun i v3 k1_hw1 k1_t1 k1_h3 => k1_hw1.2.2.2.1 k1_t1 k1_h3 (k1_off3_inb i v3 k1_hw1 k1_t1 k1_h3)
theorem k1_t2_ok : ∀ (i : grid1.Coords) (v3 : BitVec 32) (k1_hw1 : k1_chk1 i v3), ∀ (k1_h3 : k1_cond3 i = 1#1), (k1_t2_loop v3).OK := fun i v3 k1_hw1 k1_h3 => k1_hw1.2.2.2.2.1 k1_h3
theorem k1_mult2_dvd : ∀ (i : grid1.Coords) (v3 : BitVec 32) (k1_hw1 : k1_chk1 i v3) (k1_t2 : Fin (k1_t2_loop v3).trips), ∀ (k1_h3 : k1_cond3 i = 1#1), 288 ∣ (k1_mult2 v3 k1_t2).toNat := fun i v3 k1_hw1 k1_t2 k1_h3 => k1_hw1.2.2.2.2.2.1 k1_t2 k1_h3
theorem k1_off4_inb : ∀ (i : grid1.Coords) (v3 : BitVec 32) (k1_hw1 : k1_chk1 i v3) (k1_t2 : Fin (k1_t2_loop v3).trips), ∀ (k1_h3 : k1_cond3 i = 1#1), ∀ a, (k1_off4 v3 k1_t2) a + S288x1024.size a ≤ S1248x1024.size a := fun i v3 k1_hw1 k1_t2 k1_h3 => k1_hw1.2.2.2.2.2.2.1 k1_t2 k1_h3
theorem k1_off4_packedbf16 : ∀ (i : grid1.Coords) (v3 : BitVec 32) (k1_hw1 : k1_chk1 i v3) (k1_t2 : Fin (k1_t2_loop v3).trips), ∀ (k1_h3 : k1_cond3 i = 1#1), (Rect.unit (s := S1248x1024) (k1_off4 v3 k1_t2) S288x1024.size (k1_off4_inb i v3 k1_hw1 k1_t2 k1_h3)).PackedRows (EltTy.packing .bf16) := fun i v3 k1_hw1 k1_t2 k1_h3 => k1_hw1.2.2.2.2.2.2.2.1 k1_t2 k1_h3 (k1_off4_inb i v3 k1_hw1 k1_t2 k1_h3)
theorem k1_t3_ok : ∀ (i : grid1.Coords) (v3 : BitVec 32) (k1_hw1 : k1_chk1 i v3), (k1_t3_loop v3).OK := fun i v3 k1_hw1 => k1_hw1.2.2.2.2.2.2.2.2.1
theorem k1_mult3_dvd : ∀ (i : grid1.Coords) (v3 : BitVec 32) (k1_hw1 : k1_chk1 i v3) (k1_t3 : Fin (k1_t3_loop v3).trips), 288 ∣ (k1_mult3 v3 k1_t3).toNat := fun i v3 k1_hw1 k1_t3 => k1_hw1.2.2.2.2.2.2.2.2.2.1 k1_t3
theorem k1_off5_inb : ∀ (i : grid1.Coords) (v3 : BitVec 32) (k1_hw1 : k1_chk1 i v3) (k1_t3 : Fin (k1_t3_loop v3).trips), ∀ a, (k1_off5 v3 k1_t3) a + S288x1024.size a ≤ S1248x1024.size a := fun i v3 k1_hw1 k1_t3 => k1_hw1.2.2.2.2.2.2.2.2.2.2.1 k1_t3
theorem k1_off6_inb : ∀ (i : grid1.Coords) (v3 : BitVec 32) (k1_hw1 : k1_chk1 i v3) (k1_t3 : Fin (k1_t3_loop v3).trips), ∀ (k1_h4 : k1_cond4 i = 1#1), ∀ a, (k1_off6 v3 k1_t3) a + S288x1024.size a ≤ S1248x1024.size a := fun i v3 k1_hw1 k1_t3 k1_h4 => k1_hw1.2.2.2.2.2.2.2.2.2.2.2.1 k1_t3 k1_h4
theorem k1_off7_inb : ∀ (i : grid1.Coords) (v3 : BitVec 32) (k1_hw1 : k1_chk1 i v3) (k1_t3 : Fin (k1_t3_loop v3).trips), ∀ (k1_h5 : k1_cond5 i = 1#1), ∀ a, (k1_off7 v3 k1_t3) a + S288x1024.size a ≤ S1248x1024.size a := fun i v3 k1_hw1 k1_t3 k1_h5 => k1_hw1.2.2.2.2.2.2.2.2.2.2.2.2.1 k1_t3 k1_h5
theorem k1_t4_ok : ∀ (i : grid1.Coords) (v3 : BitVec 32) (k1_hw1 : k1_chk1 i v3), (k1_t4_loop v3).OK := fun i v3 k1_hw1 => k1_hw1.2.2.2.2.2.2.2.2.2.2.2.2.2.1
theorem k1_mult4_dvd : ∀ (i : grid1.Coords) (v3 : BitVec 32) (k1_hw1 : k1_chk1 i v3) (k1_t4 : Fin (k1_t4_loop v3).trips), 288 ∣ (k1_mult4 v3 k1_t4).toNat := fun i v3 k1_hw1 k1_t4 => k1_hw1.2.2.2.2.2.2.2.2.2.2.2.2.2.2.1 k1_t4
theorem k1_off8_inb : ∀ (i : grid1.Coords) (v3 : BitVec 32) (k1_hw1 : k1_chk1 i v3) (k1_t4 : Fin (k1_t4_loop v3).trips), ∀ a, (k1_off8 v3 k1_t4) a + S288x1024.size a ≤ S1248x1024.size a := fun i v3 k1_hw1 k1_t4 => k1_hw1.2.2.2.2.2.2.2.2.2.2.2.2.2.2.2.1 k1_t4
theorem k1_off9_inb : ∀ (i : grid1.Coords) (v3 : BitVec 32) (k1_hw1 : k1_chk1 i v3) (k1_t4 : Fin (k1_t4_loop v3).trips), ∀ (k1_h6 : k1_cond6 i = 1#1), ∀ a, (k1_off9 v3 k1_t4) a + S288x1024.size a ≤ S1248x1024.size a := fun i v3 k1_hw1 k1_t4 k1_h6 => k1_hw1.2.2.2.2.2.2.2.2.2.2.2.2.2.2.2.2.1 k1_t4 k1_h6
theorem k1_off10_inb : ∀ (i : grid1.Coords) (v3 : BitVec 32) (k1_hw1 : k1_chk1 i v3) (k1_t4 : Fin (k1_t4_loop v3).trips), ∀ (k1_h7 : k1_cond7 i = 1#1), ∀ a, (k1_off10 v3 k1_t4) a + S288x1024.size a ≤ S1248x1024.size a := fun i v3 k1_hw1 k1_t4 k1_h7 => k1_hw1.2.2.2.2.2.2.2.2.2.2.2.2.2.2.2.2.2.1 k1_t4 k1_h7
theorem k1_t5_ok : ∀ (i : grid1.Coords) (v3 : BitVec 32) (k1_hw1 : k1_chk1 i v3), ∀ (k1_h8 : k1_cond8 i = 1#1), (k1_t5_loop v3).OK := fun i v3 k1_hw1 k1_h8 => k1_hw1.2.2.2.2.2.2.2.2.2.2.2.2.2.2.2.2.2.2.1 k1_h8
theorem k1_mult5_dvd : ∀ (i : grid1.Coords) (v3 : BitVec 32) (k1_hw1 : k1_chk1 i v3) (k1_t5 : Fin (k1_t5_loop v3).trips), ∀ (k1_h8 : k1_cond8 i = 1#1), 288 ∣ (k1_mult5 v3 k1_t5).toNat := fun i v3 k1_hw1 k1_t5 k1_h8 => k1_hw1.2.2.2.2.2.2.2.2.2.2.2.2.2.2.2.2.2.2.2.1 k1_t5 k1_h8
theorem k1_off11_inb : ∀ (i : grid1.Coords) (v3 : BitVec 32) (k1_hw1 : k1_chk1 i v3) (k1_t5 : Fin (k1_t5_loop v3).trips), ∀ (k1_h8 : k1_cond8 i = 1#1), ∀ a, (k1_off11 v3 k1_t5) a + S384x1024.size a ≤ S1248x1024.size a := fun i v3 k1_hw1 k1_t5 k1_h8 => k1_hw1.2.2.2.2.2.2.2.2.2.2.2.2.2.2.2.2.2.2.2.2.1 k1_t5 k1_h8
theorem k1_t6_ok : ∀ (i : grid1.Coords) (v3 : BitVec 32) (k1_hw1 : k1_chk1 i v3), ∀ (k1_h8 : k1_cond8 i = 1#1), (k1_t6_loop v3).OK := fun i v3 k1_hw1 k1_h8 => k1_hw1.2.2.2.2.2.2.2.2.2.2.2.2.2.2.2.2.2.2.2.2.2.1 k1_h8
theorem k1_mult6_dvd : ∀ (i : grid1.Coords) (v3 : BitVec 32) (k1_hw1 : k1_chk1 i v3) (k1_t6 : Fin (k1_t6_loop v3).trips), ∀ (k1_h8 : k1_cond8 i = 1#1), 288 ∣ (k1_mult6 v3 k1_t6).toNat := fun i v3 k1_hw1 k1_t6 k1_h8 => k1_hw1.2.2.2.2.2.2.2.2.2.2.2.2.2.2.2.2.2.2.2.2.2.2.1 k1_t6 k1_h8
theorem k1_off12_inb : ∀ (i : grid1.Coords) (v3 : BitVec 32) (k1_hw1 : k1_chk1 i v3) (k1_t6 : Fin (k1_t6_loop v3).trips), ∀ (k1_h8 : k1_cond8 i = 1#1), ∀ a, (k1_off12 v3 k1_t6) a + S384x1024.size a ≤ S1248x1024.size a := fun i v3 k1_hw1 k1_t6 k1_h8 => k1_hw1.2.2.2.2.2.2.2.2.2.2.2.2.2.2.2.2.2.2.2.2.2.2.2 k1_t6 k1_h8

def k1_cond1 (i : grid1.Coords) : BitVec 1 :=
  let arg1 : BitVec 32 := BitVec.ofNat 32 (i 1).val
  let c0_i32_6 : BitVec 32 := 0#32
  let v23 : BitVec 1 := Scalar.cmpi .eq arg1 c0_i32_6
  let arg2 : BitVec 32 := BitVec.ofNat 32 (i 2).val
  let c0_i32_7 : BitVec 32 := 0#32
  let v24 : BitVec 1 := Scalar.cmpi .eq arg2 c0_i32_7
  let v25 : BitVec 1 := Scalar.andi v23 v24
  let v26 : BitVec 32 := Scalar.extui v25
  let c0_i32_8 : BitVec 32 := 0#32
  let v27 : BitVec 1 := Scalar.cmpi .ne v26 c0_i32_8
  v27

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc1_transform_4 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc1_transform_5 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc1_transform_6 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc1_transform_7 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, false]

abbrev stage1_1 : Fin 2 → Memref sig .tc .vmem S8x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, false]

abbrev stage1_2 : Fin 2 → Memref sig .tc .vmem S1024x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, false]

abbrev stage1_3 : Fin 2 → Memref sig .tc .vmem S1024x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false, false]

abbrev stage1_4 : Fin 2 → Memref sig .tc .vmem S1x1024x1408 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true, true]

abbrev stage1_5 : Fin 2 → Memref sig .tc .vmem S1x1024x1408 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![false, true, true]

abbrev stage1_6 : Fin 2 → Memref sig .tc .vmem S1x1408x1024 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![false, true, true]

abbrev stage1_7 : Fin 2 → Memref sig .tc .vmem S1024x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false, false]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1024x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x1024 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S1024x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]
-- ==== ReferenceIdeal.lean ====
abbrev S16384x1024 : Shape := ⟨2, ![16384, 1024]⟩
abbrev S1024x8 : Shape := ⟨2, ![1024, 8]⟩
abbrev S8x1024x2816 : Shape := ⟨3, ![8, 1024, 2816]⟩
abbrev S8x2816x1024 : Shape := ⟨3, ![8, 2816, 1024]⟩
abbrev S1024 : Shape := ⟨1, ![1024]⟩
abbrev S16384x8 : Shape := ⟨2, ![16384, 8]⟩
abbrev S16384x2 : Shape := ⟨2, ![16384, 2]⟩
abbrev S_ : Shape := ⟨0, ![]⟩
abbrev S16384 : Shape := ⟨1, ![16384]⟩
abbrev S16384x1 : Shape := ⟨2, ![16384, 1]⟩
abbrev S16384x2x1 : Shape := ⟨3, ![16384, 2, 1]⟩
abbrev S1x1x8 : Shape := ⟨3, ![1, 1, 8]⟩
abbrev S16384x2x8 : Shape := ⟨3, ![16384, 2, 8]⟩
abbrev S1x1024x2816 : Shape := ⟨3, ![1, 1024, 2816]⟩
abbrev S1024x2816 : Shape := ⟨2, ![1024, 2816]⟩
abbrev S16384x2816 : Shape := ⟨2, ![16384, 2816]⟩
abbrev S1x2816x1024 : Shape := ⟨3, ![1, 2816, 1024]⟩
abbrev S2816x1024 : Shape := ⟨2, ![2816, 1024]⟩
abbrev S1x1024 : Shape := ⟨2, ![1, 1024]⟩

abbrev nBuf : Space → Nat
  | .hbm => 252
  | .vmem => 0
  | .smem => 0
  | _ => 0

abbrev hbmTy0_0 (i : Nat) : BufTy := match i % 128 with
  | 0 => ⟨S16384x1024, .f32⟩
  | 1 => ⟨S1024x8, .f32⟩
  | 2 => ⟨S8x1024x2816, .f32⟩
  | 3 => ⟨S8x1024x2816, .f32⟩
  | 4 => ⟨S8x2816x1024, .f32⟩
  | 5 => ⟨S1024, .f32⟩
  | 6 => ⟨S1024, .f32⟩
  | 7 => ⟨S16384x8, .f32⟩
  | 8 => ⟨S16384x2, .f32⟩
  | 9 => ⟨S16384x2, .i32⟩
  | 10 => ⟨S_, .f32⟩
  | 11 => ⟨S16384, .f32⟩
  | 12 => ⟨S_, .f32⟩
  | 13 => ⟨S16384, .f32⟩
  | 14 => ⟨S16384, .f32⟩
  | 15 => ⟨S16384x1, .f32⟩
  | 16 => ⟨S16384x2, .f32⟩
  | 17 => ⟨S16384x2, .f32⟩
  | 18 => ⟨S16384x2, .f32⟩
  | 19 => ⟨S_, .f32⟩
  | 20 => ⟨S16384, .f32⟩
  | 21 => ⟨S16384x1, .f32⟩
  | 22 => ⟨S16384x2, .f32⟩
  | 23 => ⟨S16384x2, .f32⟩
  | 24 => ⟨S16384x2x1, .i32⟩
  | 25 => ⟨S1x1x8, .i32⟩
  | 26 => ⟨S16384x2x8, .i32⟩
  | 27 => ⟨S16384x2x8, .i32⟩
  | 28 => ⟨S16384x2x8, .i1⟩
  | 29 => ⟨S16384x2x8, .f32⟩
  | 30 => ⟨S16384x2x1, .f32⟩
  | 31 => ⟨S16384x2x8, .f32⟩
  | 32 => ⟨S16384x2x8, .f32⟩
  | 33 => ⟨S_, .f32⟩
  | 34 => ⟨S16384x8, .f32⟩
  | 35 => ⟨S_, .f32⟩
  | 36 => ⟨S16384x1024, .f32⟩
  | 37 => ⟨S16384x1, .f32⟩
  | 38 => ⟨S1x1024x2816, .f32⟩
  | 39 => ⟨S1024x2816, .f32⟩
  | 40 => ⟨S16384x2816, .f32⟩
  | 41 => ⟨S16384x2816, .f32⟩
  | 42 => ⟨S16384x2816, .f32⟩
  | 43 => ⟨S_, .f32⟩
  | 44 => ⟨S16384x2816, .f32⟩
  | 45 => ⟨S16384x2816, .f32⟩
  | 46 => ⟨S_, .f32⟩
  | 47 => ⟨S16384x2816, .f32⟩
  | 48 => ⟨S16384x2816, .f32⟩
  | 49 => ⟨S16384x2816, .f32⟩
  | 50 => ⟨S1x1024x2816, .f32⟩
  | 51 => ⟨S1024x2816, .f32⟩
  | 52 => ⟨S16384x2816, .f32⟩
  | 53 => ⟨S16384x2816, .f32⟩
  | 54 => ⟨S1x2816x1024, .f32⟩
  | 55 => ⟨S2816x1024, .f32⟩
  | 56 => ⟨S16384x1024, .f32⟩
  | 57 => ⟨S16384x1024, .f32⟩
  | 58 => ⟨S16384x1024, .f32⟩
  | 59 => ⟨S16384x1024, .f32⟩
  | 60 => ⟨S16384x1, .f32⟩
  | 61 => ⟨S1x1024x2816, .f32⟩
  | 62 => ⟨S1024x2816, .f32⟩
  | 63 => ⟨S16384x2816, .f32⟩
  | 64 => ⟨S16384x2816, .f32⟩
  | 65 => ⟨S16384x2816, .f32⟩
  | 66 => ⟨S_, .f32⟩
  | 67 => ⟨S16384x2816, .f32⟩
  | 68 => ⟨S16384x2816, .f32⟩
  | 69 => ⟨S_, .f32⟩
  | 70 => ⟨S16384x2816, .f32⟩
  | 71 => ⟨S16384x2816, .f32⟩
  | 72 => ⟨S16384x2816, .f32⟩
  | 73 => ⟨S1x1024x2816, .f32⟩
  | 74 => ⟨S1024x2816, .f32⟩
  | 75 => ⟨S16384x2816, .f32⟩
  | 76 => ⟨S16384x2816, .f32⟩
  | 77 => ⟨S1x2816x1024, .f32⟩
  | 78 => ⟨S2816x1024, .f32⟩
  | 79 => ⟨S16384x1024, .f32⟩
  | 80 => ⟨S16384x1024, .f32⟩
  | 81 => ⟨S16384x1024, .f32⟩
  | 82 => ⟨S16384x1024, .f32⟩
  | 83 => ⟨S16384x1, .f32⟩
  | 84 => ⟨S1x1024x2816, .f32⟩
  | 85 => ⟨S1024x2816, .f32⟩
  | 86 => ⟨S16384x2816, .f32⟩
  | 87 => ⟨S16384x2816, .f32⟩
  | 88 => ⟨S16384x2816, .f32⟩
  | 89 => ⟨S_, .f32⟩
  | 90 => ⟨S16384x2816, .f32⟩
  | 91 => ⟨S16384x2816, .f32⟩
  | 92 => ⟨S_, .f32⟩
  | 93 => ⟨S16384x2816, .f32⟩
  | 94 => ⟨S16384x2816, .f32⟩
  | 95 => ⟨S16384x2816, .f32⟩
  | 96 => ⟨S1x1024x2816, .f32⟩
  | 97 => ⟨S1024x2816, .f32⟩
  | 98 => ⟨S16384x2816, .f32⟩
  | 99 => ⟨S16384x2816, .f32⟩
  | 100 => ⟨S1x2816x1024, .f32⟩
  | 101 => ⟨S2816x1024, .f32⟩
  | 102 => ⟨S16384x1024, .f32⟩
  | 103 => ⟨S16384x1024, .f32⟩
  | 104 => ⟨S16384x1024, .f32⟩
  | 105 => ⟨S16384x1024, .f32⟩
  | 106 => ⟨S16384x1, .f32⟩
  | 107 => ⟨S1x1024x2816, .f32⟩
  | 108 => ⟨S1024x2816, .f32⟩
  | 109 => ⟨S16384x2816, .f32⟩
  | 110 => ⟨S16384x2816, .f32⟩
  | 111 => ⟨S16384x2816, .f32⟩
  | 112 => ⟨S_, .f32⟩
  | 113 => ⟨S16384x2816, .f32⟩
  | 114 => ⟨S16384x2816, .f32⟩
  | 115 => ⟨S_, .f32⟩
  | 116 => ⟨S16384x2816, .f32⟩
  | 117 => ⟨S16384x2816, .f32⟩
  | 118 => ⟨S16384x2816, .f32⟩
  | 119 => ⟨S1x1024x2816, .f32⟩
  | 120 => ⟨S1024x2816, .f32⟩
  | 121 => ⟨S16384x2816, .f32⟩
  | 122 => ⟨S16384x2816, .f32⟩
  | 123 => ⟨S1x2816x1024, .f32⟩
  | 124 => ⟨S2816x1024, .f32⟩
  | 125 => ⟨S16384x1024, .f32⟩
  | 126 => ⟨S16384x1024, .f32⟩
  | 127 => ⟨S16384x1024, .f32⟩
  | _ => ⟨S16384x1024, .f32⟩

abbrev hbmTy0_1 (i : Nat) : BufTy := match i % 128 with
  | 0 => ⟨S16384x1024, .f32⟩
  | 1 => ⟨S16384x1, .f32⟩
  | 2 => ⟨S1x1024x2816, .f32⟩
  | 3 => ⟨S1024x2816, .f32⟩
  | 4 => ⟨S16384x2816, .f32⟩
  | 5 => ⟨S16384x2816, .f32⟩
  | 6 => ⟨S16384x2816, .f32⟩
  | 7 => ⟨S_, .f32⟩
  | 8 => ⟨S16384x2816, .f32⟩
  | 9 => ⟨S16384x2816, .f32⟩
  | 10 => ⟨S_, .f32⟩
  | 11 => ⟨S16384x2816, .f32⟩
  | 12 => ⟨S16384x2816, .f32⟩
  | 13 => ⟨S16384x2816, .f32⟩
  | 14 => ⟨S1x1024x2816, .f32⟩
  | 15 => ⟨S1024x2816, .f32⟩
  | 16 => ⟨S16384x2816, .f32⟩
  | 17 => ⟨S16384x2816, .f32⟩
  | 18 => ⟨S1x2816x1024, .f32⟩
  | 19 => ⟨S2816x1024, .f32⟩
  | 20 => ⟨S16384x1024, .f32⟩
  | 21 => ⟨S16384x1024, .f32⟩
  | 22 => ⟨S16384x1024, .f32⟩
  | 23 => ⟨S16384x1024, .f32⟩
  | 24 => ⟨S16384x1, .f32⟩
  | 25 => ⟨S1x1024x2816, .f32⟩
  | 26 => ⟨S1024x2816, .f32⟩
  | 27 => ⟨S16384x2816, .f32⟩
  | 28 => ⟨S16384x2816, .f32⟩
  | 29 => ⟨S16384x2816, .f32⟩
  | 30 => ⟨S_, .f32⟩
  | 31 => ⟨S16384x2816, .f32⟩
  | 32 => ⟨S16384x2816, .f32⟩
  | 33 => ⟨S_, .f32⟩
  | 34 => ⟨S16384x2816, .f32⟩
  | 35 => ⟨S16384x2816, .f32⟩
  | 36 => ⟨S16384x2816, .f32⟩
  | 37 => ⟨S1x1024x2816, .f32⟩
  | 38 => ⟨S1024x2816, .f32⟩
  | 39 => ⟨S16384x2816, .f32⟩
  | 40 => ⟨S16384x2816, .f32⟩
  | 41 => ⟨S1x2816x1024, .f32⟩
  | 42 => ⟨S2816x1024, .f32⟩
  | 43 => ⟨S16384x1024, .f32⟩
  | 44 => ⟨S16384x1024, .f32⟩
  | 45 => ⟨S16384x1024, .f32⟩
  | 46 => ⟨S16384x1024, .f32⟩
  | 47 => ⟨S16384x1, .f32⟩
  | 48 => ⟨S1x1024x2816, .f32⟩
  | 49 => ⟨S1024x2816, .f32⟩
  | 50 => ⟨S16384x2816, .f32⟩
  | 51 => ⟨S16384x2816, .f32⟩
  | 52 => ⟨S16384x2816, .f32⟩
  | 53 => ⟨S_, .f32⟩
  | 54 => ⟨S16384x2816, .f32⟩
  | 55 => ⟨S16384x2816, .f32⟩
  | 56 => ⟨S_, .f32⟩
  | 57 => ⟨S16384x2816, .f32⟩
  | 58 => ⟨S16384x2816, .f32⟩
  | 59 => ⟨S16384x2816, .f32⟩
  | 60 => ⟨S1x1024x2816, .f32⟩
  | 61 => ⟨S1024x2816, .f32⟩
  | 62 => ⟨S16384x2816, .f32⟩
  | 63 => ⟨S16384x2816, .f32⟩
  | 64 => ⟨S1x2816x1024, .f32⟩
  | 65 => ⟨S2816x1024, .f32⟩
  | 66 => ⟨S16384x1024, .f32⟩
  | 67 => ⟨S16384x1024, .f32⟩
  | 68 => ⟨S16384x1024, .f32⟩
  | 69 => ⟨S16384x1024, .f32⟩
  | 70 => ⟨S16384x1, .f32⟩
  | 71 => ⟨S1x1024x2816, .f32⟩
  | 72 => ⟨S1024x2816, .f32⟩
  | 73 => ⟨S16384x2816, .f32⟩
  | 74 => ⟨S16384x2816, .f32⟩
  | 75 => ⟨S16384x2816, .f32⟩
  | 76 => ⟨S_, .f32⟩
  | 77 => ⟨S16384x2816, .f32⟩
  | 78 => ⟨S16384x2816, .f32⟩
  | 79 => ⟨S_, .f32⟩
  | 80 => ⟨S16384x2816, .f32⟩
  | 81 => ⟨S16384x2816, .f32⟩
  | 82 => ⟨S16384x2816, .f32⟩
  | 83 => ⟨S1x1024x2816, .f32⟩
  | 84 => ⟨S1024x2816, .f32⟩
  | 85 => ⟨S16384x2816, .f32⟩
  | 86 => ⟨S16384x2816, .f32⟩
  | 87 => ⟨S1x2816x1024, .f32⟩
  | 88 => ⟨S2816x1024, .f32⟩
  | 89 => ⟨S16384x1024, .f32⟩
  | 90 => ⟨S16384x1024, .f32⟩
  | 91 => ⟨S16384x1024, .f32⟩
  | 92 => ⟨S16384x1024, .f32⟩
  | 93 => ⟨S_, .f32⟩
  | 94 => ⟨S16384x1024, .f32⟩
  | 95 => ⟨S16384x1024, .f32⟩
  | 96 => ⟨S16384x1024, .f32⟩
  | 97 => ⟨S_, .f32⟩
  | 98 => ⟨S16384, .f32⟩
  | 99 => ⟨S16384x1, .f32⟩
  | 100 => ⟨S_, .f32⟩
  | 101 => ⟨S16384x1, .f32⟩
  | 102 => ⟨S16384x1, .f32⟩
  | 103 => ⟨S16384x1024, .f32⟩
  | 104 => ⟨S16384x1024, .f32⟩
  | 105 => ⟨S16384x1024, .f32⟩
  | 106 => ⟨S_, .f32⟩
  | 107 => ⟨S16384, .f32⟩
  | 108 => ⟨S16384x1, .f32⟩
  | 109 => ⟨S_, .f32⟩
  | 110 => ⟨S16384x1, .f32⟩
  | 111 => ⟨S16384x1, .f32⟩
  | 112 => ⟨S_, .f32⟩
  | 113 => ⟨S16384x1, .f32⟩
  | 114 => ⟨S16384x1, .f32⟩
  | 115 => ⟨S16384x1, .f32⟩
  | 116 => ⟨S16384x1024, .f32⟩
  | 117 => ⟨S16384x1024, .f32⟩
  | 118 => ⟨S1x1024, .f32⟩
  | 119 => ⟨S16384x1024, .f32⟩
  | 120 => ⟨S16384x1024, .f32⟩
  | 121 => ⟨S1x1024, .f32⟩
  | 122 => ⟨S16384x1024, .f32⟩
  | 123 => ⟨S16384x1024, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_values : Ref sig .tc := ⟨.hbm, 8, rfl⟩
abbrev main_indices : Ref sig .tc := ⟨.hbm, 9, rfl⟩
abbrev main_cst : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst_2 : Ref sig .tc := ⟨.hbm, 33, rfl⟩
abbrev main_v16 : Ref sig .tc := ⟨.hbm, 34, rfl⟩
abbrev main_cst_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_call1_v0 : Ref sig .tc := ⟨.hbm, 41, rfl⟩
abbrev main_call1_v1 : Ref sig .tc := ⟨.hbm, 42, rfl⟩
abbrev main_call1_cst : Ref sig .tc := ⟨.hbm, 43, rfl⟩
abbrev main_call1_v2 : Ref sig .tc := ⟨.hbm, 44, rfl⟩
abbrev main_call1_v3 : Ref sig .tc := ⟨.hbm, 45, rfl⟩
abbrev main_call1_cst_0 : Ref sig .tc := ⟨.hbm, 46, rfl⟩
abbrev main_call1_v4 : Ref sig .tc := ⟨.hbm, 47, rfl⟩
abbrev main_call1_v5 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_call2_v0 : Ref sig .tc := ⟨.hbm, 64, rfl⟩
abbrev main_call2_v1 : Ref sig .tc := ⟨.hbm, 65, rfl⟩
abbrev main_call2_cst : Ref sig .tc := ⟨.hbm, 66, rfl⟩
abbrev main_call2_v2 : Ref sig .tc := ⟨.hbm, 67, rfl⟩
abbrev main_call2_v3 : Ref sig .tc := ⟨.hbm, 68, rfl⟩
abbrev main_call2_cst_0 : Ref sig .tc := ⟨.hbm, 69, rfl⟩
abbrev main_call2_v4 : Ref sig .tc := ⟨.hbm, 70, rfl⟩
abbrev main_call2_v5 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_call3_v0 : Ref sig .tc := ⟨.hbm, 87, rfl⟩
abbrev main_call3_v1 : Ref sig .tc := ⟨.hbm, 88, rfl⟩
abbrev main_call3_cst : Ref sig .tc := ⟨.hbm, 89, rfl⟩
abbrev main_call3_v2 : Ref sig .tc := ⟨.hbm, 90, rfl⟩
abbrev main_call3_v3 : Ref sig .tc := ⟨.hbm, 91, rfl⟩
abbrev main_call3_cst_0 : Ref sig .tc := ⟨.hbm, 92, rfl⟩
abbrev main_call3_v4 : Ref sig .tc := ⟨.hbm, 93, rfl⟩
abbrev main_call3_v5 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_call4_v0 : Ref sig .tc := ⟨.hbm, 110, rfl⟩
abbrev main_call4_v1 : Ref sig .tc := ⟨.hbm, 111, rfl⟩
abbrev main_call4_cst : Ref sig .tc := ⟨.hbm, 112, rfl⟩
abbrev main_call4_v2 : Ref sig .tc := ⟨.hbm, 113, rfl⟩
abbrev main_call4_v3 : Ref sig .tc := ⟨.hbm, 114, rfl⟩
abbrev main_call4_cst_0 : Ref sig .tc := ⟨.hbm, 115, rfl⟩
abbrev main_call4_v4 : Ref sig .tc := ⟨.hbm, 116, rfl⟩
abbrev main_call4_v5 : Ref sig .tc := ⟨.hbm, 117, rfl⟩
abbrev main_v67 : Ref sig .tc := ⟨.hbm, 118, rfl⟩
abbrev main_v68 : Ref sig .tc := ⟨.hbm, 119, rfl⟩
abbrev main_v69 : Ref sig .tc := ⟨.hbm, 120, rfl⟩
abbrev main_v70 : Ref sig .tc := ⟨.hbm, 121, rfl⟩
abbrev main_v71 : Ref sig .tc := ⟨.hbm, 122, rfl⟩
abbrev main_v72 : Ref sig .tc := ⟨.hbm, 123, rfl⟩
abbrev main_v73 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_v81 : Ref sig .tc := ⟨.hbm, 132, rfl⟩
abbrev main_call5_v0 : Ref sig .tc := ⟨.hbm, 133, rfl⟩
abbrev main_call5_v1 : Ref sig .tc := ⟨.hbm, 134, rfl⟩
abbrev main_call5_cst : Ref sig .tc := ⟨.hbm, 135, rfl⟩
abbrev main_call5_v2 : Ref sig .tc := ⟨.hbm, 136, rfl⟩
abbrev main_call5_v3 : Ref sig .tc := ⟨.hbm, 137, rfl⟩
abbrev main_call5_cst_0 : Ref sig .tc := ⟨.hbm, 138, rfl⟩
abbrev main_call5_v4 : Ref sig .tc := ⟨.hbm, 139, rfl⟩
abbrev main_call5_v5 : Ref sig .tc := ⟨.hbm, 140, rfl⟩
abbrev main_v82 : Ref sig .tc := ⟨.hbm, 141, rfl⟩
abbrev main_v83 : Ref sig .tc := ⟨.hbm, 142, rfl⟩
abbrev main_v84 : Ref sig .tc := ⟨.hbm, 143, rfl⟩
abbrev main_v85 : Ref sig .tc := ⟨.hbm, 144, rfl⟩
abbrev main_v86 : Ref sig .tc := ⟨.hbm, 145, rfl⟩
abbrev main_v87 : Ref sig .tc := ⟨.hbm, 146, rfl⟩
abbrev main_v88 : Ref sig .tc := ⟨.hbm, 147, rfl⟩
abbrev main_v89 : Ref sig .tc := ⟨.hbm, 148, rfl⟩
abbrev main_v90 : Ref sig .tc := ⟨.hbm, 149, rfl⟩
abbrev main_v91 : Ref sig .tc := ⟨.hbm, 150, rfl⟩
abbrev main_v92 : Ref sig .tc := ⟨.hbm, 151, rfl⟩
abbrev main_v93 : Ref sig .tc := ⟨.hbm, 152, rfl⟩
abbrev main_v94 : Ref sig .tc := ⟨.hbm, 153, rfl⟩
abbrev main_v95 : Ref sig .tc := ⟨.hbm, 154, rfl⟩
abbrev main_v96 : Ref sig .tc := ⟨.hbm, 155, rfl⟩
abbrev main_call6_v0 : Ref sig .tc := ⟨.hbm, 156, rfl⟩
abbrev main_call6_v1 : Ref sig .tc := ⟨.hbm, 157, rfl⟩
abbrev main_call6_cst : Ref sig .tc := ⟨.hbm, 158, rfl⟩
abbrev main_call6_v2 : Ref sig .tc := ⟨.hbm, 159, rfl⟩
abbrev main_call6_v3 : Ref sig .tc := ⟨.hbm, 160, rfl⟩
abbrev main_call6_cst_0 : Ref sig .tc := ⟨.hbm, 161, rfl⟩
abbrev main_call6_v4 : Ref sig .tc := ⟨.hbm, 162, rfl⟩
abbrev main_call6_v5 : Ref sig .tc := ⟨.hbm, 163, rfl⟩
abbrev main_v97 : Ref sig .tc := ⟨.hbm, 164, rfl⟩
abbrev main_v98 : Ref sig .tc := ⟨.hbm, 165, rfl⟩
abbrev main_v99 : Ref sig .tc := ⟨.hbm, 166, rfl⟩
abbrev main_v100 : Ref sig .tc := ⟨.hbm, 167, rfl⟩
abbrev main_v101 : Ref sig .tc := ⟨.hbm, 168, rfl⟩
abbrev main_v102 : Ref sig .tc := ⟨.hbm, 169, rfl⟩
abbrev main_v103 : Ref sig .tc := ⟨.hbm, 170, rfl⟩
abbrev main_v104 : Ref sig .tc := ⟨.hbm, 171, rfl⟩
abbrev main_v105 : Ref sig .tc := ⟨.hbm, 172, rfl⟩
abbrev main_v106 : Ref sig .tc := ⟨.hbm, 173, rfl⟩
abbrev main_v107 : Ref sig .tc := ⟨.hbm, 174, rfl⟩
abbrev main_v108 : Ref sig .tc := ⟨.hbm, 175, rfl⟩
abbrev main_v109 : Ref sig .tc := ⟨.hbm, 176, rfl⟩
abbrev main_v110 : Ref sig .tc := ⟨.hbm, 177, rfl⟩
abbrev main_v111 : Ref sig .tc := ⟨.hbm, 178, rfl⟩
abbrev main_call7_v0 : Ref sig .tc := ⟨.hbm, 179, rfl⟩
abbrev main_call7_v1 : Ref sig .tc := ⟨.hbm, 180, rfl⟩
abbrev main_call7_cst : Ref sig .tc := ⟨.hbm, 181, rfl⟩
abbrev main_call7_v2 : Ref sig .tc := ⟨.hbm, 182, rfl⟩
abbrev main_call7_v3 : Ref sig .tc := ⟨.hbm, 183, rfl⟩
abbrev main_call7_cst_0 : Ref sig .tc := ⟨.hbm, 184, rfl⟩
abbrev main_call7_v4 : Ref sig .tc := ⟨.hbm, 185, rfl⟩
abbrev main_call7_v5 : Ref sig .tc := ⟨.hbm, 186, rfl⟩
abbrev main_v112 : Ref sig .tc := ⟨.hbm, 187, rfl⟩
abbrev main_v113 : Ref sig .tc := ⟨.hbm, 188, rfl⟩
abbrev main_v114 : Ref sig .tc := ⟨.hbm, 189, rfl⟩
abbrev main_v115 : Ref sig .tc := ⟨.hbm, 190, rfl⟩
abbrev main_v116 : Ref sig .tc := ⟨.hbm, 191, rfl⟩
abbrev main_v117 : Ref sig .tc := ⟨.hbm, 192, rfl⟩
abbrev main_v118 : Ref sig .tc := ⟨.hbm, 193, rfl⟩
abbrev main_v119 : Ref sig .tc := ⟨.hbm, 194, rfl⟩
abbrev main_v120 : Ref sig .tc := ⟨.hbm, 195, rfl⟩
abbrev main_v121 : Ref sig .tc := ⟨.hbm, 196, rfl⟩
abbrev main_v122 : Ref sig .tc := ⟨.hbm, 197, rfl⟩
abbrev main_v123 : Ref sig .tc := ⟨.hbm, 198, rfl⟩
abbrev main_v124 : Ref sig .tc := ⟨.hbm, 199, rfl⟩
abbrev main_v125 : Ref sig .tc := ⟨.hbm, 200, rfl⟩
abbrev main_v126 : Ref sig .tc := ⟨.hbm, 201, rfl⟩
abbrev main_call8_v0 : Ref sig .tc := ⟨.hbm, 202, rfl⟩
abbrev main_call8_v1 : Ref sig .tc := ⟨.hbm, 203, rfl⟩
abbrev main_call8_cst : Ref sig .tc := ⟨.hbm, 204, rfl⟩
abbrev main_call8_v2 : Ref sig .tc := ⟨.hbm, 205, rfl⟩
abbrev main_call8_v3 : Ref sig .tc := ⟨.hbm, 206, rfl⟩
abbrev main_call8_cst_0 : Ref sig .tc := ⟨.hbm, 207, rfl⟩
abbrev main_call8_v4 : Ref sig .tc := ⟨.hbm, 208, rfl⟩
abbrev main_call8_v5 : Ref sig .tc := ⟨.hbm, 209, rfl⟩
abbrev main_v127 : Ref sig .tc := ⟨.hbm, 210, rfl⟩
abbrev main_v128 : Ref sig .tc := ⟨.hbm, 211, rfl⟩
abbrev main_v129 : Ref sig .tc := ⟨.hbm, 212, rfl⟩
abbrev main_v130 : Ref sig .tc := ⟨.hbm, 213, rfl⟩
abbrev main_v131 : Ref sig .tc := ⟨.hbm, 214, rfl⟩
abbrev main_v132 : Ref sig .tc := ⟨.hbm, 215, rfl⟩
abbrev main_v133 : Ref sig .tc := ⟨.hbm, 216, rfl⟩
abbrev main_v134 : Ref sig .tc := ⟨.hbm, 217, rfl⟩
abbrev main_v135 : Ref sig .tc := ⟨.hbm, 218, rfl⟩
abbrev main_v136 : Ref sig .tc := ⟨.hbm, 219, rfl⟩
abbrev main_v137 : Ref sig .tc := ⟨.hbm, 220, rfl⟩
abbrev main_cst_4 : Ref sig .tc := ⟨.hbm, 221, rfl⟩
abbrev main_v138 : Ref sig .tc := ⟨.hbm, 222, rfl⟩
abbrev main_v139 : Ref sig .tc := ⟨.hbm, 223, rfl⟩
abbrev main_v140 : Ref sig .tc := ⟨.hbm, 224, rfl⟩
abbrev main_cst_5 : Ref sig .tc := ⟨.hbm, 225, rfl⟩
abbrev main_v141 : Ref sig .tc := ⟨.hbm, 226, rfl⟩
abbrev main_v142 : Ref sig .tc := ⟨.hbm, 227, rfl⟩
abbrev main_cst_6 : Ref sig .tc := ⟨.hbm, 228, rfl⟩
abbrev main_v143 : Ref sig .tc := ⟨.hbm, 229, rfl⟩
abbrev main_v144 : Ref sig .tc := ⟨.hbm, 230, rfl⟩
abbrev main_v145 : Ref sig .tc := ⟨.hbm, 231, rfl⟩
abbrev main_v146 : Ref sig .tc := ⟨.hbm, 232, rfl⟩
abbrev main_v147 : Ref sig .tc := ⟨.hbm, 233, rfl⟩
abbrev main_cst_7 : Ref sig .tc := ⟨.hbm, 234, rfl⟩
abbrev main_v148 : Ref sig .tc := ⟨.hbm, 235, rfl⟩
abbrev main_v149 : Ref sig .tc := ⟨.hbm, 236, rfl⟩
abbrev main_cst_8 : Ref sig .tc := ⟨.hbm, 237, rfl⟩
abbrev main_v150 : Ref sig .tc := ⟨.hbm, 238, rfl⟩
abbrev main_v151 : Ref sig .tc := ⟨.hbm, 239, rfl⟩
abbrev main_cst_9 : Ref sig .tc := ⟨.hbm, 240, rfl⟩
abbrev main_v152 : Ref sig .tc := ⟨.hbm, 241, rfl⟩
abbrev main_v153 : Ref sig .tc := ⟨.hbm, 242, rfl⟩
abbrev main_v154 : Ref sig .tc := ⟨.hbm, 243, rfl⟩
abbrev main_v155 : Ref sig .tc := ⟨.hbm, 244, rfl⟩
abbrev main_v156 : Ref sig .tc := ⟨.hbm, 245, rfl⟩
abbrev main_v157 : Ref sig .tc := ⟨.hbm, 246, rfl⟩
abbrev main_v158 : Ref sig .tc := ⟨.hbm, 247, rfl⟩
abbrev main_v159 : Ref sig .tc := ⟨.hbm, 248, rfl⟩
abbrev main_v160 : Ref sig .tc := ⟨.hbm, 249, rfl⟩
abbrev main_v161 : Ref sig .tc := ⟨.hbm, 250, rfl⟩
abbrev main_v162 : Ref sig .tc := ⟨.hbm, 251, rfl⟩

abbrev nD : Nat := 1
abbrev τ : Topo := Topo.v7x

variable {F : FTy → Type} [FloatOps F]
-- ==== Kernel2.lean ====
abbrev S16384x1024 : Shape := ⟨2, ![16384, 1024]⟩
abbrev S1024x2816 : Shape := ⟨2, ![1024, 2816]⟩
abbrev S2816x1024 : Shape := ⟨2, ![2816, 1024]⟩
abbrev S1024 : Shape := ⟨1, ![1024]⟩
abbrev S1x1024 : Shape := ⟨2, ![1, 1024]⟩
abbrev S512x1024 : Shape := ⟨2, ![512, 1024]⟩
abbrev S1024x256 : Shape := ⟨2, ![1024, 256]⟩
abbrev S512x256 : Shape := ⟨2, ![512, 256]⟩
abbrev S256x1024 : Shape := ⟨2, ![256, 1024]⟩
abbrev S512 : Shape := ⟨1, ![512]⟩
abbrev S512x1 : Shape := ⟨2, ![512, 1]⟩

abbrev nBuf : Space → Nat
  | .hbm => 12
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S1024, .f32⟩
  | .hbm, ⟨5, _⟩ => ⟨S1024, .f32⟩
  | .hbm, ⟨6, _⟩ => ⟨S1024x2816, .bf16⟩
  | .hbm, ⟨7, _⟩ => ⟨S1024x2816, .bf16⟩
  | .hbm, ⟨8, _⟩ => ⟨S2816x1024, .bf16⟩
  | .hbm, ⟨9, _⟩ => ⟨S1x1024, .f32⟩
  | .hbm, ⟨10, _⟩ => ⟨S1x1024, .f32⟩
  | .hbm, ⟨11, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1024x2816, .bf16⟩
  | .local _ .vmem, ⟨3, _⟩ => ⟨S1024x2816, .bf16⟩
  | .local _ .vmem, ⟨4, _⟩ => ⟨S2816x1024, .bf16⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference2Ideal.lean ====
abbrev S16384x1024 : Shape := ⟨2, ![16384, 1024]⟩
abbrev S1024x2816 : Shape := ⟨2, ![1024, 2816]⟩
abbrev S2816x1024 : Shape := ⟨2, ![2816, 1024]⟩
abbrev S1024 : Shape := ⟨1, ![1024]⟩
abbrev S16384x2816 : Shape := ⟨2, ![16384, 2816]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 50
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S1024, .f32⟩
  | .hbm, ⟨5, _⟩ => ⟨S1024, .f32⟩
  | .hbm, ⟨6, _⟩ => ⟨S16384x2816, .f32⟩
  | .hbm, ⟨7, _⟩ => ⟨S16384x2816, .f32⟩
  | .hbm, ⟨8, _⟩ => ⟨S16384x2816, .f32⟩
  | .hbm, ⟨9, _⟩ => ⟨S_, .f32⟩
  | .hbm, ⟨10, _⟩ => ⟨S16384x2816, .f32⟩
  | .hbm, ⟨11, _⟩ => ⟨S16384x2816, .f32⟩
  | .hbm, ⟨12, _⟩ => ⟨S_, .f32⟩
  | .hbm, ⟨13, _⟩ => ⟨S16384x2816, .f32⟩
  | .hbm, ⟨14, _⟩ => ⟨S16384x2816, .f32⟩
  | .hbm, ⟨15, _⟩ => ⟨S16384x2816, .f32⟩
  | .hbm, ⟨16, _⟩ => ⟨S16384x2816, .f32⟩
  | .hbm, ⟨17, _⟩ => ⟨S16384x2816, .f32⟩
  | .hbm, ⟨18, _⟩ => ⟨S16384x1024, .f32⟩
  | .hbm, ⟨19, _⟩ => ⟨S_, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S_, .f32⟩
  | .hbm, ⟨24, _⟩ => ⟨S16384, .f32⟩
  | .hbm, ⟨25, _⟩ => ⟨S16384x1, .f32⟩
  | .hbm, ⟨26, _⟩ => ⟨S_, .f32⟩
  | .hbm, ⟨27, _⟩ => ⟨S16384x1, .f32⟩
  | .hbm, ⟨28, _⟩ => ⟨S16384x1, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S_, .f32⟩
  | .hbm, ⟨33, _⟩ => ⟨S16384, .f32⟩
  | .hbm, ⟨34, _⟩ => ⟨S16384x1, .f32⟩
  | .hbm, ⟨35, _⟩ => ⟨S_, .f32⟩
  | .hbm, ⟨36, _⟩ => ⟨S16384x1, .f32⟩
  | .hbm, ⟨37, _⟩ => ⟨S16384x1, .f32⟩
  | .hbm, ⟨38, _⟩ => ⟨S_, .f32⟩
  | .hbm, ⟨39, _⟩ => ⟨S16384x1, .f32⟩
  | .hbm, ⟨40, _⟩ => ⟨S16384x1, .f32⟩
  | .hbm, ⟨41, _⟩ => ⟨S16384x1, .f32⟩
  | .hbm, ⟨42, _⟩ => ⟨S16384x1024, .f32⟩
  | .hbm, ⟨43, _⟩ => ⟨S16384x1024, .f32⟩
  | .hbm, ⟨44, _⟩ => ⟨S1x1024, .f32⟩
  | .hbm, ⟨45, _⟩ => ⟨S16384x1024, .f32⟩
  | .hbm, ⟨46, _⟩ => ⟨S16384x1024, .f32⟩
  | .hbm, ⟨47, _⟩ => ⟨S1x1024, .f32⟩
  | .hbm, ⟨48, _⟩ => ⟨S16384x1024, .f32⟩
  | .hbm, ⟨49, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_cst_1 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_cst_3 : Ref sig .tc := ⟨.hbm, 35, rfl⟩
abbrev main_v17 : Ref sig .tc := ⟨.hbm, 36, rfl⟩
abbrev main_v18 : Ref sig .tc := ⟨.hbm, 37, rfl⟩
abbrev main_cst_4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩

abbrev nD : Nat := 1
abbrev τ : Topo := Topo.v7x

variable {F : FTy → Type} [FloatOps F]
-- ==== Kernel3.lean ====
abbrev S16384x1024 : Shape := ⟨2, ![16384, 1024]⟩
abbrev S1024x2560 : Shape := ⟨2, ![1024, 2560]⟩
abbrev S16384x256 : Shape := ⟨2, ![16384, 256]⟩
abbrev S16384x384 : Shape := ⟨2, ![16384, 384]⟩
abbrev S512x1024 : Shape := ⟨2, ![512, 1024]⟩
abbrev S512x256 : Shape := ⟨2, ![512, 256]⟩
abbrev S512x384 : Shape := ⟨2, ![512, 384]⟩
abbrev S1024x256 : Shape := ⟨2, ![1024, 256]⟩
abbrev S1024x384 : Shape := ⟨2, ![1024, 384]⟩

abbrev nBuf : Space → Nat
  | .hbm => 10
  | .vmem => 17
  | .smem => 0
  | _ => 0

abbrev bufTy : (tb : Table) → Fin (tcTables nBuf tb) → BufTy
  | .hbm, ⟨0, _⟩ => ⟨S16384x1024, .f32⟩
  | .hbm, ⟨1, _⟩ => ⟨S1024x2560, .f32⟩
  | .hbm, ⟨2, _⟩ => ⟨S1024x2560, .bf16⟩
  | .hbm, ⟨3, _⟩ => ⟨S16384x256, .f32⟩
  | .hbm, ⟨4, _⟩ => ⟨S16384x384, .bf16⟩
  | .hbm, ⟨5, _⟩ => ⟨S16384x384, .bf16⟩
  | .hbm, ⟨6, _⟩ => ⟨S16384x384, .bf16⟩
  | .hbm, ⟨7, _⟩ => ⟨S16384x384, .bf16⟩
  | .hbm, ⟨8, _⟩ => ⟨S16384x384, .bf16⟩
  | .hbm, ⟨9, _⟩ => ⟨S16384x384, .bf16⟩
  | .local _ .vmem, ⟨0, _⟩ => ⟨S512x1024, .f32⟩
  | .local _ .vmem, ⟨1, _⟩ => ⟨S512x1024, .f32⟩
  | .local _ .vmem, ⟨2, _⟩ => ⟨S1024x2560, .bf16⟩
  | .local _ .vmem, ⟨3, _⟩ => ⟨S512x256, .f32⟩
  | .local _ .vmem, ⟨4, _⟩ => ⟨S512x256, .f32⟩
  | .local _ .vmem, ⟨5, _⟩ => ⟨S512x384, .bf16⟩
  | .local _ .vmem, ⟨6, _⟩ => ⟨S512x384, .bf16⟩
  | .local _ .vmem, ⟨7, _⟩ => ⟨S512x384, .bf16⟩
  | .local _ .vmem, ⟨8, _⟩ => ⟨S512x384, .bf16⟩
  | .local _ .vmem, ⟨9, _⟩ => ⟨S512x384, .bf16⟩
  | .local _ .vmem, ⟨10, _⟩ => ⟨S512x384, .bf16⟩
  | .local _ .vmem, ⟨11, _⟩ => ⟨S512x384, .bf16⟩
  | .local _ .vmem, ⟨12, _⟩ => ⟨S512x384, .bf16⟩
  | .local _ .vmem, ⟨13, _⟩ => ⟨S512x384, .bf16⟩
  | .local _ .vmem, ⟨14, _⟩ => ⟨S512x384, .bf16⟩
  | .local _ .vmem, ⟨15, _⟩ => ⟨S512x384, .bf16⟩
  | .local _ .vmem, ⟨16, _⟩ => ⟨S512x384, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev main_v1_3 : Ref sig .tc := ⟨.hbm, 6, rfl⟩
abbrev main_v1_4 : Ref sig .tc := ⟨.hbm, 7, rfl⟩
abbrev main_v1_5 : Ref sig .tc := ⟨.hbm, 8, rfl⟩
abbrev main_v1_6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2560 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x384 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x384 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x384 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x384 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x384 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference3Ideal.lean ====
abbrev S16384x1024 : Shape := ⟨2, ![16384, 1024]⟩
abbrev S1024x2560 : Shape := ⟨2, ![1024, 2560]⟩
abbrev S16384x2560 : Shape := ⟨2, ![16384, 2560]⟩
abbrev S16384x256 : Shape := ⟨2, ![16384, 256]⟩
abbrev S16384x1152 : Shape := ⟨2, ![16384, 1152]⟩
abbrev S16384x384 : Shape := ⟨2, ![16384, 384]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x2560, .f32⟩
  | .hbm, ⟨2, _⟩ => ⟨S16384x2560, .f32⟩
  | .hbm, ⟨3, _⟩ => ⟨S16384x256, .f32⟩
  | .hbm, ⟨4, _⟩ => ⟨S16384x1152, .f32⟩
  | .hbm, ⟨5, _⟩ => ⟨S16384x1152, .f32⟩
  | .hbm, ⟨6, _⟩ => ⟨S16384x384, .f32⟩
  | .hbm, ⟨7, _⟩ => ⟨S16384x384, .f32⟩
  | .hbm, ⟨8, _⟩ => ⟨S16384x384, .f32⟩
  | .hbm, ⟨9, _⟩ => ⟨S16384x384, .f32⟩
  | .hbm, ⟨10, _⟩ => ⟨S16384x384, .f32⟩
  | .hbm, ⟨11, _⟩ => ⟨S16384x384, .f32⟩
  | .hbm, ⟨12, _⟩ => ⟨S_, .f32⟩
  | .hbm, ⟨13, _⟩ => ⟨S16384x384, .f32⟩
  | .hbm, ⟨14, _⟩ => ⟨S16384x384, .f32⟩
  | .hbm, ⟨15, _⟩ => ⟨S_, .f32⟩
  | .hbm, ⟨16, _⟩ => ⟨S16384x384, .f32⟩
  | .hbm, ⟨17, _⟩ => ⟨S16384x384, .f32⟩
  | .hbm, ⟨18, _⟩ => ⟨S16384x384, .bf16⟩
  | .hbm, ⟨19, _⟩ => ⟨S16384x384, .bf16⟩
  | .hbm, ⟨20, _⟩ => ⟨S16384x384, .bf16⟩
  | .hbm, ⟨21, _⟩ => ⟨S16384x384, .bf16⟩
  | .hbm, ⟨22, _⟩ => ⟨S16384x384, .bf16⟩
  | .hbm, ⟨23, _⟩ => ⟨S16384x384, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩

abbrev nD : Nat := 1
abbrev τ : Topo := Topo.v7x

variable {F : FTy → Type} [FloatOps F]
-- ==== Kernel4.lean ====
abbrev S16384x256 : Shape := ⟨2, ![16384, 256]⟩
abbrev S16384x384 : Shape := ⟨2, ![16384, 384]⟩
abbrev S16384x1024 : Shape := ⟨2, ![16384, 1024]⟩
abbrev S1024x1024 : Shape := ⟨2, ![1024, 1024]⟩
abbrev S1024 : Shape := ⟨1, ![1024]⟩
abbrev S1x1024 : Shape := ⟨2, ![1, 1024]⟩
abbrev S512x256 : Shape := ⟨2, ![512, 256]⟩
abbrev S512x384 : Shape := ⟨2, ![512, 384]⟩
abbrev S512x1024 : Shape := ⟨2, ![512, 1024]⟩
abbrev S256x1024 : Shape := ⟨2, ![256, 1024]⟩
abbrev S384x1024 : Shape := ⟨2, ![384, 1024]⟩
abbrev S512 : Shape := ⟨1, ![512]⟩
abbrev S512x1 : Shape := ⟨2, ![512, 1]⟩

abbrev nBuf : Space → Nat
  | .hbm => 11
  | .vmem => 13
  | .smem => 0
  | _ => 0

abbrev bufTy : (tb : Table) → Fin (tcTables nBuf tb) → BufTy
  | .hbm, ⟨0, _⟩ => ⟨S16384x256, .bf16⟩
  | .hbm, ⟨1, _⟩ => ⟨S16384x384, .bf16⟩
  | .hbm, ⟨2, _⟩ => ⟨S16384x384, .bf16⟩
  | .hbm, ⟨3, _⟩ => ⟨S16384x1024, .f32⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S1024x1024, .bf16⟩
  | .hbm, ⟨8, _⟩ => ⟨S1x1024, .f32⟩
  | .hbm, ⟨9, _⟩ => ⟨S1x1024, .f32⟩
  | .hbm, ⟨10, _⟩ => ⟨S16384x1024, .f32⟩
  | .local _ .vmem, ⟨0, _⟩ => ⟨S512x256, .bf16⟩
  | .local _ .vmem, ⟨1, _⟩ => ⟨S512x256, .bf16⟩
  | .local _ .vmem, ⟨2, _⟩ => ⟨S512x384, .bf16⟩
  | .local _ .vmem, ⟨3, _⟩ => ⟨S512x384, .bf16⟩
  | .local _ .vmem, ⟨4, _⟩ => ⟨S512x384, .bf16⟩
  | .local _ .vmem, ⟨5, _⟩ => ⟨S512x384, .bf16⟩
  | .local _ .vmem, ⟨6, _⟩ => ⟨S512x1024, .f32⟩
  | .local _ .vmem, ⟨7, _⟩ => ⟨S512x1024, .f32⟩
  | .local _ .vmem, ⟨8, _⟩ => ⟨S1024x1024, .bf16⟩
  | .local _ .vmem, ⟨9, _⟩ => ⟨S1x1024, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | _, _ => ⟨S16384x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference4Ideal.lean ====
abbrev S16384x256 : Shape := ⟨2, ![16384, 256]⟩
abbrev S16384x384 : Shape := ⟨2, ![16384, 384]⟩
abbrev S16384x1024 : Shape := ⟨2, ![16384, 1024]⟩
abbrev S1024x1024 : Shape := ⟨2, ![1024, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 41
  | .vmem => 0
  | .smem => 0
  | _ => 0

abbrev bufTy : (tb : Table) → Fin (tcTables nBuf tb) → BufTy
  | .hbm, ⟨0, _⟩ => ⟨S16384x256, .bf16⟩
  | .hbm, ⟨1, _⟩ => ⟨S16384x384, .bf16⟩
  | .hbm, ⟨2, _⟩ => ⟨S16384x384, .bf16⟩
  | .hbm, ⟨3, _⟩ => ⟨S16384x1024, .f32⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S16384x1024, .bf16⟩
  | .hbm, ⟨8, _⟩ => ⟨S16384x1024, .f32⟩
  | .hbm, ⟨9, _⟩ => ⟨S_, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S_, .f32⟩
  | .hbm, ⟨15, _⟩ => ⟨S16384, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S_, .f32⟩
  | .hbm, ⟨24, _⟩ => ⟨S16384, .f32⟩
  | .hbm, ⟨25, _⟩ => ⟨S16384x1, .f32⟩
  | .hbm, ⟨26, _⟩ => ⟨S_, .f32⟩
  | .hbm, ⟨27, _⟩ => ⟨S16384x1, .f32⟩
  | .hbm, ⟨28, _⟩ => ⟨S16384x1, .f32⟩
  | .hbm, ⟨29, _⟩ => ⟨S_, .f32⟩
  | .hbm, ⟨30, _⟩ => ⟨S16384x1, .f32⟩
  | .hbm, ⟨31, _⟩ => ⟨S16384x1, .f32⟩
  | .hbm, ⟨32, _⟩ => ⟨S16384x1, .f32⟩
  | .hbm, ⟨33, _⟩ => ⟨S16384x1024, .f32⟩
  | .hbm, ⟨34, _⟩ => ⟨S16384x1024, .f32⟩
  | .hbm, ⟨35, _⟩ => ⟨S1x1024, .f32⟩
  | .hbm, ⟨36, _⟩ => ⟨S16384x1024, .f32⟩
  | .hbm, ⟨37, _⟩ => ⟨S16384x1024, .f32⟩
  | .hbm, ⟨38, _⟩ => ⟨S1x1024, .f32⟩
  | .hbm, ⟨39, _⟩ => ⟨S16384x1024, .f32⟩
  | .hbm, ⟨40, _⟩ => ⟨S16384x1024, .f32⟩
  | _, _ => ⟨S16384x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_cst_4 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== Proof.Swiglu.lean ====
/-
  The mathematics of one SwiGLU block, over the extended reals, on plain functions of row and column numbers: what one
  hidden unit contributes, and the sum over any number of hidden units cut into consecutive stretches.
-/
module

public import Idealize.ShloMosaic.Lib.Pointwise

@[expose] public section

noncomputable section

open Idealize.ShloMosaic

namespace Cert.Swiglu

/-- `silu g * u`, the hidden unit's value from its gate and its up projection, in the kernels' spelling of the logistic. -/
def gated (g u : EReal) : EReal := g * Ideal.div 1 (1 + Ideal.exp (0 - g)) * u

/-- What hidden unit `k` adds to an output: its value times its down weight `d`; `x` is the input row, `a` and `b` the
    unit's gate and up columns. -/
def unit {D : ℕ} (x : Fin D → EReal) (a b : Fin D → EReal) (d : EReal) : EReal :=
  gated (∑ i, x i * a i) (∑ i, x i * b i) * d

/-- A sum over `n = p + q` places is the sum over the first `p` and the sum over the last `q`. -/
theorem sum_cut {n : ℕ} (f : Fin n → EReal) (p q : ℕ) (h : p + q = n) :
    ∑ k, f k = (∑ k : Fin p, f ⟨k, by omega⟩) + ∑ k : Fin q, f ⟨p + k, by omega⟩ := by
  subst h
  rw [Fin.sum_univ_add]
  rfl

/-- The first `p` places of a sum followed by a stretch of `q` more are its first `p + q` places. -/
theorem sum_grow {n : ℕ} (f : Fin n → EReal) (p q r : ℕ) (hr : p + q = r) (h : r ≤ n) :
    (∑ k : Fin p, f ⟨k, by omega⟩) + ∑ k : Fin q, f ⟨p + k, by omega⟩ = ∑ k : Fin r, f ⟨k, by omega⟩ :=
  (sum_cut (fun k : Fin r => f ⟨k, by omega⟩) p q hr).symm

/-- The layer norm of a vector of 1024 entries at entry `j`, scaled by `g` and shifted by `b`: the mean and the mean
    squared deviation over the vector, the two constants the words of 1024 and of the layer's epsilon. -/
def lnorm (v : Fin 1024 → EReal) (g b : EReal) (j : Fin 1024) : EReal :=
  (v j - Ideal.div (∑ k, v k) (Ideal.ofBits .f32 0x44800000#32)) *
      Ideal.rsqrt (Ideal.div (∑ k, (v k - Ideal.div (∑ k, v k) (Ideal.ofBits .f32 0x44800000#32)) *
            (v k - Ideal.div (∑ k, v k) (Ideal.ofBits .f32 0x44800000#32))) (Ideal.ofBits .f32 0x44800000#32)
        + Ideal.ofBits .f32 0x3727C5AC#32) * g + b

/-- The residual sum the layer norms are taken of: the layer's constant times the input plus the branch. -/
def resid (x f : EReal) : EReal := Ideal.ofBits .f32 0x3FB504F3#32 * x + f

end Cert.Swiglu
-- ==== Proof.FfnBlock.lean ====
module

public import proofs.«01_k».proof.Proof.Gen.Kernel2Ideal.Value
public import proofs.«01_k».proof.Proof.Swiglu

/-! What one call of the dense feed-forward kernel leaves in its output block, over the extended reals, index by index. -/

@[expose] public section

set_option maxRecDepth 16384

noncomputable section

open Idealize.ShloMosaic Idealize.ShloMosaic.TcCoe Idealize.SL.Sem
open Cert.Kernel2Ideal Cert.Kernel2Ideal.Gen Cert.Swiglu

namespace Cert.FfnBlock

/-- The layer norm's payload at an index. -/
theorem pay1_apply (v : FVec Ideal S512x1024 .f32) (g b : FVec Ideal S1x1024 .f32) (r : Fin 512) (j : Fin 1024) :
    k0_pay1 (F := Ideal) v g b (ix2 r j) = lnorm (fun k => v (ix2 r k)) (g (ix2 0 j)) (b (ix2 0 j)) j := by
  pointwise [k0_pay1, lnorm]

/-- One stretch of 256 hidden units, the blocks loaded, at row `r` and output `j`. -/
def part (x : FVec Ideal S512x1024 .f32) (a b : FVec Ideal S1024x256 .bf16) (d : FVec Ideal S256x1024 .bf16) (r : Fin 512) (j : Fin 1024) : EReal :=
  ∑ k : Fin 256, unit (fun i => x (ix2 r i)) (fun i => a (ix2 i k)) (fun i => b (ix2 i k)) (d (ix2 k j))

variable (x s : FVec Ideal S512x1024 .f32) (a b a' b' : FVec Ideal S1024x256 .bf16) (d d' : FVec Ideal S256x1024 .bf16) (r : Fin 512) (j : Fin 1024)

/-- The first stretch of hidden units, at an index. -/
theorem pay3_apply : k0_pay3 (F := Ideal) x a b d (ix2 r j) = part x a b d r j := by
  pointwise [k0_pay3, k0_pay2, part, unit, gated]

/-- The second and third stretch are added, at an index. -/
theorem pay5_apply : k0_pay5 (F := Ideal) (k0_pay2 x) s (k0_pay4 x a b) d a' b' d' (ix2 r j)
    = s (ix2 r j) + part x a b d r j + part x a' b' d' r j := by
  pointwise [k0_pay5, k0_pay4, k0_pay2, part, unit, gated]

/-- Two further stretches are added, at an index. -/
theorem pay9_apply : k0_pay9 (F := Ideal) (k0_pay2 x) s (k0_pay6 (k0_pay2 x) a) (k0_pay7 (k0_pay2 x) b) (k0_pay8 (k0_pay2 x) a)
      (Scalar.ofBits .f32 0x3F800000#32) d a' b' d' (ix2 r j)
    = s (ix2 r j) + part x a b d r j + part x a' b' d' r j := by
  pointwise [k0_pay9, k0_pay8, k0_pay7, k0_pay6, k0_pay2, part, unit, gated]

/-- Two further stretches are added, at an index; the text is cut elsewhere. -/
theorem pay13_apply : k0_pay13 (F := Ideal) (k0_pay2 x) s (k0_pay10 (k0_pay2 x) a) (k0_pay11 (k0_pay2 x) b) (k0_pay12 (k0_pay2 x) a)
      d a' b' d' (ix2 r j)
    = s (ix2 r j) + part x a b d r j + part x a' b' d' r j := by
  pointwise [k0_pay13, k0_pay10, k0_pay11, k0_pay12, k0_pay2, part, unit, gated]

/-- Two further stretches are added, at an index; the text is cut elsewhere again. -/
theorem pay16_apply : k0_pay16 (F := Ideal) (k0_pay2 x) s (k0_pay14 (k0_pay2 x) a) (k0_pay15 (k0_pay2 x) b)
      d a' b' d' (ix2 r j)
    = s (ix2 r j) + part x a b d r j + part x a' b' d' r j := by
  pointwise [k0_pay16, k0_pay14, k0_pay15, k0_pay2, part, unit, gated]

/-- The last two stretches are added and the scaled activations with them, at an index. -/
theorem pay18_apply : k0_pay18 (F := Ideal) x (k0_pay2 x) s (k0_pay17 (k0_pay2 x) a) b d a' b' d' (ix2 r j)
    = resid (x (ix2 r j)) (s (ix2 r j) + part x a b d r j + part x a' b' d' r j) := by
  pointwise [k0_pay18, k0_pay17, k0_pay2, part, unit, gated, resid]

variable (A B : Vec Ideal S1024x2816 .bf16) (D : Vec Ideal S2816x1024 .bf16)

/-- Hidden unit `k` of all 2816, on row `r` and output `j` of the input block. -/
def hid (k : Fin 2816) : EReal :=
  unit (fun i => x (ix2 r i)) (fun i => A (ix2 i k)) (fun i => B (ix2 i k)) (D (ix2 k j))

/-- A stretch of the whole weights from column `o` is that stretch of the hidden units. -/
theorem part_cut (o : ℕ) (ho : o + 256 ≤ 2816) (h h') :
    part x (View.ld (Val := Elt Ideal) A (Rect.unit (s := S1024x2816) ![0, o] S1024x256.size h)) (View.ld (Val := Elt Ideal) B (Rect.unit (s := S1024x2816) ![0, o] S1024x256.size h))
      (View.ld (Val := Elt Ideal) D (Rect.unit (s := S2816x1024) ![o, 0] S256x1024.size h')) r j
    = ∑ k : Fin 256, hid x r j A B D ⟨o + k, by omega⟩ := by
  unfold part hid
  pointwise

/-- The offset of a whole block is zero on both axes. -/
theorem hz : (![0, 0] : Fin 2 → Nat) = fun _ => 0 := funext fun a => by fin_cases a <;> rfl

/-- What the body leaves in its output block, at an index: the layer norm of the residual sum whose branch is the sum over
    all the hidden units. -/
theorem out_apply (g h : Vec Ideal S1x1024 .f32) :
    out0_6 (F := Ideal) x A B D g h (ix2 r j)
      = lnorm (fun c => resid (x (ix2 r c)) (∑ k, hid x r c A B D k)) (g (ix2 0 j)) (h (ix2 0 j)) j := by
  unfold out0_6 k0_pay19
  rw [View.canon_unit_zero hz, View.ld_unit_zero hz, View.ld_unit_zero hz, View.ld_unit_zero hz, pay1_apply]
  congr 1
  funext c
  rw [pay18_apply, pay16_apply, pay13_apply, pay9_apply, pay5_apply, pay3_apply]
  congr 1
  rw [part_cut x r c A B D 0 (by decide), part_cut x r c A B D 256 (by decide), part_cut x r c A B D 512 (by decide),
    part_cut x r c A B D 768 (by decide), part_cut x r c A B D 1024 (by decide), part_cut x r c A B D 1280 (by decide),
    part_cut x r c A B D 1536 (by decide), part_cut x r c A B D 1792 (by decide), part_cut x r c A B D 2048 (by decide),
    part_cut x r c A B D 2304 (by decide), part_cut x r c A B D 2560 (by decide)]
  have h0 : ∑ k : Fin 256, hid x r c A B D ⟨0 + k, by omega⟩ = ∑ k : Fin 256, hid x r c A B D ⟨k, by omega⟩ :=
    Finset.sum_congr rfl fun k _ => by congr 1; exact Fin.ext (Nat.zero_add _)
  rw [h0, sum_grow (hid x r c A B D) 256 256 512 rfl (by decide), sum_grow (hid x r c A B D) 512 256 768 rfl (by decide),
    sum_grow (hid x r c A B D) 768 256 1024 rfl (by decide), sum_grow (hid x r c A B D) 1024 256 1280 rfl (by decide),
    sum_grow (hid x r c A B D) 1280 256 1536 rfl (by decide), sum_grow (hid x r c A B D) 1536 256 1792 rfl (by decide),
    sum_grow (hid x r c A B D) 1792 256 2048 rfl (by decide), sum_grow (hid x r c A B D) 2048 256 2304 rfl (by decide),
    sum_grow (hid x r c A B D) 2304 256 2560 rfl (by decide), sum_grow (hid x r c A B D) 2560 256 2816 rfl (by decide)]

end Cert.FfnBlock
-- ==== Proof.FfnRef.lean ====
module
public import proofs.«01_k».proof.Proof.Gen.Reference2Ideal.Run
public import proofs.«01_k».proof.Proof.Gen.Reference2Ideal.Read
public import proofs.«01_k».proof.Proof.Swiglu
/-! What the dense feed-forward reference computes, index by index. -/

@[expose] public section
set_option maxRecDepth 16384
noncomputable section
open Idealize.ShloMosaic Idealize.ShloMosaic.TcCoe Idealize.SL.Sem
open Cert.Reference2Ideal Cert.Reference2Ideal.Gen Cert.Swiglu
namespace Cert.FfnRef

variable (x : FVec Ideal S16384x1024 .f32) (a b : FVec Ideal S1024x2816 .f32) (d : FVec Ideal S2816x1024 .f32) (g h : FVec Ideal S1024 .f32) (r : Fin 16384) (j : Fin 1024)

/-- Hidden unit `k` of the reference on row `r` and output `j`. -/
def hid (k : Fin 2816) : EReal :=
  unit (fun i => x (ix2 r i)) (fun i => a (ix2 i k)) (fun i => b (ix2 i k)) (d (ix2 k j))

/-- The residual sum at an index. -/
theorem resid_apply : Read.val_main_v7 (F := Ideal) x a b d (ix2 r j) = resid (x (ix2 r j)) (∑ k, hid x a b d r j k) := by
  pointwise [Read.val_main_v7, Read.val_main_v6, Read.val_main_v5, Read.val_main_cst, Read.val_main_v4,Read.val_main_v3,Read.val_main_v2,Read.val_main_v1,Read.val_main_v0,Read.val_main_call0_v5, Read.val_main_call0_v4, Read.val_main_call0_v3, Read.val_main_call0_v2, Read.val_main_call0_v1, Read.val_main_call0_v0, Read.val_main_call0_cst, Read.val_main_call0_cst_0, resid, hid, unit, gated]
  simp only [zero_sub]

/-- The reference's result at an index is the layer norm of the residual sums of its row. -/
theorem lnorm_apply : Read.val_main_v29 (F := Ideal) x a b d g h (ix2 r j)
    = lnorm (fun c => Read.val_main_v7 (F := Ideal) x a b d (ix2 r c)) (g (ix1 j)) (h (ix1 j)) j := by
  pointwise [Read.val_main_v29, Read.val_main_v28, Read.val_main_v27, Read.val_main_v26, Read.val_main_v25, Read.val_main_v24, Read.val_main_v23, Read.val_main_v22, Read.val_main_v21, Read.val_main_v20, Read.val_main_v19, Read.val_main_v18, Read.val_main_v17, Read.val_main_v16, Read.val_main_v15, Read.val_main_v14, Read.val_main_v13, Read.val_main_v12, Read.val_main_v11, Read.val_main_v10, Read.val_main_v9, Read.val_main_v8, Read.val_main_cst_0, Read.val_main_cst_1, Read.val_main_cst_2, Read.val_main_cst_3, Read.val_main_cst_4, lnorm]

/-- The whole result at an index, from the arguments. -/
def ffn : EReal := lnorm (fun c => resid (x (ix2 r c)) (∑ k, hid x a b d r c k)) (g (ix1 j)) (h (ix1 j)) j

/-- The reference's result at an index, from the arguments. -/
theorem ffn_apply : Read.val_main_v29 (F := Ideal) x a b d g h (ix2 r j) = ffn x a b d g h r j := by
  rw [lnorm_apply, ffn]
  congr 1
  funext c
  exact resid_apply x a b d r c

end Cert.FfnRef
-- ==== Proof.FfnRun.lean ====
module

public import proofs.«01_k».proof.Proof.FfnBlock
public import proofs.«01_k».proof.Defs
public import Idealize.ShloMosaic.Lib.Claim
public import Idealize.ShloMosaic.Lib.Quiescent
public import proofs.«01_k».proof.Proof.Gen.Kernel2.Frame
public import proofs.«01_k».proof.Proof.FfnRef

/-! What the whole grid of the dense feed-forward leaves, and that program's claims. -/

@[expose] public section

set_option maxRecDepth 16384

noncomputable section

open Idealize.ShloMosaic Idealize.ShloMosaic.TcCoe Idealize.SL.Sem
open Cert.Kernel2Ideal Cert.Kernel2Ideal.Gen Cert.Swiglu

namespace Cert.FfnRun

variable (m : (ℓ : Loc nD τ sig) → Buf (Elt Ideal) ℓ) (ρ : Dev nD → PrngReg)

/-- The blocks' indices: the activations' and the result's step with the grid point, the others stay. -/
theorem idx_facts : ∀ t : Fin cfg0.N, (win0_0.index t 0 = t.val ∧ win0_0.index t 1 = 0) ∧ (win0_6.index t 0 = t.val ∧ win0_6.index t 1 = 0)
    ∧ (win0_1.index t 0 = 0 ∧ win0_1.index t 1 = 0) ∧ (win0_2.index t 0 = 0 ∧ win0_2.index t 1 = 0)
    ∧ (win0_3.index t 0 = 0 ∧ win0_3.index t 1 = 0) ∧ (win0_4.index t 0 = 0 ∧ win0_4.index t 1 = 0) ∧ (win0_5.index t 0 = 0 ∧ win0_5.index t 1 = 0) :=
  (by decide +kernel : ∀ t : Fin grid0.N, _)

/-- There are 32 blocks of rows. -/
theorem t_lt (t : Fin cfg0.N) : t.val < 32 := lt_of_lt_of_eq t.isLt N_0

/-- Row `r` of block `t` of the 16384 rows. -/
def row (t : Fin cfg0.N) (r : Fin 512) : Fin 16384 := ⟨512 * t.val + r.val, by have := t_lt t; omega⟩

/-- Where an index of the output block lies in the result. -/
theorem emb6 (t : Fin cfg0.N) (r : Fin 512) (j : Fin 1024) : ((cfg0.win 6).blk t).view.emb (ix2 r j) = ix2 (row t r) j := by
  obtain ⟨_, ⟨e0, e1⟩, _⟩ := idx_facts t
  funext a; apply Fin.ext
  match a with
  | ⟨0, _⟩ => show win0_6.index t (0 : Fin 2) * 512 + 1 * r.val = 512 * t.val + r.val; omega
  | ⟨1, _⟩ => show win0_6.index t (1 : Fin 2) * 1024 + 1 * j.val = j.val; omega

/-- The activations' block at point `t` is rows `512 t` onward. -/
theorem iblk0 (c : Dev nD) (t : Fin cfg0.N) (r : Fin 512) (j : Fin 1024) :
    iblk m c 0 t (ix2 r j) = m ((c : Thread nD τ).loc main_arg0) (ix2 (row t r) j) := by
  obtain ⟨⟨e0, e1⟩, _⟩ := idx_facts t
  show V m c main_arg0 (((cfg0.win 0).blk t).view.emb (ix2 r j)) = _
  rw [V_main_arg0]
  congr 1
  funext a; apply Fin.ext
  match a with
  | ⟨0, _⟩ => show win0_0.index t (0 : Fin 2) * 512 + 1 * r.val = 512 * t.val + r.val; omega
  | ⟨1, _⟩ => show win0_0.index t (1 : Fin 2) * 1024 + 1 * j.val = j.val; omega

/-- The gate weights the call reads are the argument's. -/
theorem V0 (c : Dev nD) (i : Fin 1024) (k : Fin 2816) : V m c main_v0 (ix2 i k) = m ((c : Thread nD τ).loc main_arg1) (ix2 i k) := by
  unfold_abbrev_sides; after_results; rfl
/-- The up weights the call reads are the argument's. -/
theorem V1 (c : Dev nD) (i : Fin 1024) (k : Fin 2816) : V m c main_v1 (ix2 i k) = m ((c : Thread nD τ).loc main_arg2) (ix2 i k) := by
  unfold_abbrev_sides; after_results; rfl
/-- The down weights the call reads are the argument's. -/
theorem V2 (c : Dev nD) (k : Fin 2816) (i : Fin 1024) : V m c main_v2 (ix2 k i) = m ((c : Thread nD τ).loc main_arg3) (ix2 k i) := by
  unfold_abbrev_sides; after_results; rfl
/-- The norm's scale the call reads are the argument's. -/
theorem V3 (c : Dev nD) (i : Fin 1024) : V m c main_v3 (ix2 0 i) = m ((c : Thread nD τ).loc main_arg4) (ix1 i) := by
  unfold_abbrev_sides; after_results; pointwise
/-- The norm's shift the call reads are the argument's. -/
theorem V4 (c : Dev nD) (i : Fin 1024) : V m c main_v4 (ix2 0 i) = m ((c : Thread nD τ).loc main_arg5) (ix1 i) := by
  unfold_abbrev_sides; after_results; pointwise

/-- The block of the gate weights at any point is the whole argument. -/
theorem iblk1 (c : Dev nD) (t : Fin cfg0.N) (i : Fin 1024) (k : Fin 2816) :
    iblk m c 1 t (ix2 i k) = m ((c : Thread nD τ).loc main_arg1) (ix2 i k) := by
  obtain ⟨_, _, ⟨e0, e1⟩, _⟩ := idx_facts t
  rw [← V0 m]
  show V m c main_v0 (((cfg0.win 1).blk t).view.emb (ix2 i k)) = _
  congr 1
  funext a; apply Fin.ext
  match a with
  | ⟨0, _⟩ => show win0_1.index t (0 : Fin 2) * 1024 + 1 * i.val = i.val; omega
  | ⟨1, _⟩ => show win0_1.index t (1 : Fin 2) * 2816 + 1 * k.val = k.val; omega

/-- The block of the up weights at any point is the whole argument. -/
theorem iblk2 (c : Dev nD) (t : Fin cfg0.N) (i : Fin 1024) (k : Fin 2816) :
    iblk m c 2 t (ix2 i k) = m ((c : Thread nD τ).loc main_arg2) (ix2 i k) := by
  obtain ⟨_, _, _, ⟨e0, e1⟩, _⟩ := idx_facts t
  rw [← V1 m]
  show V m c main_v1 (((cfg0.win 2).blk t).view.emb (ix2 i k)) = _
  congr 1
  funext a; apply Fin.ext
  match a with
  | ⟨0, _⟩ => show win0_2.index t (0 : Fin 2) * 1024 + 1 * i.val = i.val; omega
  | ⟨1, _⟩ => show win0_2.index t (1 : Fin 2) * 2816 + 1 * k.val = k.val; omega

/-- The block of the down weights at any point is the whole argument. -/
theorem iblk3 (c : Dev nD) (t : Fin cfg0.N) (k : Fin 2816) (i : Fin 1024) :
    iblk m c 3 t (ix2 k i) = m ((c : Thread nD τ).loc main_arg3) (ix2 k i) := by
  obtain ⟨_, _, _, _, ⟨e0, e1⟩, _⟩ := idx_facts t
  rw [← V2 m]
  show V m c main_v2 (((cfg0.win 3).blk t).view.emb (ix2 k i)) = _
  congr 1
  funext a; apply Fin.ext
  match a with
  | ⟨0, _⟩ => show win0_3.index t (0 : Fin 2) * 2816 + 1 * k.val = k.val; omega
  | ⟨1, _⟩ => show win0_3.index t (1 : Fin 2) * 1024 + 1 * i.val = i.val; omega

/-- The block of the norm's scale at any point is the whole argument. -/
theorem iblk4 (c : Dev nD) (t : Fin cfg0.N) (i : Fin 1024) :
    iblk m c 4 t (ix2 0 i) = m ((c : Thread nD τ).loc main_arg4) (ix1 i) := by
  obtain ⟨_, _, _, _, _, ⟨e0, e1⟩, _⟩ := idx_facts t
  rw [← V3 m]
  show V m c main_v3 (((cfg0.win 4).blk t).view.emb (ix2 0 i)) = _
  congr 1
  funext a; apply Fin.ext
  match a with
  | ⟨0, _⟩ => show win0_4.index t (0 : Fin 2) * 1 + 1 * 0 = 0; omega
  | ⟨1, _⟩ => show win0_4.index t (1 : Fin 2) * 1024 + 1 * i.val = i.val; omega

/-- The block of the norm's shift at any point is the whole argument. -/
theorem iblk5 (c : Dev nD) (t : Fin cfg0.N) (i : Fin 1024) :
    iblk m c 5 t (ix2 0 i) = m ((c : Thread nD τ).loc main_arg5) (ix1 i) := by
  obtain ⟨_, _, _, _, _, _, ⟨e0, e1⟩⟩ := idx_facts t
  rw [← V4 m]
  show V m c main_v4 (((cfg0.win 5).blk t).view.emb (ix2 0 i)) = _
  congr 1
  funext a; apply Fin.ext
  match a with
  | ⟨0, _⟩ => show win0_5.index t (0 : Fin 2) * 1 + 1 * 0 = 0; omega
  | ⟨1, _⟩ => show win0_5.index t (1 : Fin 2) * 1024 + 1 * i.val = i.val; omega

/-- The result array after the run, at row `r` of block `t`. -/
theorem final_row (c : Dev nD) (t : Fin cfg0.N) (r : Fin 512) (j : Fin 1024) :
    (dats m 0 c).arrAt 6 cfg0.N (ix2 (row t r) j)
      = FfnRef.ffn (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (row t r) j := by
  have b := congrFun (Value.blocks6 m c t (flush0_6 t)) (ix2 r j)
  rw [Value.flushed6] at b
  have b' : (dats m 0 c).arrAt 6 cfg0.N (((cfg0.win 6).blk t).view.emb (ix2 r j)) = out0_6 (iblk m c 0 t) (iblk m c 1 t) (iblk m c 2 t) (iblk m c 3 t) (iblk m c 4 t) (iblk m c 5 t) (ix2 r j) := b
  rw [emb6, FfnBlock.out_apply] at b'
  rw [b', FfnRef.ffn]
  unfold FfnBlock.hid FfnRef.hid
  simp only [iblk0, iblk1, iblk2, iblk3, iblk4, iblk5]

/-- The result array after the run is the reference's term of the arguments. -/
theorem final (c : Dev nD) : (dats m 0 c).arrAt 6 cfg0.N
    = Reference2Ideal.Read.val_main_v29 (F := Ideal) (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  refine funext fun (i : S16384x1024.Idx) => ?_
  have hi : (i 0).val < 16384 := (i 0).isLt
  have e : i = ix2 (row ⟨(i 0).val / 512, by rw [show cfg0.N = 32 from N_0]; omega⟩ ⟨(i 0).val % 512, by omega⟩) (i 1) := by
    funext a
    match a with
    | ⟨0, _⟩ => exact Fin.ext (Nat.div_add_mod _ 512).symm
    | ⟨1, _⟩ => rfl
  rw [e]
  exact (final_row m c _ _ _).trans (FfnRef.ffn_apply ..).symm

end Cert.FfnRun

/-! ## The claims -/

namespace Cert.Ffn

/-- The dense FFN kernel runs to the end and changes nothing of its arguments, on machine words. -/
theorem frame_kernel : Cert.quiescent_Kernel2 := fun m ρ _ => Cert.Kernel2.Gen.frame m ρ

/-- and over the extended reals. -/
theorem frame_ideal : Cert.quiescent_Kernel2Ideal := fun m ρ _ => Cert.Kernel2Ideal.Gen.frame m ρ

/-- The reference runs to the end and changes nothing of its arguments. -/
theorem frame_reference : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- From equal arguments both leave the same array. -/
theorem algebraic : Cert.algebraic_Kernel2Ideal_Reference2Ideal := by
  pair_intro
  · run_from Cert.Kernel2Ideal.Value.run_blocks m g
  · run_from Cert.Reference2Ideal.Value.run m' g'
    rw [Reference2Ideal.Read.val_main_v29_eq, FfnRun.final]
    obtain ⟨h0, h1, h2, h3, h4, h5⟩ := hagree c
    rw [h0, h1, h2, h3, h4, h5]

end Cert.Ffn
-- ==== Proof.MoeWord.lean ====
/-
  What the expert call computes from the count word alone: the number of row tiles, the rows each trip reads and writes,
  and that for a count of at most 1024 every row it names lies inside the buffers.
-/
module

public import proofs.«01_k».proof.Proof.Gen.KernelIdeal.Skeleton

@[expose] public section

set_option maxRecDepth 16384

noncomputable section

namespace Cert.Moe

open Idealize.ShloMosaic Cert.KernelIdeal Cert.KernelIdeal.Gen

/-- The number of tiles of 288 rows that hold `n` rows. -/
def tiles (n : ℕ) : ℕ := (n + 287) / 288

/-- A count of at most 1024 rows fills at most four tiles. -/
theorem tiles_le {n : ℕ} (h : n ≤ 1024) : tiles n ≤ 4 := by unfold tiles; omega

/-- The gathering loop runs once for each tile. -/
theorem trips1 : ∀ n : Fin 1025, (k1_t1_loop (BitVec.ofNat 32 n.val)).trips = tiles n.val := by decide +kernel
/-- The gathering loop's remainder part never runs. -/
theorem trips2 : ∀ n : Fin 1025, (k1_t2_loop (BitVec.ofNat 32 n.val)).trips = 0 := by decide +kernel
/-- The expert loop runs once for each tile. -/
theorem trips3 : ∀ n : Fin 1025, (k1_t3_loop (BitVec.ofNat 32 n.val)).trips = tiles n.val := by decide +kernel
/-- The expert loop's remainder part never runs. -/
theorem trips4 : ∀ n : Fin 1025, (k1_t4_loop (BitVec.ofNat 32 n.val)).trips = 0 := by decide +kernel
/-- The scattering loop runs once for each tile. -/
theorem trips5 : ∀ n : Fin 1025, (k1_t5_loop (BitVec.ofNat 32 n.val)).trips = tiles n.val := by decide +kernel
/-- The scattering loop's remainder part never runs. -/
theorem trips6 : ∀ n : Fin 1025, (k1_t6_loop (BitVec.ofNat 32 n.val)).trips = 0 := by decide +kernel

/-- Trip `k` of the gathering loop writes the gathered rows from row `288 k`. -/
theorem off3 : ∀ (n : Fin 1025) (k : Fin (k1_t1_loop (BitVec.ofNat 32 n.val)).trips), k1_off3 (BitVec.ofNat 32 n.val) k = ![288 * k.val, 0] := by decide +kernel
/-- Trip `k` of the expert loop works from row `288 k`: the first of its offsets. -/
theorem off5 : ∀ (n : Fin 1025) (k : Fin (k1_t3_loop (BitVec.ofNat 32 n.val)).trips), k1_off5 (BitVec.ofNat 32 n.val) k = ![288 * k.val, 0] := by decide +kernel
/-- The second offset of the expert loop, likewise. -/
theorem off6 : ∀ (n : Fin 1025) (k : Fin (k1_t3_loop (BitVec.ofNat 32 n.val)).trips), k1_off6 (BitVec.ofNat 32 n.val) k = ![288 * k.val, 0] := by decide +kernel
/-- The third offset of the expert loop, likewise. -/
theorem off7 : ∀ (n : Fin 1025) (k : Fin (k1_t3_loop (BitVec.ofNat 32 n.val)).trips), k1_off7 (BitVec.ofNat 32 n.val) k = ![288 * k.val, 0] := by decide +kernel
/-- Trip `k` of the scattering loop reads the computed rows from row `288 k`. -/
theorem off11 : ∀ (n : Fin 1025) (k : Fin (k1_t5_loop (BitVec.ofNat 32 n.val)).trips), k1_off11 (BitVec.ofNat 32 n.val) k = ![288 * k.val, 0] := by decide +kernel

/-- The gathering loop's bounds are well formed. -/
theorem ok1 : ∀ n : Fin 1025, (k1_t1_loop (BitVec.ofNat 32 n.val)).OK := by decide +kernel
/-- So are those of the gathering loop's remainder. -/
theorem ok2 : ∀ n : Fin 1025, (k1_t2_loop (BitVec.ofNat 32 n.val)).OK := by decide +kernel
/-- The expert loop's bounds are well formed. -/
theorem ok3 : ∀ n : Fin 1025, (k1_t3_loop (BitVec.ofNat 32 n.val)).OK := by decide +kernel
/-- So are those of the expert loop's remainder. -/
theorem ok4 : ∀ n : Fin 1025, (k1_t4_loop (BitVec.ofNat 32 n.val)).OK := by decide +kernel
/-- The scattering loop's bounds are well formed. -/
theorem ok5 : ∀ n : Fin 1025, (k1_t5_loop (BitVec.ofNat 32 n.val)).OK := by decide +kernel
/-- So are those of the scattering loop's remainder. -/
theorem ok6 : ∀ n : Fin 1025, (k1_t6_loop (BitVec.ofNat 32 n.val)).OK := by decide +kernel

/-- The base row of each trip of the gathering loop is a multiple of 288. -/
theorem mult1 : ∀ (n : Fin 1025) (k : Fin (k1_t1_loop (BitVec.ofNat 32 n.val)).trips), 288 ∣ (k1_mult1 (BitVec.ofNat 32 n.val) k).toNat := by decide +kernel
/-- The base row of each trip of the expert loop is a multiple of 288. -/
theorem mult3 : ∀ (n : Fin 1025) (k : Fin (k1_t3_loop (BitVec.ofNat 32 n.val)).trips), 288 ∣ (k1_mult3 (BitVec.ofNat 32 n.val) k).toNat := by decide +kernel
/-- The base row of each trip of the scattering loop is a multiple of 288. -/
theorem mult5 : ∀ (n : Fin 1025) (k : Fin (k1_t5_loop (BitVec.ofNat 32 n.val)).trips), 288 ∣ (k1_mult5 (BitVec.ofNat 32 n.val) k).toNat := by decide +kernel

/-- A trip of the gathering loop is one of at most four. -/
theorem lt4_1 (n : Fin 1025) (k : Fin (k1_t1_loop (BitVec.ofNat 32 n.val)).trips) : k.val < 4 :=
  lt_of_lt_of_le k.isLt ((trips1 n).trans_le (tiles_le (Nat.lt_succ_iff.mp n.isLt)))
/-- A trip of the expert loop is one of at most four. -/
theorem lt4_3 (n : Fin 1025) (k : Fin (k1_t3_loop (BitVec.ofNat 32 n.val)).trips) : k.val < 4 :=
  lt_of_lt_of_le k.isLt ((trips3 n).trans_le (tiles_le (Nat.lt_succ_iff.mp n.isLt)))
/-- A trip of the scattering loop is one of at most four. -/
theorem lt4_5 (n : Fin 1025) (k : Fin (k1_t5_loop (BitVec.ofNat 32 n.val)).trips) : k.val < 4 :=
  lt_of_lt_of_le k.isLt ((trips5 n).trans_le (tiles_le (Nat.lt_succ_iff.mp n.isLt)))

/-- A tile of 288 rows at a tile's offset lies inside the 1248 rows. -/
theorem inb288 {k : ℕ} (h : k < 4) : ∀ a, (![288 * k, 0] : Fin 2 → ℕ) a + S288x1024.size a ≤ S1248x1024.size a := by
  intro a
  match a with
  | ⟨0, _⟩ => show 288 * k + 288 ≤ 1248; omega
  | ⟨1, _⟩ => show 0 + 1024 ≤ 1024; omega

/-- The 384 rows read back at a tile's offset lie inside the 1248 rows. -/
theorem inb384 {k : ℕ} (h : k < 4) : ∀ a, (![288 * k, 0] : Fin 2 → ℕ) a + S384x1024.size a ≤ S1248x1024.size a := by
  intro a
  match a with
  | ⟨0, _⟩ => show 288 * k + 384 ≤ 1248; omega
  | ⟨1, _⟩ => show 0 + 1024 ≤ 1024; omega

/-- A tile of 288 rows of 16-bit elements starts and ends on whole packed rows. -/
theorem packed (k : Fin 4) : ∀ hinb : ∀ a, (![288 * k.val, 0] : Fin 2 → ℕ) a + S288x1024.size a ≤ S1248x1024.size a,
    (Rect.unit (s := S1248x1024) (![288 * k.val, 0] : Fin 2 → ℕ) S288x1024.size hinb).PackedRows (EltTy.packing .bf16) := by
  revert k; decide +kernel

/-- Everything the body assumes of the count word it reads holds of a count of at most 1024. -/
theorem chk_of_le (i : grid1.Coords) (n : Fin 1025) : k1_chk1 i (BitVec.ofNat 32 n.val) := by
  have no2 : ∀ k : Fin (k1_t2_loop (BitVec.ofNat 32 n.val)).trips, False := fun k => absurd k.isLt (by have := trips2 n; omega)
  have no4 : ∀ k : Fin (k1_t4_loop (BitVec.ofNat 32 n.val)).trips, False := fun k => absurd k.isLt (by have := trips4 n; omega)
  have no6 : ∀ k : Fin (k1_t6_loop (BitVec.ofNat 32 n.val)).trips, False := fun k => absurd k.isLt (by have := trips6 n; omega)
  refine ⟨fun _ => ok1 n, fun k _ => mult1 n k, fun k _ => ?_, fun k _ => ?_, fun _ => ok2 n, fun k => (no2 k).elim, fun k => (no2 k).elim,
    fun k => (no2 k).elim, ok3 n, mult3 n, fun k => ?_, fun k _ => ?_, fun k _ => ?_, ok4 n, fun k => (no4 k).elim, fun k => (no4 k).elim,
    fun k => (no4 k).elim, fun k => (no4 k).elim, fun _ => ok5 n, fun k _ => mult5 n k, fun k _ => ?_, fun _ => ok6 n,
    fun k => (no6 k).elim, fun k => (no6 k).elim⟩
  · rw [off3 n k]; exact inb288 (lt4_1 n k)
  · rw [off3 n k]; exact packed ⟨k.val, lt4_1 n k⟩
  · rw [off5 n k]; exact inb288 (lt4_3 n k)
  · rw [off6 n k]; exact inb288 (lt4_3 n k)
  · rw [off7 n k]; exact inb288 (lt4_3 n k)
  · rw [off11 n k]; exact inb384 (lt4_5 n k)

end Cert.Moe

end
-- ==== Proof.MoeTiles.lean ====
module

public import proofs.«01_k».proof.Proof.Gen.KernelIdeal.Loops
public import proofs.«01_k».proof.Proof.MoeWord
public import Idealize.ShloMosaic.Lib.WritesUnit
public import Idealize.ShloMosaic.Lib.VecWindow
public import Idealize.ShloMosaic.Lib.Pointwise
public import Idealize.ShloMosaic.Lib.Pipeline.ValueKit.Tiles
public import Idealize.ShloMosaic.Lib.Pipeline.FrameBody
public import Idealize.ShloMosaic.Lib.Tactic

/-! What the three counted loops of the expert kernel leave: the gathered rows, the rows of products, and the
tokens' sums, each as a function of what the loop reads. -/

@[expose] public section
set_option maxRecDepth 16384
noncomputable section
namespace Cert.Moe
open Idealize.ShloMosaic Idealize.ShloMosaic.TcCoe Idealize.ShloMosaic.Tactic Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
variable {F : FTy → Type} [FloatOps F]
local notation "𝕄" => MT nD τ sig Unit (Elt F) ℕ (UR sig nD τ) ℕ

/-! ## Rows filled tile by tile -/

/-- `x` with its first `m` tiles of 288 rows replaced by `T 0`, …, `T (m - 1)`. -/
def fill {e : EltTy} (T : ℕ → Vec F S288x1024 e) (m : ℕ) (x : Vec F S1248x1024 e) : Vec F S1248x1024 e := fun i =>
  if (i (0 : Fin 2)).val < 288 * m then
    T ((i (0 : Fin 2)).val / 288) (ix2 (⟨(i (0 : Fin 2)).val % 288, Nat.mod_lt _ (by decide)⟩ : Fin 288) (⟨(i (1 : Fin 2)).val, (i (1 : Fin 2)).isLt⟩ : Fin 1024))
  else x i

/-- Nothing is filled at first. -/
theorem fill_zero {e : EltTy} (T : ℕ → Vec F S288x1024 e) (x : Vec F S1248x1024 e) : fill T 0 x = x := by
  funext i; unfold fill; exact if_neg (by omega)

/-- A filled tile reads back. -/
theorem ld_fill {e : EltTy} (T : ℕ → Vec F S288x1024 e) (m k : ℕ) (x : Vec F S1248x1024 e) (hk : k < m)
    (inb : ∀ a, (![288 * k, 0] : Fin 2 → ℕ) a + S288x1024.size a ≤ S1248x1024.size a) :
    View.ld (Val := Elt F) (fill T m x) (Rect.unit (s := S1248x1024) ![288 * k, 0] S288x1024.size inb) = T k := by
  have hb : 288 * k + 288 ≤ 1248 := inb 0
  funext j
  have hj : (j (0 : Fin 2)).val < 288 := (j (0 : Fin 2)).isLt
  have hj1 : (j (1 : Fin 2)).val < 1024 := (j (1 : Fin 2)).isLt
  refine (View.ld_unit_apply_of _ _ _ inb j (ix2 (⟨288 * k + (j (0 : Fin 2)).val, by omega⟩ : Fin 1248) (⟨(j (1 : Fin 2)).val, hj1⟩ : Fin 1024)) (fun a => by
    match a with
    | ⟨0, _⟩ => rfl
    | ⟨1, _⟩ => exact (Nat.zero_add _).symm)).trans ?_
  unfold fill
  rw [if_pos (by show 288 * k + (j (0 : Fin 2)).val < 288 * m; omega)]
  have e0 : (288 * k + (j (0 : Fin 2)).val) / 288 = k := by omega
  have e1 : (288 * k + (j (0 : Fin 2)).val) % 288 = (j (0 : Fin 2)).val := by omega
  show T ((288 * k + (j (0 : Fin 2)).val) / 288) _ = T k j
  rw [e0]
  congr 1
  funext a; apply Fin.ext
  match a with
  | ⟨0, _⟩ => exact e1
  | ⟨1, _⟩ => rfl

/-- A tile not filled yet reads as before. -/
theorem ld_fill_ge {e : EltTy} (T : ℕ → Vec F S288x1024 e) (m k : ℕ) (x : Vec F S1248x1024 e) (hk : m ≤ k)
    (inb : ∀ a, (![288 * k, 0] : Fin 2 → ℕ) a + S288x1024.size a ≤ S1248x1024.size a) :
    View.ld (Val := Elt F) (fill T m x) (Rect.unit (s := S1248x1024) ![288 * k, 0] S288x1024.size inb)
      = View.ld (Val := Elt F) x (Rect.unit (s := S1248x1024) ![288 * k, 0] S288x1024.size inb) := by
  have hb : 288 * k + 288 ≤ 1248 := inb 0
  funext j
  have hj : (j (0 : Fin 2)).val < 288 := (j (0 : Fin 2)).isLt
  have hj1 : (j (1 : Fin 2)).val < 1024 := (j (1 : Fin 2)).isLt
  have hi : ∀ a, ((ix2 (⟨288 * k + (j (0 : Fin 2)).val, by omega⟩ : Fin 1248) (⟨(j (1 : Fin 2)).val, hj1⟩ : Fin 1024) : S1248x1024.Idx) a : ℕ) = (![288 * k, 0] : Fin 2 → ℕ) a + (j a).val := fun a => by
    match a with
    | ⟨0, _⟩ => rfl
    | ⟨1, _⟩ => exact (Nat.zero_add _).symm
  refine (View.ld_unit_apply_of _ _ _ inb j _ hi).trans ((?_ : _ = _).trans (View.ld_unit_apply_of x _ _ inb j _ hi).symm)
  unfold fill
  exact if_neg (by show ¬ 288 * k + (j (0 : Fin 2)).val < 288 * m; omega)

/-- A slice depends on its offsets alone. -/
theorem ld_at {S : Shape} {e : EltTy} (X : Vec F S e) {off off' size : Fin S.rank → ℕ} (h : off = off') (inb : ∀ a, off a + size a ≤ S.size a) (inb' : ∀ a, off' a + size a ≤ S.size a) :
    View.ld (Val := Elt F) X (Rect.unit off size inb) = View.ld (Val := Elt F) X (Rect.unit off' size inb') := by subst h; rfl

/-- Storing the next tile fills it. -/
theorem fill_store {e : EltTy} {κ : Kind} {spc : Space} (T : ℕ → Vec F S288x1024 e) (m : ℕ) (x : Vec F S1248x1024 e)
    (v : View sig κ spc S1248x1024 e) (f : BufTy.Contents (Elt F) v.ty) (off : Fin 2 → ℕ) (inb : ∀ a, off a + S288x1024.size a ≤ S1248x1024.size a)
    (w : Vec F S288x1024 e) (L : List (View.Piece (Elt F) S1248x1024 e)) (hoff : off = ![288 * m, 0]) (hw : w = T m)
    (hL : v.read (Elt F) (v.writes (Elt F) f L) = fill T m x) :
    v.read (Elt F) (v.writes (Elt F) f (⟨Rect.unit (s := S1248x1024) off S288x1024.size inb, w⟩ :: L)) = fill T (m + 1) x := by
  subst hw
  funext i
  by_cases h : 288 * m ≤ (i (0 : Fin 2)).val ∧ (i (0 : Fin 2)).val < 288 * m + 288
  · have hi1 : (i (1 : Fin 2)).val < 1024 := (i (1 : Fin 2)).isLt
    refine (View.read_writes_cons_rows_of_mem v f inb (T m) L i (ix2 (⟨(i (0 : Fin 2)).val - 288 * m, by omega⟩ : Fin 288) (⟨(i (1 : Fin 2)).val, hi1⟩ : Fin 1024)) hoff (by show _ = 288 * m + ((i (0 : Fin 2)).val - 288 * m); omega) rfl).trans ?_
    unfold fill
    rw [if_pos (by omega)]
    have e0 : (i (0 : Fin 2)).val / 288 = m := by omega
    have e1 : (i (0 : Fin 2)).val % 288 = (i (0 : Fin 2)).val - 288 * m := by omega
    rw [e0]
    congr 1
    funext a; apply Fin.ext
    match a with
    | ⟨0, _⟩ => exact e1.symm
    | ⟨1, _⟩ => rfl
  · refine (View.read_writes_cons_rows_of_not_mem (o := 288 * m) (W := 288) v f inb (T m) L i hoff rfl (by omega)).trans ?_
    rw [hL]
    unfold fill
    by_cases h' : (i (0 : Fin 2)).val < 288 * m
    · rw [if_pos h', if_pos (by omega)]
    · rw [if_neg h', if_neg (by omega)]

/-! ## The three results -/

/-- Tile `k` of an expert's rows: the block's tokens of ranks `288 k, …`. -/
def rowsOf (v3 : BitVec 32) (p : Vec F S1x1024 .f32) (x : Vec F S1024x1024 .bf16) (k : ℕ) : Vec F S288x1024 .bf16 :=
  if h : k < (k1_t1_loop v3).trips then k1_pay2 v3 p ⟨k, h⟩ x else fun _ => Scalar.ofBits .bf16 0x0000#16

/-- The first five chunks of a half's products. -/
def chunks (xt : Vec F S288x1024 .bf16) (wg wu : Vec F S1x1024x1408 .bf16) (wd : Vec F S1x1408x1024 .bf16) : FVec F S288x1024 .f32 :=
  k1_pay23 xt
    (k1_pay21 xt
      (k1_pay17 xt (View.ld (Val := Elt F) wg (Rect.unit (s := S1x1024x1408) ![0, 0, 0] S1x1024x256.size inb_S1x1024x1408_S1x1024x256_0_0_0))
        (View.ld (Val := Elt F) wu (Rect.unit (s := S1x1024x1408) ![0, 0, 0] S1x1024x256.size inb_S1x1024x1408_S1x1024x256_0_0_0))
        (View.ld (Val := Elt F) wd (Rect.unit (s := S1x1408x1024) ![0, 0, 0] S1x256x1024.size inb_S1x1408x1024_S1x256x1024_0_0_0)))
      (k1_pay18 xt (View.ld (Val := Elt F) wg (Rect.unit (s := S1x1024x1408) ![0, 0, 256] S1x1024x256.size inb_S1x1024x1408_S1x1024x256_0_0_256)))
      (k1_pay19 xt (View.ld (Val := Elt F) wu (Rect.unit (s := S1x1024x1408) ![0, 0, 256] S1x1024x256.size inb_S1x1024x1408_S1x1024x256_0_0_256)))
      (k1_pay20 xt (View.ld (Val := Elt F) wg (Rect.unit (s := S1x1024x1408) ![0, 0, 256] S1x1024x256.size inb_S1x1024x1408_S1x1024x256_0_0_256)))
      (Scalar.ofBits .f32 0x3F800000#32)
      (View.ld (Val := Elt F) wd (Rect.unit (s := S1x1408x1024) ![0, 256, 0] S1x256x1024.size inb_S1x1408x1024_S1x256x1024_0_256_0))
      (View.ld (Val := Elt F) wg (Rect.unit (s := S1x1024x1408) ![0, 0, 512] S1x1024x256.size inb_S1x1024x1408_S1x1024x256_0_0_512))
      (View.ld (Val := Elt F) wu (Rect.unit (s := S1x1024x1408) ![0, 0, 512] S1x1024x256.size inb_S1x1024x1408_S1x1024x256_0_0_512))
      (View.ld (Val := Elt F) wd (Rect.unit (s := S1x1408x1024) ![0, 512, 0] S1x256x1024.size inb_S1x1408x1024_S1x256x1024_0_512_0)))
    (k1_pay22 xt (View.ld (Val := Elt F) wg (Rect.unit (s := S1x1024x1408) ![0, 0, 768] S1x1024x256.size inb_S1x1024x1408_S1x1024x256_0_0_768)))
    (View.ld (Val := Elt F) wu (Rect.unit (s := S1x1024x1408) ![0, 0, 768] S1x1024x256.size inb_S1x1024x1408_S1x1024x256_0_0_768))
    (View.ld (Val := Elt F) wd (Rect.unit (s := S1x1408x1024) ![0, 768, 0] S1x256x1024.size inb_S1x1408x1024_S1x256x1024_0_768_0))

/-- The fifth chunk of a half's products. -/
def chunk5 (xt : Vec F S288x1024 .bf16) (wg wu : Vec F S1x1024x1408 .bf16) (wd : Vec F S1x1408x1024 .bf16) : FVec F S288x1024 .f32 :=
  k1_pay24 xt (View.ld (Val := Elt F) wg (Rect.unit (s := S1x1024x1408) ![0, 0, 1024] S1x1024x256.size inb_S1x1024x1408_S1x1024x256_0_0_1024))
    (View.ld (Val := Elt F) wu (Rect.unit (s := S1x1024x1408) ![0, 0, 1024] S1x1024x256.size inb_S1x1024x1408_S1x1024x256_0_0_1024))
    (View.ld (Val := Elt F) wd (Rect.unit (s := S1x1408x1024) ![0, 1024, 0] S1x256x1024.size inb_S1x1408x1024_S1x256x1024_0_1024_0))

/-- A tile's products over the first half of the hidden features. -/
def halfOf (xt : Vec F S288x1024 .bf16) (wg wu : Vec F S1x1024x1408 .bf16) (wd : Vec F S1x1408x1024 .bf16) : FVec F S288x1024 .f32 :=
  k1_pay5 xt (chunks xt wg wu wd) (chunk5 xt wg wu wd)
    (View.ld (Val := Elt F) wg (Rect.unit (s := S1x1024x1408) ![0, 0, 1280] S1x1024x128.size inb_S1x1024x1408_S1x1024x128_0_0_1280))
    (View.ld (Val := Elt F) wu (Rect.unit (s := S1x1024x1408) ![0, 0, 1280] S1x1024x128.size inb_S1x1024x1408_S1x1024x128_0_0_1280))
    (View.ld (Val := Elt F) wd (Rect.unit (s := S1x1408x1024) ![0, 1280, 0] S1x128x1024.size inb_S1x1408x1024_S1x128x1024_0_1280_0))

/-- A tile's products over the second half, added to the rows `y` found. -/
def addOf (xt : Vec F S288x1024 .bf16) (wg wu : Vec F S1x1024x1408 .bf16) (wd : Vec F S1x1408x1024 .bf16) (y : Vec F S288x1024 .f32) : FVec F S288x1024 .f32 :=
  k1_pay6 xt (chunks xt wg wu wd) (chunk5 xt wg wu wd)
    (View.ld (Val := Elt F) wg (Rect.unit (s := S1x1024x1408) ![0, 0, 1280] S1x1024x128.size inb_S1x1024x1408_S1x1024x128_0_0_1280))
    (View.ld (Val := Elt F) wu (Rect.unit (s := S1x1024x1408) ![0, 0, 1280] S1x1024x128.size inb_S1x1024x1408_S1x1024x128_0_0_1280))
    (View.ld (Val := Elt F) wd (Rect.unit (s := S1x1408x1024) ![0, 1280, 0] S1x128x1024.size inb_S1x1408x1024_S1x128x1024_0_1280_0)) y

/-- One trip's addition to the four row chunks of the tokens' sums: `yt` are the rows `288 k, …, 288 k + 383`. -/
def putOf (v3 a : BitVec 32) (k : Fin (k1_t5_loop v3).trips) (pos gate : Vec F S1024x128 .f32) (yt : Vec F S384x1024 .f32) (o : Vec F S1024x1024 .f32) : Vec F S1024x1024 .f32 := fun i =>
  let j : S256x1024.Idx := ix2 (⟨(i (0 : Fin 2)).val % 256, Nat.mod_lt _ (by decide)⟩ : Fin 256) (⟨(i (1 : Fin 2)).val, (i (1 : Fin 2)).isLt⟩ : Fin 1024)
  if (i (0 : Fin 2)).val < 256 then
    k1_pay35 v3 (k1_pay11 a pos) (k1_pay12 a gate) 0#32 1#32 k yt (View.ld (Val := Elt F) o (Rect.unit (s := S1024x1024) ![0, 0] S256x1024.size inb_S1024x1024_S256x1024_0_0)) j
  else if (i (0 : Fin 2)).val < 512 then
    k1_pay36 v3 (k1_pay11 a pos) (k1_pay12 a gate) 0#32 1#32 k yt (View.ld (Val := Elt F) o (Rect.unit (s := S1024x1024) ![256, 0] S256x1024.size inb_S1024x1024_S256x1024_256_0)) j
  else if (i (0 : Fin 2)).val < 768 then
    k1_pay13 a pos gate (k1_pay33 yt) (k1_pay34 v3 0#32 1#32 k) (View.ld (Val := Elt F) o (Rect.unit (s := S1024x1024) ![512, 0] S256x1024.size inb_S1024x1024_S256x1024_512_0)) j
  else
    k1_pay14 a pos gate (k1_pay33 yt) (k1_pay34 v3 0#32 1#32 k) (View.ld (Val := Elt F) o (Rect.unit (s := S1024x1024) ![768, 0] S256x1024.size inb_S1024x1024_S256x1024_768_0)) j

/-- Rows `288 k, …, 288 k + 383` of the products. -/
def band (y : Vec F S1248x1024 .f32) (k : ℕ) : Vec F S384x1024 .f32 :=
  if h : k < 4 then View.ld (Val := Elt F) y (Rect.unit (s := S1248x1024) ![288 * k, 0] S384x1024.size (inb384 h)) else fun _ => Scalar.ofBits .f32 0x00000000#32

/-- The tokens' sums after the first `m` trips. -/
def putTo (v3 a : BitVec 32) (pos gate : Vec F S1024x128 .f32) (y : Vec F S1248x1024 .f32) (o : Vec F S1024x1024 .f32) : ℕ → Vec F S1024x1024 .f32
  | 0 => o
  | m + 1 => if h : m < (k1_t5_loop v3).trips then putOf v3 a ⟨m, h⟩ pos gate (band y m) (putTo v3 a pos gate y o m) else putTo v3 a pos gate y o m

/-! ## What one trip stores -/

/-- One trip of the first loop stores one tile of rows. -/
theorem pieces1 (𝒱 : Variants) (c : Dev nD) (bd : Option 𝒱.V) (i : grid1.Coords) (arg3 : Memref sig .tc .smem S128 .i32) (harg3 : arg3.IsWhole) (arg4 : Memref sig .tc .vmem S1024x1024 .bf16) (harg4 : arg4.IsWhole) (arg5 : Memref sig .tc .vmem S8x1024 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1x1024x1408 .bf16) (harg8 : arg8.IsWhole) (arg9 : Memref sig .tc .vmem S1x1024x1408 .bf16) (harg9 : arg9.IsWhole) (arg10 : Memref sig .tc .vmem S1x1408x1024 .bf16) (harg10 : arg10.IsWhole) (arg11 : Memref sig .tc .vmem S1024x1024 .f32) (harg11 : arg11.IsWhole) (arg12 : Memref sig .tc .vmem S1248x1024 .bf16) (harg12 : arg12.IsWhole) (arg13 : Memref sig .tc .vmem S1248x1024 .f32) (harg13 : arg13.IsWhole) (v3 : Elt F .i32) (k1_hw1 : k1_chk1 i v3) (k1_h3 : k1_cond3 i = 1#1) (v47 : Vec F S1x1024 .f32) (X_arg4 : BufTy.Contents (Elt F) arg4.view.ty) (k : Fin (k1_t1_loop v3).trips) :
    tripL_k1_t1 (F := F) 𝒱 c bd i arg3 harg3 arg4 harg4 arg5 harg5 arg6 harg6 arg7 harg7 arg8 harg8 arg9 harg9 arg10 harg10 arg11 harg11 arg12 harg12 arg13 harg13 v3 k1_hw1 k1_h3 v47 X_arg4 k = [⟨Rect.unit (s := S1248x1024) (k1_off3 v3 k) S288x1024.size (k1_off3_inb i v3 k1_hw1 k k1_h3),
      k1_pay2 v3 v47 k (arg4.view.read (Elt F) X_arg4)⟩] := by
  unfold tripL_k1_t1 trip_k1_t1
  rw [← View.readAt_full _ _ (off := ![0, 0]) (by decide)]

/-- One trip of the second loop at a first half stores one tile of products. -/
theorem pieces3_first (𝒱 : Variants) (c : Dev nD) (bd : Option 𝒱.V) (i : grid1.Coords) (arg3 : Memref sig .tc .smem S128 .i32) (harg3 : arg3.IsWhole) (arg4 : Memref sig .tc .vmem S1024x1024 .bf16) (harg4 : arg4.IsWhole) (arg5 : Memref sig .tc .vmem S8x1024 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1x1024x1408 .bf16) (harg8 : arg8.IsWhole) (arg9 : Memref sig .tc .vmem S1x1024x1408 .bf16) (harg9 : arg9.IsWhole) (arg10 : Memref sig .tc .vmem S1x1408x1024 .bf16) (harg10 : arg10.IsWhole) (arg11 : Memref sig .tc .vmem S1024x1024 .f32) (harg11 : arg11.IsWhole) (arg12 : Memref sig .tc .vmem S1248x1024 .bf16) (harg12 : arg12.IsWhole) (arg13 : Memref sig .tc .vmem S1248x1024 .f32) (harg13 : arg13.IsWhole) (v3 : Elt F .i32) (k1_hw1 : k1_chk1 i v3) (X_arg8 : BufTy.Contents (Elt F) arg8.view.ty) (X_arg9 : BufTy.Contents (Elt F) arg9.view.ty) (X_arg10 : BufTy.Contents (Elt F) arg10.view.ty) (X_arg12 : BufTy.Contents (Elt F) arg12.view.ty) (k : Fin (k1_t3_loop v3).trips) (f_arg13 : BufTy.Contents (Elt F) arg13.view.ty) (h4 : k1_cond4 i = 1#1) (h5 : ¬ k1_cond5 i = 1#1) :
    tripL_k1_t3 (F := F) 𝒱 c bd i arg3 harg3 arg4 harg4 arg5 harg5 arg6 harg6 arg7 harg7 arg8 harg8 arg9 harg9 arg10 harg10 arg11 harg11 arg12 harg12 arg13 harg13 v3 k1_hw1 X_arg8 X_arg9 X_arg10 X_arg12 k f_arg13 = [⟨Rect.unit (s := S1248x1024) (k1_off6 v3 k) S288x1024.size (k1_off6_inb i v3 k1_hw1 k h4),
      halfOf (View.ld (Val := Elt F) (arg12.view.read (Elt F) X_arg12) (Rect.unit (s := S1248x1024) (k1_off5 v3 k) S288x1024.size (k1_off5_inb i v3 k1_hw1 k)))
        (arg8.view.read (Elt F) X_arg8) (arg9.view.read (Elt F) X_arg9) (arg10.view.read (Elt F) X_arg10)⟩] := by
  unfold tripL_k1_t3 trip_k1_t3
  rw [dif_pos h4, dif_neg h5]
  rfl

/-- One trip of the second loop at a second half adds one tile of products to the tile found. -/
theorem pieces3_second (𝒱 : Variants) (c : Dev nD) (bd : Option 𝒱.V) (i : grid1.Coords) (arg3 : Memref sig .tc .smem S128 .i32) (harg3 : arg3.IsWhole) (arg4 : Memref sig .tc .vmem S1024x1024 .bf16) (harg4 : arg4.IsWhole) (arg5 : Memref sig .tc .vmem S8x1024 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1x1024x1408 .bf16) (harg8 : arg8.IsWhole) (arg9 : Memref sig .tc .vmem S1x1024x1408 .bf16) (harg9 : arg9.IsWhole) (arg10 : Memref sig .tc .vmem S1x1408x1024 .bf16) (harg10 : arg10.IsWhole) (arg11 : Memref sig .tc .vmem S1024x1024 .f32) (harg11 : arg11.IsWhole) (arg12 : Memref sig .tc .vmem S1248x1024 .bf16) (harg12 : arg12.IsWhole) (arg13 : Memref sig .tc .vmem S1248x1024 .f32) (harg13 : arg13.IsWhole) (v3 : Elt F .i32) (k1_hw1 : k1_chk1 i v3) (X_arg8 : BufTy.Contents (Elt F) arg8.view.ty) (X_arg9 : BufTy.Contents (Elt F) arg9.view.ty) (X_arg10 : BufTy.Contents (Elt F) arg10.view.ty) (X_arg12 : BufTy.Contents (Elt F) arg12.view.ty) (k : Fin (k1_t3_loop v3).trips) (f_arg13 : BufTy.Contents (Elt F) arg13.view.ty) (h4 : ¬ k1_cond4 i = 1#1) (h5 : k1_cond5 i = 1#1) :
    tripL_k1_t3 (F := F) 𝒱 c bd i arg3 harg3 arg4 harg4 arg5 harg5 arg6 harg6 arg7 harg7 arg8 harg8 arg9 harg9 arg10 harg10 arg11 harg11 arg12 harg12 arg13 harg13 v3 k1_hw1 X_arg8 X_arg9 X_arg10 X_arg12 k f_arg13 = [⟨Rect.unit (s := S1248x1024) (k1_off7 v3 k) S288x1024.size (k1_off7_inb i v3 k1_hw1 k h5),
      addOf (View.ld (Val := Elt F) (arg12.view.read (Elt F) X_arg12) (Rect.unit (s := S1248x1024) (k1_off5 v3 k) S288x1024.size (k1_off5_inb i v3 k1_hw1 k)))
        (arg8.view.read (Elt F) X_arg8) (arg9.view.read (Elt F) X_arg9) (arg10.view.read (Elt F) X_arg10)
        (View.ld (Val := Elt F) (arg13.view.read (Elt F) f_arg13) (Rect.unit (s := S1248x1024) (k1_off7 v3 k) S288x1024.size (k1_off7_inb i v3 k1_hw1 k h5)))⟩] := by
  unfold tripL_k1_t3 trip_k1_t3
  rw [dif_neg h4, dif_pos h5]
  rfl

/-- One trip of the third loop stores the four row chunks. -/
theorem pieces5 (𝒱 : Variants) (c : Dev nD) (bd : Option 𝒱.V) (i : grid1.Coords) (arg3 : Memref sig .tc .smem S128 .i32) (harg3 : arg3.IsWhole) (arg4 : Memref sig .tc .vmem S1024x1024 .bf16) (harg4 : arg4.IsWhole) (arg5 : Memref sig .tc .vmem S8x1024 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1x1024x1408 .bf16) (harg8 : arg8.IsWhole) (arg9 : Memref sig .tc .vmem S1x1024x1408 .bf16) (harg9 : arg9.IsWhole) (arg10 : Memref sig .tc .vmem S1x1408x1024 .bf16) (harg10 : arg10.IsWhole) (arg11 : Memref sig .tc .vmem S1024x1024 .f32) (harg11 : arg11.IsWhole) (arg12 : Memref sig .tc .vmem S1248x1024 .bf16) (harg12 : arg12.IsWhole) (arg13 : Memref sig .tc .vmem S1248x1024 .f32) (harg13 : arg13.IsWhole) (arg1 : BitVec 32) (v3 : Elt F .i32) (k1_hw1 : k1_chk1 i v3) (k1_h8 : k1_cond8 i = 1#1) (v49 : Vec F S1024x128 .f32) (v55 : Vec F S1024x128 .f32) (X_arg13 : BufTy.Contents (Elt F) arg13.view.ty) (k : Fin (k1_t5_loop v3).trips) (f_arg11 : BufTy.Contents (Elt F) arg11.view.ty) (yt : Vec F S384x1024 .f32)
    (hyt : View.ld (Val := Elt F) (arg13.view.read (Elt F) X_arg13) (Rect.unit (s := S1248x1024) (k1_off11 v3 k) S384x1024.size (k1_off11_inb i v3 k1_hw1 k k1_h8)) = yt) :
    tripL_k1_t5 (F := F) 𝒱 c bd i arg3 harg3 arg4 harg4 arg5 harg5 arg6 harg6 arg7 harg7 arg8 harg8 arg9 harg9 arg10 harg10 arg11 harg11 arg12 harg12 arg13 harg13 arg1 v3 k1_hw1 k1_h8 v49 v55 X_arg13 k f_arg11 =
      [⟨Rect.unit (s := S1024x1024) ![768, 0] S256x1024.size inb_S1024x1024_S256x1024_768_0, k1_pay14 arg1 v49 v55 (k1_pay33 yt) (k1_pay34 v3 0#32 1#32 k) (View.ld (Val := Elt F) (arg11.view.read (Elt F) f_arg11) (Rect.unit (s := S1024x1024) ![768, 0] S256x1024.size inb_S1024x1024_S256x1024_768_0))⟩,
       ⟨Rect.unit (s := S1024x1024) ![512, 0] S256x1024.size inb_S1024x1024_S256x1024_512_0, k1_pay13 arg1 v49 v55 (k1_pay33 yt) (k1_pay34 v3 0#32 1#32 k) (View.ld (Val := Elt F) (arg11.view.read (Elt F) f_arg11) (Rect.unit (s := S1024x1024) ![512, 0] S256x1024.size inb_S1024x1024_S256x1024_512_0))⟩,
       ⟨Rect.unit (s := S1024x1024) ![256, 0] S256x1024.size inb_S1024x1024_S256x1024_256_0, k1_pay36 v3 (k1_pay11 arg1 v49) (k1_pay12 arg1 v55) 0#32 1#32 k yt (View.ld (Val := Elt F) (arg11.view.read (Elt F) f_arg11) (Rect.unit (s := S1024x1024) ![256, 0] S256x1024.size inb_S1024x1024_S256x1024_256_0))⟩,
       ⟨Rect.unit (s := S1024x1024) ![0, 0] S256x1024.size inb_S1024x1024_S256x1024_0_0, k1_pay35 v3 (k1_pay11 arg1 v49) (k1_pay12 arg1 v55) 0#32 1#32 k yt (View.ld (Val := Elt F) (arg11.view.read (Elt F) f_arg11) (Rect.unit (s := S1024x1024) ![0, 0] S256x1024.size inb_S1024x1024_S256x1024_0_0))⟩] := by
  subst hyt
  unfold tripL_k1_t5 trip_k1_t5
  rfl

/-! ## What the loops leave -/

/-- The first loop fills the gathered rows. -/
theorem loop1 (𝒱 : Variants) (c : Dev nD) (bd : Option 𝒱.V) (i : grid1.Coords) (arg3 : Memref sig .tc .smem S128 .i32) (harg3 : arg3.IsWhole) (arg4 : Memref sig .tc .vmem S1024x1024 .bf16) (harg4 : arg4.IsWhole) (arg5 : Memref sig .tc .vmem S8x1024 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1x1024x1408 .bf16) (harg8 : arg8.IsWhole) (arg9 : Memref sig .tc .vmem S1x1024x1408 .bf16) (harg9 : arg9.IsWhole) (arg10 : Memref sig .tc .vmem S1x1408x1024 .bf16) (harg10 : arg10.IsWhole) (arg11 : Memref sig .tc .vmem S1024x1024 .f32) (harg11 : arg11.IsWhole) (arg12 : Memref sig .tc .vmem S1248x1024 .bf16) (harg12 : arg12.IsWhole) (arg13 : Memref sig .tc .vmem S1248x1024 .f32) (harg13 : arg13.IsWhole) (n : Fin 1025) (v3 : Elt F .i32) (hv : v3 = BitVec.ofNat 32 n.val) (k1_hw1 : k1_chk1 i v3) (k1_h3 : k1_cond3 i = 1#1) (v47 : Vec F S1x1024 .f32) (X_arg4 : BufTy.Contents (Elt F) arg4.view.ty)  (G : BufTy.Contents (Elt F) arg12.view.ty) (m : ℕ) (hm : m ≤ tiles n.val) :
    arg12.view.read (Elt F) (arg12.view.writes (Elt F) G (pb_k1_t1 (F := F) 𝒱 c bd i arg3 harg3 arg4 harg4 arg5 harg5 arg6 harg6 arg7 harg7 arg8 harg8 arg9 harg9 arg10 harg10 arg11 harg11 arg12 harg12 arg13 harg13 v3 k1_hw1 k1_h3 v47 X_arg4 m))
      = fill (rowsOf v3 v47 (arg4.view.read (Elt F) X_arg4)) m (arg12.view.read (Elt F) G) := by
  subst hv
  induction m with
  | zero => rw [fill_zero]; rfl
  | succ m ih =>
    have hk : m < (k1_t1_loop (BitVec.ofNat 32 n.val)).trips := by rw [trips1]; omega
    have e := pb_k1_t1_succ (F := F) 𝒱 c bd i arg3 harg3 arg4 harg4 arg5 harg5 arg6 harg6 arg7 harg7 arg8 harg8 arg9 harg9 arg10 harg10 arg11 harg11 arg12 harg12 arg13 harg13 _ k1_hw1 k1_h3 v47 X_arg4 ⟨m, hk⟩
    refine (congrArg (fun L => arg12.view.read (Elt F) (arg12.view.writes (Elt F) G L)) e).trans ?_
    rw [pieces1]
    refine fill_store _ _ _ _ _ _ _ _ _ (off3 n ⟨m, hk⟩) ?_ (ih (by omega))
    unfold rowsOf; rw [dif_pos hk]

/-- The second loop at a first half fills the products. -/
theorem loop3_first (𝒱 : Variants) (c : Dev nD) (bd : Option 𝒱.V) (i : grid1.Coords) (arg3 : Memref sig .tc .smem S128 .i32) (harg3 : arg3.IsWhole) (arg4 : Memref sig .tc .vmem S1024x1024 .bf16) (harg4 : arg4.IsWhole) (arg5 : Memref sig .tc .vmem S8x1024 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1x1024x1408 .bf16) (harg8 : arg8.IsWhole) (arg9 : Memref sig .tc .vmem S1x1024x1408 .bf16) (harg9 : arg9.IsWhole) (arg10 : Memref sig .tc .vmem S1x1408x1024 .bf16) (harg10 : arg10.IsWhole) (arg11 : Memref sig .tc .vmem S1024x1024 .f32) (harg11 : arg11.IsWhole) (arg12 : Memref sig .tc .vmem S1248x1024 .bf16) (harg12 : arg12.IsWhole) (arg13 : Memref sig .tc .vmem S1248x1024 .f32) (harg13 : arg13.IsWhole) (n : Fin 1025) (v3 : Elt F .i32) (hv : v3 = BitVec.ofNat 32 n.val) (k1_hw1 : k1_chk1 i v3) (X_arg8 : BufTy.Contents (Elt F) arg8.view.ty) (X_arg9 : BufTy.Contents (Elt F) arg9.view.ty) (X_arg10 : BufTy.Contents (Elt F) arg10.view.ty) (X_arg12 : BufTy.Contents (Elt F) arg12.view.ty) (G_arg13 : BufTy.Contents (Elt F) arg13.view.ty)  (h4 : k1_cond4 i = 1#1) (h5 : ¬ k1_cond5 i = 1#1) (T : ℕ → Vec F S288x1024 .bf16)
    (hT : ∀ k < tiles n.val, ∀ inb, View.ld (Val := Elt F) (arg12.view.read (Elt F) X_arg12) (Rect.unit (s := S1248x1024) ![288 * k, 0] S288x1024.size inb) = T k)
    (m : ℕ) (hm : m ≤ tiles n.val) :
    arg13.view.read (Elt F) (arg13.view.writes (Elt F) G_arg13 (pb_k1_t3 (F := F) 𝒱 c bd i arg3 harg3 arg4 harg4 arg5 harg5 arg6 harg6 arg7 harg7 arg8 harg8 arg9 harg9 arg10 harg10 arg11 harg11 arg12 harg12 arg13 harg13 v3 k1_hw1 X_arg8 X_arg9 X_arg10 X_arg12 G_arg13 m))
      = fill (fun k => halfOf (T k) (arg8.view.read (Elt F) X_arg8) (arg9.view.read (Elt F) X_arg9) (arg10.view.read (Elt F) X_arg10)) m (arg13.view.read (Elt F) G_arg13) := by
  subst hv
  induction m with
  | zero => rw [fill_zero]; rfl
  | succ m ih =>
    have hk : m < (k1_t3_loop (BitVec.ofNat 32 n.val)).trips := by rw [trips3]; omega
    have e := pb_k1_t3_succ (F := F) 𝒱 c bd i arg3 harg3 arg4 harg4 arg5 harg5 arg6 harg6 arg7 harg7 arg8 harg8 arg9 harg9 arg10 harg10 arg11 harg11 arg12 harg12 arg13 harg13 _ k1_hw1 X_arg8 X_arg9 X_arg10 X_arg12 G_arg13 ⟨m, hk⟩
    refine (congrArg (fun L => arg13.view.read (Elt F) (arg13.view.writes (Elt F) G_arg13 L)) e).trans ?_
    rw [pieces3_first _ _ _ _ _ _ _ _ _ _ _ _ _ _ _ _ _ _ _ _ _ _ _ _ _ _  _ _ _ _ _ _ _ _ h4 h5]
    refine fill_store _ _ _ _ _ _ _ _ _ (off6 n ⟨m, hk⟩) ?_ (ih (by omega))
    congr 1
    rw [← hT m (by omega) (inb288 (lt4_3 n ⟨m, hk⟩))]
    exact ld_at _ (off5 n ⟨m, hk⟩) _ _

/-- The second loop at a second half adds to the products. -/
theorem loop3_second (𝒱 : Variants) (c : Dev nD) (bd : Option 𝒱.V) (i : grid1.Coords) (arg3 : Memref sig .tc .smem S128 .i32) (harg3 : arg3.IsWhole) (arg4 : Memref sig .tc .vmem S1024x1024 .bf16) (harg4 : arg4.IsWhole) (arg5 : Memref sig .tc .vmem S8x1024 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1x1024x1408 .bf16) (harg8 : arg8.IsWhole) (arg9 : Memref sig .tc .vmem S1x1024x1408 .bf16) (harg9 : arg9.IsWhole) (arg10 : Memref sig .tc .vmem S1x1408x1024 .bf16) (harg10 : arg10.IsWhole) (arg11 : Memref sig .tc .vmem S1024x1024 .f32) (harg11 : arg11.IsWhole) (arg12 : Memref sig .tc .vmem S1248x1024 .bf16) (harg12 : arg12.IsWhole) (arg13 : Memref sig .tc .vmem S1248x1024 .f32) (harg13 : arg13.IsWhole) (n : Fin 1025) (v3 : Elt F .i32) (hv : v3 = BitVec.ofNat 32 n.val) (k1_hw1 : k1_chk1 i v3) (X_arg8 : BufTy.Contents (Elt F) arg8.view.ty) (X_arg9 : BufTy.Contents (Elt F) arg9.view.ty) (X_arg10 : BufTy.Contents (Elt F) arg10.view.ty) (X_arg12 : BufTy.Contents (Elt F) arg12.view.ty) (G_arg13 : BufTy.Contents (Elt F) arg13.view.ty)  (h4 : ¬ k1_cond4 i = 1#1) (h5 : k1_cond5 i = 1#1) (T : ℕ → Vec F S288x1024 .bf16) (Y : ℕ → Vec F S288x1024 .f32)
    (hT : ∀ k < tiles n.val, ∀ inb, View.ld (Val := Elt F) (arg12.view.read (Elt F) X_arg12) (Rect.unit (s := S1248x1024) ![288 * k, 0] S288x1024.size inb) = T k)
    (hY : ∀ k < tiles n.val, ∀ inb, View.ld (Val := Elt F) (arg13.view.read (Elt F) G_arg13) (Rect.unit (s := S1248x1024) ![288 * k, 0] S288x1024.size inb) = Y k)
    (m : ℕ) (hm : m ≤ tiles n.val) :
    arg13.view.read (Elt F) (arg13.view.writes (Elt F) G_arg13 (pb_k1_t3 (F := F) 𝒱 c bd i arg3 harg3 arg4 harg4 arg5 harg5 arg6 harg6 arg7 harg7 arg8 harg8 arg9 harg9 arg10 harg10 arg11 harg11 arg12 harg12 arg13 harg13 v3 k1_hw1 X_arg8 X_arg9 X_arg10 X_arg12 G_arg13 m))
      = fill (fun k => addOf (T k) (arg8.view.read (Elt F) X_arg8) (arg9.view.read (Elt F) X_arg9) (arg10.view.read (Elt F) X_arg10) (Y k)) m (arg13.view.read (Elt F) G_arg13) := by
  subst hv
  induction m with
  | zero => rw [fill_zero]; rfl
  | succ m ih =>
    have hk : m < (k1_t3_loop (BitVec.ofNat 32 n.val)).trips := by rw [trips3]; omega
    have e := pb_k1_t3_succ (F := F) 𝒱 c bd i arg3 harg3 arg4 harg4 arg5 harg5 arg6 harg6 arg7 harg7 arg8 harg8 arg9 harg9 arg10 harg10 arg11 harg11 arg12 harg12 arg13 harg13 _ k1_hw1 X_arg8 X_arg9 X_arg10 X_arg12 G_arg13 ⟨m, hk⟩
    refine (congrArg (fun L => arg13.view.read (Elt F) (arg13.view.writes (Elt F) G_arg13 L)) e).trans ?_
    rw [pieces3_second _ _ _ _ _ _ _ _ _ _ _ _ _ _ _ _ _ _ _ _ _ _ _ _ _ _  _ _ _ _ _ _ _ _ h4 h5]
    refine fill_store _ _ _ _ _ _ _ _ _ (off7 n ⟨m, hk⟩) ?_ (ih (by omega))
    have eT := hT m (by omega) (inb288 (lt4_3 n ⟨m, hk⟩))
    have eY := hY m (by omega) (inb288 (lt4_3 n ⟨m, hk⟩))
    rw [← eT, ← eY, ← ld_fill_ge (e := .f32) (fun k => addOf (T k) (arg8.view.read (Elt F) X_arg8) (arg9.view.read (Elt F) X_arg9) (arg10.view.read (Elt F) X_arg10) (Y k)) m m _ le_rfl (inb288 (lt4_3 n ⟨m, hk⟩)), ← ih (by omega)]
    congr 1
    · exact ld_at _ (off5 n ⟨m, hk⟩) _ _
    · exact ld_at _ (off7 n ⟨m, hk⟩) _ _

/-- The third loop adds the rows to their tokens. -/
theorem loop5 (𝒱 : Variants) (c : Dev nD) (bd : Option 𝒱.V) (i : grid1.Coords) (arg3 : Memref sig .tc .smem S128 .i32) (harg3 : arg3.IsWhole) (arg4 : Memref sig .tc .vmem S1024x1024 .bf16) (harg4 : arg4.IsWhole) (arg5 : Memref sig .tc .vmem S8x1024 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1x1024x1408 .bf16) (harg8 : arg8.IsWhole) (arg9 : Memref sig .tc .vmem S1x1024x1408 .bf16) (harg9 : arg9.IsWhole) (arg10 : Memref sig .tc .vmem S1x1408x1024 .bf16) (harg10 : arg10.IsWhole) (arg11 : Memref sig .tc .vmem S1024x1024 .f32) (harg11 : arg11.IsWhole) (arg12 : Memref sig .tc .vmem S1248x1024 .bf16) (harg12 : arg12.IsWhole) (arg13 : Memref sig .tc .vmem S1248x1024 .f32) (harg13 : arg13.IsWhole) (arg1 : BitVec 32) (n : Fin 1025) (v3 : Elt F .i32) (hv : v3 = BitVec.ofNat 32 n.val) (k1_hw1 : k1_chk1 i v3) (k1_h8 : k1_cond8 i = 1#1) (v49 : Vec F S1024x128 .f32) (v55 : Vec F S1024x128 .f32) (X_arg13 : BufTy.Contents (Elt F) arg13.view.ty) (G_arg11 : BufTy.Contents (Elt F) arg11.view.ty)  (m : ℕ) (hm : m ≤ tiles n.val) :
    arg11.view.read (Elt F) (arg11.view.writes (Elt F) G_arg11 (pb_k1_t5 (F := F) 𝒱 c bd i arg3 harg3 arg4 harg4 arg5 harg5 arg6 harg6 arg7 harg7 arg8 harg8 arg9 harg9 arg10 harg10 arg11 harg11 arg12 harg12 arg13 harg13 arg1 v3 k1_hw1 k1_h8 v49 v55 X_arg13 G_arg11 m))
      = putTo v3 arg1 v49 v55 (arg13.view.read (Elt F) X_arg13) (arg11.view.read (Elt F) G_arg11) m := by
  subst hv
  induction m with
  | zero => rfl
  | succ m ih =>
    have hk : m < (k1_t5_loop (BitVec.ofNat 32 n.val)).trips := by rw [trips5]; omega
    have h4 : m < 4 := lt4_5 n ⟨m, hk⟩
    have e := pb_k1_t5_succ (F := F) 𝒱 c bd i arg3 harg3 arg4 harg4 arg5 harg5 arg6 harg6 arg7 harg7 arg8 harg8 arg9 harg9 arg10 harg10 arg11 harg11 arg12 harg12 arg13 harg13 arg1 _ k1_hw1 k1_h8 v49 v55 X_arg13 G_arg11 ⟨m, hk⟩
    refine (congrArg (fun L => arg11.view.read (Elt F) (arg11.view.writes (Elt F) G_arg11 L)) e).trans ?_
    have hb : View.ld (Val := Elt F) (arg13.view.read (Elt F) X_arg13) (Rect.unit (s := S1248x1024) (k1_off11 (BitVec.ofNat 32 n.val) ⟨m, hk⟩) S384x1024.size (k1_off11_inb i _ k1_hw1 ⟨m, hk⟩ k1_h8)) = band (arg13.view.read (Elt F) X_arg13) m := by
      unfold band; rw [dif_pos h4]; exact ld_at _ (off11 n ⟨m, hk⟩) _ _
    rw [pieces5 _ _ _ _ _ _ _ _ _ _ _ _ _ _ _ _ _ _ _ _ _ _ _ _ _ _  _ _ _ _ _ _ _ _ _ _ hb, ih (by omega)]
    have e2 : putTo (BitVec.ofNat 32 n.val) arg1 v49 v55 (arg13.view.read (Elt F) X_arg13) (arg11.view.read (Elt F) G_arg11) (m + 1)
      = putOf (BitVec.ofNat 32 n.val) arg1 ⟨m, hk⟩ v49 v55 (band (arg13.view.read (Elt F) X_arg13) m) (putTo (BitVec.ofNat 32 n.val) arg1 v49 v55 (arg13.view.read (Elt F) X_arg13) (arg11.view.read (Elt F) G_arg11) m) := by
      conv_lhs => unfold putTo
      rw [dif_pos hk]
    rw [e2]
    generalize putTo (BitVec.ofNat 32 n.val) arg1 v49 v55 (arg13.view.read (Elt F) X_arg13) (arg11.view.read (Elt F) G_arg11) m = o
    funext y
    have hy : (y (0 : Fin 2)).val < 1024 := (y (0 : Fin 2)).isLt
    have hy1 : (y (1 : Fin 2)).val < 1024 := (y (1 : Fin 2)).isLt
    unfold putOf
    dsimp only [List.cons_append, List.nil_append]
    by_cases c3 : 768 ≤ (y (0 : Fin 2)).val
    · rw [if_neg (by omega), if_neg (by omega), if_neg (by omega)]
      exact View.read_writes_cons_rows_of_mem (o := 768) _ _ _ _ _ y _ rfl (by show _ = 768 + (y (0 : Fin 2)).val % 256; omega) rfl
    rw [View.read_writes_cons_rows_of_not_mem (o := 768) (W := 256) _ _ _ _ _ y rfl rfl (by omega)]
    by_cases c2 : 512 ≤ (y (0 : Fin 2)).val
    · rw [if_neg (by omega), if_neg (by omega), if_pos (by omega)]
      exact View.read_writes_cons_rows_of_mem (o := 512) _ _ _ _ _ y _ rfl (by show _ = 512 + (y (0 : Fin 2)).val % 256; omega) rfl
    rw [View.read_writes_cons_rows_of_not_mem (o := 512) (W := 256) _ _ _ _ _ y rfl rfl (by omega)]
    by_cases c1 : 256 ≤ (y (0 : Fin 2)).val
    · rw [if_neg (by omega), if_pos (by omega)]
      exact View.read_writes_cons_rows_of_mem (o := 256) _ _ _ _ _ y _ rfl (by show _ = 256 + (y (0 : Fin 2)).val % 256; omega) rfl
    rw [View.read_writes_cons_rows_of_not_mem (o := 256) (W := 256) _ _ _ _ _ y rfl rfl (by omega)]
    rw [if_pos (by omega)]
    exact View.read_writes_cons_rows_of_mem (o := 0) _ _ _ _ _ y _ rfl (by show _ = 0 + (y (0 : Fin 2)).val % 256; omega) rfl

end Cert.Moe
end
-- ==== Proof.MoeBody.lean ====
module

public import proofs.«01_k».proof.Proof.Gen.KernelIdeal.Loops
public import Idealize.ShloMosaic.Lib.Pipeline.FrameBody
public import Idealize.ShloMosaic.Lib.Tactic

/-! One call of the expert kernel, run once from arbitrary contents: what it leaves in its output
block, in the gathered rows and in the computed rows. -/

@[expose] public section
set_option maxRecDepth 16384
noncomputable section
namespace Cert.Moe
open Idealize.ShloMosaic Idealize.ShloMosaic.TcCoe Idealize.ShloMosaic.Tactic Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
variable {F : FTy → Type} [FloatOps F]
local notation "𝕄" => MT nD τ sig Unit (Elt F) ℕ (UR sig nD τ) ℕ

/-- The count the call reads from its table at a grid point. -/
def word (i : grid1.Coords) (arg3 : Memref sig .tc .smem S128 .i32) (X3 : BufTy.Contents (Elt F) arg3.view.ty) : BitVec 32 :=
  View.readAt (Elt F) arg3.view (Rect.unit (s := S128) (k1_off1 i) S1.size (k1_off1_inb i)).toLoadRect X3
    (Shape.Idx.first (by show 0 < S1.numel; decide))

set_option maxHeartbeats 4000000 in
/-- The call at a first half (`f = 0`): it gathers the rows of its expert and computes the first half of the products. -/
def runGather (c : Dev nD) (i : grid1.Coords) (arg3 : Memref sig .tc .smem S128 .i32) (harg3 : arg3.IsWhole) (arg4 : Memref sig .tc .vmem S1024x1024 .bf16) (harg4 : arg4.IsWhole) (arg5 : Memref sig .tc .vmem S8x1024 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1x1024x1408 .bf16) (harg8 : arg8.IsWhole) (arg9 : Memref sig .tc .vmem S1x1024x1408 .bf16) (harg9 : arg9.IsWhole) (arg10 : Memref sig .tc .vmem S1x1408x1024 .bf16) (harg10 : arg10.IsWhole) (arg11 : Memref sig .tc .vmem S1024x1024 .f32) (harg11 : arg11.IsWhole) (arg12 : Memref sig .tc .vmem S1248x1024 .bf16) (harg12 : arg12.IsWhole) (arg13 : Memref sig .tc .vmem S1248x1024 .f32) (harg13 : arg13.IsWhole)
    (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty)
    (h3 : k1_cond3 i = 1#1) (h8 : ¬ k1_cond8 i = 1#1) (hchk : k1_chk1 i (word i arg3 X3)) :
    Σ' (W11 : BufTy.Contents (Elt F) arg11.view.ty) (W12 : BufTy.Contents (Elt F) arg12.view.ty), { W13 : BufTy.Contents (Elt F) arg13.view.ty //
      ∀ (E : Set ℕ) (K : PUnit → sProp 𝕄),
      iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13)
        ∗ (iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} W11) ∗ (arg12.view.loc (c : Thread nD τ) ↦[arg12.view.set]{fullShare} W12) ∗ (arg13.view.loc (c : Thread nD τ) ↦[arg13.view.set]{fullShare} W13)) -∗ K ⟨⟩))
      ⊢ wp frame (wpE (defs₀ (F := F)) Variants.none (c : Thread nD τ) none) E (cc1_moe i arg3 harg3 arg4 harg4 arg5 harg5 arg6 harg6 arg7 harg7 arg8 harg8 arg9 harg9 arg10 harg10 arg11 harg11 arg12 harg12 arg13 harg13) K } := by
  refine ⟨?_, ?_, ?_, fun E K => ?run⟩
  case run =>
    simp only [cc1_moe_eq_skeleton]; unfold cc1_moe_skel
    simp only [k1_part9_eq_skeleton]
    iintro ⟨H3, H4, H5, H6, H7, H8, H9, H10, H11, H12, H13, Hk⟩
    sl_exec (disch := exact hchk)
    sl_step
    iapply Hk
    sl_close

set_option maxHeartbeats 4000000 in
/-- The call at a second half (`f = 1`): it adds the second half of the products and scatters the rows to their tokens. -/
def runScatter (c : Dev nD) (i : grid1.Coords) (arg3 : Memref sig .tc .smem S128 .i32) (harg3 : arg3.IsWhole) (arg4 : Memref sig .tc .vmem S1024x1024 .bf16) (harg4 : arg4.IsWhole) (arg5 : Memref sig .tc .vmem S8x1024 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1x1024x1408 .bf16) (harg8 : arg8.IsWhole) (arg9 : Memref sig .tc .vmem S1x1024x1408 .bf16) (harg9 : arg9.IsWhole) (arg10 : Memref sig .tc .vmem S1x1408x1024 .bf16) (harg10 : arg10.IsWhole) (arg11 : Memref sig .tc .vmem S1024x1024 .f32) (harg11 : arg11.IsWhole) (arg12 : Memref sig .tc .vmem S1248x1024 .bf16) (harg12 : arg12.IsWhole) (arg13 : Memref sig .tc .vmem S1248x1024 .f32) (harg13 : arg13.IsWhole)
    (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty)
    (h3 : ¬ k1_cond3 i = 1#1) (h8 : k1_cond8 i = 1#1) (hchk : k1_chk1 i (word i arg3 X3)) :
    Σ' (W11 : BufTy.Contents (Elt F) arg11.view.ty) (W12 : BufTy.Contents (Elt F) arg12.view.ty), { W13 : BufTy.Contents (Elt F) arg13.view.ty //
      ∀ (E : Set ℕ) (K : PUnit → sProp 𝕄),
      iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13)
        ∗ (iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} W11) ∗ (arg12.view.loc (c : Thread nD τ) ↦[arg12.view.set]{fullShare} W12) ∗ (arg13.view.loc (c : Thread nD τ) ↦[arg13.view.set]{fullShare} W13)) -∗ K ⟨⟩))
      ⊢ wp frame (wpE (defs₀ (F := F)) Variants.none (c : Thread nD τ) none) E (cc1_moe i arg3 harg3 arg4 harg4 arg5 harg5 arg6 harg6 arg7 harg7 arg8 harg8 arg9 harg9 arg10 harg10 arg11 harg11 arg12 harg12 arg13 harg13) K } := by
  refine ⟨?_, ?_, ?_, fun E K => ?run⟩
  case run =>
    simp only [cc1_moe_eq_skeleton]; unfold cc1_moe_skel
    simp only [k1_part9_eq_skeleton]
    iintro ⟨H3, H4, H5, H6, H7, H8, H9, H10, H11, H12, H13, Hk⟩
    sl_exec (disch := exact hchk)
    sl_step
    iapply Hk
    sl_close

end Cert.Moe
end
-- ==== Proof.MoeCall.lean ====
module

public import proofs.«01_k».proof.Proof.Gen.KernelIdeal.Loops
public import proofs.«01_k».proof.Proof.MoeTiles
public import proofs.«01_k».proof.Proof.MoeBody
public import Idealize.ShloMosaic.Lib.WritesUnit
public import Idealize.ShloMosaic.Lib.VecWindow
public import Idealize.ShloMosaic.Lib.Pointwise
public import Idealize.ShloMosaic.Lib.Pipeline.ValueKit.Tiles
public import Idealize.ShloMosaic.Lib.Pipeline.FrameBody
public import Idealize.ShloMosaic.Lib.Tactic

/-! One call of the expert kernel on whole buffers, in its two cases: what it leaves as functions of what it found. -/

@[expose] public section
set_option maxRecDepth 16384
noncomputable section
namespace Cert.Moe
open Idealize.ShloMosaic Idealize.ShloMosaic.TcCoe Idealize.ShloMosaic.Tactic Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
variable {F : FTy → Type} [FloatOps F]
local notation "𝕄" => MT nD τ sig Unit (Elt F) ℕ (UR sig nD τ) ℕ

/-- The remainder loop k1_t2 makes no trip. -/
theorem none2 (𝒱 : Variants) (c : Dev nD) (bd : Option 𝒱.V) (i : grid1.Coords) (arg3 : Memref sig .tc .smem S128 .i32) (harg3 : arg3.IsWhole) (arg4 : Memref sig .tc .vmem S1024x1024 .bf16) (harg4 : arg4.IsWhole) (arg5 : Memref sig .tc .vmem S8x1024 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1x1024x1408 .bf16) (harg8 : arg8.IsWhole) (arg9 : Memref sig .tc .vmem S1x1024x1408 .bf16) (harg9 : arg9.IsWhole) (arg10 : Memref sig .tc .vmem S1x1408x1024 .bf16) (harg10 : arg10.IsWhole) (arg11 : Memref sig .tc .vmem S1024x1024 .f32) (harg11 : arg11.IsWhole) (arg12 : Memref sig .tc .vmem S1248x1024 .bf16) (harg12 : arg12.IsWhole) (arg13 : Memref sig .tc .vmem S1248x1024 .f32) (harg13 : arg13.IsWhole) (n : Fin 1025) (v3 : Elt F .i32) (hv : v3 = BitVec.ofNat 32 n.val) (k1_hw1 : k1_chk1 i v3) (v22 : BitVec 32) (k1_h3 : k1_cond3 i = 1#1) (v47 : Vec F S1x1024 .f32) (X_arg4 : BufTy.Contents (Elt F) arg4.view.ty)  (m : ℕ) (hm : m = (k1_t2_loop v3).trips) : pb_k1_t2 (F := F) 𝒱 c bd i arg3 harg3 arg4 harg4 arg5 harg5 arg6 harg6 arg7 harg7 arg8 harg8 arg9 harg9 arg10 harg10 arg11 harg11 arg12 harg12 arg13 harg13 v3 k1_hw1 v22 k1_h3 v47 X_arg4 m = [] := by
  subst hm; subst hv
  have h := trips2 n
  rw [h]; rfl

/-- The remainder loop k1_t4 makes no trip. -/
theorem none4 (𝒱 : Variants) (c : Dev nD) (bd : Option 𝒱.V) (i : grid1.Coords) (arg3 : Memref sig .tc .smem S128 .i32) (harg3 : arg3.IsWhole) (arg4 : Memref sig .tc .vmem S1024x1024 .bf16) (harg4 : arg4.IsWhole) (arg5 : Memref sig .tc .vmem S8x1024 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1x1024x1408 .bf16) (harg8 : arg8.IsWhole) (arg9 : Memref sig .tc .vmem S1x1024x1408 .bf16) (harg9 : arg9.IsWhole) (arg10 : Memref sig .tc .vmem S1x1408x1024 .bf16) (harg10 : arg10.IsWhole) (arg11 : Memref sig .tc .vmem S1024x1024 .f32) (harg11 : arg11.IsWhole) (arg12 : Memref sig .tc .vmem S1248x1024 .bf16) (harg12 : arg12.IsWhole) (arg13 : Memref sig .tc .vmem S1248x1024 .f32) (harg13 : arg13.IsWhole) (n : Fin 1025) (v3 : Elt F .i32) (hv : v3 = BitVec.ofNat 32 n.val) (k1_hw1 : k1_chk1 i v3) (v42 : BitVec 32) (X_arg8 : BufTy.Contents (Elt F) arg8.view.ty) (X_arg9 : BufTy.Contents (Elt F) arg9.view.ty) (X_arg10 : BufTy.Contents (Elt F) arg10.view.ty) (X_arg12 : BufTy.Contents (Elt F) arg12.view.ty) (G_arg13 : BufTy.Contents (Elt F) arg13.view.ty)  (m : ℕ) (hm : m = (k1_t4_loop v3).trips) : pb_k1_t4 (F := F) 𝒱 c bd i arg3 harg3 arg4 harg4 arg5 harg5 arg6 harg6 arg7 harg7 arg8 harg8 arg9 harg9 arg10 harg10 arg11 harg11 arg12 harg12 arg13 harg13 v3 k1_hw1 v42 X_arg8 X_arg9 X_arg10 X_arg12 G_arg13 m = [] := by
  subst hm; subst hv
  have h := trips4 n
  rw [h]; rfl

/-- The remainder loop k1_t6 makes no trip. -/
theorem none6 (𝒱 : Variants) (c : Dev nD) (bd : Option 𝒱.V) (i : grid1.Coords) (arg3 : Memref sig .tc .smem S128 .i32) (harg3 : arg3.IsWhole) (arg4 : Memref sig .tc .vmem S1024x1024 .bf16) (harg4 : arg4.IsWhole) (arg5 : Memref sig .tc .vmem S8x1024 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1x1024x1408 .bf16) (harg8 : arg8.IsWhole) (arg9 : Memref sig .tc .vmem S1x1024x1408 .bf16) (harg9 : arg9.IsWhole) (arg10 : Memref sig .tc .vmem S1x1408x1024 .bf16) (harg10 : arg10.IsWhole) (arg11 : Memref sig .tc .vmem S1024x1024 .f32) (harg11 : arg11.IsWhole) (arg12 : Memref sig .tc .vmem S1248x1024 .bf16) (harg12 : arg12.IsWhole) (arg13 : Memref sig .tc .vmem S1248x1024 .f32) (harg13 : arg13.IsWhole) (arg1 : BitVec 32) (n : Fin 1025) (v3 : Elt F .i32) (hv : v3 = BitVec.ofNat 32 n.val) (k1_hw1 : k1_chk1 i v3) (k1_h8 : k1_cond8 i = 1#1) (v49 : Vec F S1024x128 .f32) (v55 : Vec F S1024x128 .f32) (v65 : BitVec 32) (X_arg13 : BufTy.Contents (Elt F) arg13.view.ty) (G_arg11 : BufTy.Contents (Elt F) arg11.view.ty)  (m : ℕ) (hm : m = (k1_t6_loop v3).trips) : pb_k1_t6 (F := F) 𝒱 c bd i arg3 harg3 arg4 harg4 arg5 harg5 arg6 harg6 arg7 harg7 arg8 harg8 arg9 harg9 arg10 harg10 arg11 harg11 arg12 harg12 arg13 harg13 arg1 v3 k1_hw1 k1_h8 v49 v55 v65 X_arg13 G_arg11 m = [] := by
  subst hm; subst hv
  have h := trips6 n
  rw [h]; rfl

/-- Equal arguments add the same rows. -/
theorem putTo_congr {v v' a : BitVec 32} {p p' g g' : Vec F S1024x128 .f32} {y y' : Vec F S1248x1024 .f32} {o o' : Vec F S1024x1024 .f32}
    (hv : v = v') (hp : p = p') (hg : g = g') (hy : y = y') (ho : o = o') (m : ℕ) : putTo v a p g y o m = putTo v' a p' g' y' o' m := by
  subst hv; subst hp; subst hg; subst hy; subst ho; rfl

/-- Whether a grid point is the very first one, as the call computes it. -/
def firstPoint (i : grid1.Coords) : BitVec 1 := runGather.sl.v34 i
/-- The same at a second half. -/
def firstPoint' (i : grid1.Coords) : BitVec 1 := runScatter.sl.v34 i

/-- The expert's row of the transposed ranks. -/
def rankRow (i : grid1.Coords) (x1 : Vec F S8x1024 .f32) (h3 : k1_cond3 i = 1#1) : Vec F S1x1024 .f32 :=
  View.ld (Val := Elt F) x1 (Rect.unit (s := S8x1024) (k1_off2 i) S1x1024.size (k1_off2_inb i h3))

set_option maxHeartbeats 1000000 in
/-- A call at a first half: the gathered rows, and the first half of their products. -/
theorem gather_call (c : Dev nD) (E : Set ℕ) (i : grid1.Coords) (arg3 : Memref sig .tc .smem S128 .i32) (harg3 : arg3.IsWhole) (arg4 : Memref sig .tc .vmem S1024x1024 .bf16) (harg4 : arg4.IsWhole) (arg5 : Memref sig .tc .vmem S8x1024 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1x1024x1408 .bf16) (harg8 : arg8.IsWhole) (arg9 : Memref sig .tc .vmem S1x1024x1408 .bf16) (harg9 : arg9.IsWhole) (arg10 : Memref sig .tc .vmem S1x1408x1024 .bf16) (harg10 : arg10.IsWhole) (arg11 : Memref sig .tc .vmem S1024x1024 .f32) (harg11 : arg11.IsWhole) (arg12 : Memref sig .tc .vmem S1248x1024 .bf16) (harg12 : arg12.IsWhole) (arg13 : Memref sig .tc .vmem S1248x1024 .f32) (harg13 : arg13.IsWhole)
    (X3 : BufTy.Contents (Elt F) arg3.view.ty) (x0 : Vec F S1024x1024 .bf16) (x1 : Vec F S8x1024 .f32) (x2 x3 : Vec F S1024x128 .f32) (x4 x5 : Vec F S1x1024x1408 .bf16) (x6 : Vec F S1x1408x1024 .bf16) (o : Vec F S1024x1024 .f32) (xc : Vec F S1248x1024 .bf16) (yc : Vec F S1248x1024 .f32)
    (n : Fin 1025) (hv : word i arg3 X3 = BitVec.ofNat 32 n.val) (h3 : k1_cond3 i = 1#1) (h8 : ¬ k1_cond8 i = 1#1) (h4 : k1_cond4 i = 1#1) (h5 : ¬ k1_cond5 i = 1#1) (K : PUnit → sProp 𝕄) :
    iprop((arg3.view.loc (c : Thread nD τ) ↦[arg3.view.set]{fullShare} X3) ∗ owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare o ∗ owns (c : Thread nD τ) arg12 fullShare xc ∗ owns (c : Thread nD τ) arg13 fullShare yc
      ∗ (iprop((arg3.view.loc (c : Thread nD τ) ↦[arg3.view.set]{fullShare} X3) ∗ owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare (if k1_cond1 i = 1#1 then k1_pay41 else o) ∗ owns (c : Thread nD τ) arg12 fullShare (fill (rowsOf (BitVec.ofNat 32 n.val) (rankRow i x1 h3) x0) (tiles n.val) xc) ∗ owns (c : Thread nD τ) arg13 fullShare (fill (fun k => halfOf (rowsOf (BitVec.ofNat 32 n.val) (rankRow i x1 h3) x0 k) x4 x5 x6) (tiles n.val) (if firstPoint i = 1#1 then k1_pay42 else yc))) -∗ K ⟨⟩))
    ⊢ wp frame (wpE (defs₀ (F := F)) Variants.none (c : Thread nD τ) none) E (cc1_moe i arg3 harg3 arg4 harg4 arg5 harg5 arg6 harg6 arg7 harg7 arg8 harg8 arg9 harg9 arg10 harg10 arg11 harg11 arg12 harg12 arg13 harg13) K := by
  have hchk : k1_chk1 i (word i arg3 X3) := hv ▸ chk_of_le i n
  unfold owns
  iintro ⟨H3, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, Hk⟩
  subst hf4 hf5 hf6 hf7 hf8 hf9 hf10 hf11 hf12 hf13
  have e11 : arg11.view.read (Elt F) (runGather c i arg3 harg3 arg4 harg4 arg5 harg5 arg6 harg6 arg7 harg7 arg8 harg8 arg9 harg9 arg10 harg10 arg11 harg11 arg12 harg12 arg13 harg13 X3 f4 f5 f6 f7 f8 f9 f10 f11 f12 f13 h3 h8 hchk).1 = if k1_cond1 i = 1#1 then k1_pay41 else arg11.view.read (Elt F) f11 := by
    unfold runGather; dsimp only
    split
    · exact View.read_writes_full _ _ _ _ _
    · rfl
  have e12 : arg12.view.read (Elt F) (runGather c i arg3 harg3 arg4 harg4 arg5 harg5 arg6 harg6 arg7 harg7 arg8 harg8 arg9 harg9 arg10 harg10 arg11 harg11 arg12 harg12 arg13 harg13 X3 f4 f5 f6 f7 f8 f9 f10 f11 f12 f13 h3 h8 hchk).2.1 = fill (rowsOf (BitVec.ofNat 32 n.val) (rankRow i (arg5.view.read (Elt F) f5) h3) (arg4.view.read (Elt F) f4)) (tiles n.val) (arg12.view.read (Elt F) f12) := by
    unfold runGather; dsimp only
    have hv' : runGather.sl.r i arg3 X3 = BitVec.ofNat 32 n.val := hv
    refine (congrArg (fun L => arg12.view.read (Elt F) (arg12.view.writes (Elt F) f12 (L ++ _))) (none2 (n := n) (hv := hv') (m := _) (hm := ?hm2) ..)).trans ?_
    case hm2 => rfl
    show arg12.view.read (Elt F) (arg12.view.writes (Elt F) f12 ([] ++ _)) = _
    rw [List.nil_append]
    have hm : (k1_t1_loop (word i arg3 X3)).trips = tiles n.val := by rw [hv]; exact trips1 n
    refine (loop1 (n := n) (hv := hv') (m := (k1_t1_loop (word i arg3 X3)).trips) (hm := hm.le) ..).trans ?_
    rw [hm]; show fill (rowsOf (word i arg3 X3) _ _) _ _ = _; rw [hv]; rfl
  have e13 : arg13.view.read (Elt F) (runGather c i arg3 harg3 arg4 harg4 arg5 harg5 arg6 harg6 arg7 harg7 arg8 harg8 arg9 harg9 arg10 harg10 arg11 harg11 arg12 harg12 arg13 harg13 X3 f4 f5 f6 f7 f8 f9 f10 f11 f12 f13 h3 h8 hchk).2.2.1 = fill (fun k => halfOf (rowsOf (BitVec.ofNat 32 n.val) (rankRow i (arg5.view.read (Elt F) f5) h3) (arg4.view.read (Elt F) f4) k) (arg8.view.read (Elt F) f8) (arg9.view.read (Elt F) f9) (arg10.view.read (Elt F) f10)) (tiles n.val) (if firstPoint i = 1#1 then k1_pay42 else arg13.view.read (Elt F) f13) := by
    unfold runGather at e12 ⊢; dsimp only at e12 ⊢
    have hv' : runGather.sl.r i arg3 X3 = BitVec.ofNat 32 n.val := hv
    refine (congrArg (fun L => arg13.view.read (Elt F) (arg13.view.writes (Elt F) _ (L ++ _))) (none4 (n := n) (hv := hv') (m := _) (hm := ?hm4) ..)).trans ?_
    case hm4 => rfl
    show arg13.view.read (Elt F) (arg13.view.writes (Elt F) _ ([] ++ _)) = _
    rw [List.nil_append]
    have hm : (k1_t3_loop (word i arg3 X3)).trips = tiles n.val := by rw [hv]; exact trips3 n
    refine (loop3_first (n := n) (hv := hv') (h4 := h4) (h5 := h5) (T := rowsOf (BitVec.ofNat 32 n.val) (rankRow i (arg5.view.read (Elt F) f5) h3) (arg4.view.read (Elt F) f4))
      (hT := fun k hk inb => by rw [e12]; exact ld_fill _ _ _ _ hk inb) (m := (k1_t3_loop (word i arg3 X3)).trips) (hm := hm.le) ..).trans ?_
    rw [hm]
    congr 1
    split
    · rename_i hc; rw [if_pos (show firstPoint i = 1#1 from hc)]; exact View.read_writes_full _ _ _ _ _
    · rename_i hc; rw [if_neg (show ¬ firstPoint i = 1#1 from hc)]
  iapply ((runGather c i arg3 harg3 arg4 harg4 arg5 harg5 arg6 harg6 arg7 harg7 arg8 harg8 arg9 harg9 arg10 harg10 arg11 harg11 arg12 harg12 arg13 harg13 X3 f4 f5 f6 f7 f8 f9 f10 f11 f12 f13 h3 h8 hchk).2.2.2 E K)
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iintro ⟨H3, H4, H5, H6, H7, H8, H9, H10, H11, H12, H13⟩
  iapply Hk
  isplitl [H3]; · iexact H3
  isplitl [H4]
  · iexists f4; isplitr
    · ipureintro; rfl
    iexact H4
  isplitl [H5]
  · iexists f5; isplitr
    · ipureintro; rfl
    iexact H5
  isplitl [H6]
  · iexists f6; isplitr
    · ipureintro; rfl
    iexact H6
  isplitl [H7]
  · iexists f7; isplitr
    · ipureintro; rfl
    iexact H7
  isplitl [H8]
  · iexists f8; isplitr
    · ipureintro; rfl
    iexact H8
  isplitl [H9]
  · iexists f9; isplitr
    · ipureintro; rfl
    iexact H9
  isplitl [H10]
  · iexists f10; isplitr
    · ipureintro; rfl
    iexact H10
  isplitl [H11]
  · iexists _; isplitr
    swap
    · iexact H11
    ipureintro; exact e11
  isplitl [H12]
  · iexists _; isplitr
    swap
    · iexact H12
    ipureintro; exact e12
  iexists _; isplitr
  swap
  · iexact H13
  ipureintro; exact e13

set_option maxHeartbeats 1000000 in
/-- A call at a second half: the second half of the products, and the rows added to their tokens. -/
theorem scatter_call (c : Dev nD) (E : Set ℕ) (i : grid1.Coords) (arg3 : Memref sig .tc .smem S128 .i32) (harg3 : arg3.IsWhole) (arg4 : Memref sig .tc .vmem S1024x1024 .bf16) (harg4 : arg4.IsWhole) (arg5 : Memref sig .tc .vmem S8x1024 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1x1024x1408 .bf16) (harg8 : arg8.IsWhole) (arg9 : Memref sig .tc .vmem S1x1024x1408 .bf16) (harg9 : arg9.IsWhole) (arg10 : Memref sig .tc .vmem S1x1408x1024 .bf16) (harg10 : arg10.IsWhole) (arg11 : Memref sig .tc .vmem S1024x1024 .f32) (harg11 : arg11.IsWhole) (arg12 : Memref sig .tc .vmem S1248x1024 .bf16) (harg12 : arg12.IsWhole) (arg13 : Memref sig .tc .vmem S1248x1024 .f32) (harg13 : arg13.IsWhole)
    (X3 : BufTy.Contents (Elt F) arg3.view.ty) (x0 : Vec F S1024x1024 .bf16) (x1 : Vec F S8x1024 .f32) (x2 x3 : Vec F S1024x128 .f32) (x4 x5 : Vec F S1x1024x1408 .bf16) (x6 : Vec F S1x1408x1024 .bf16) (o : Vec F S1024x1024 .f32) (xc : Vec F S1248x1024 .bf16) (yc : Vec F S1248x1024 .f32)
    (n : Fin 1025) (hv : word i arg3 X3 = BitVec.ofNat 32 n.val) (h3 : ¬ k1_cond3 i = 1#1) (h8 : k1_cond8 i = 1#1) (h4 : ¬ k1_cond4 i = 1#1) (h5 : k1_cond5 i = 1#1) (h1 : ¬ k1_cond1 i = 1#1) (hfirst : ¬ firstPoint' i = 1#1)
    (T : ℕ → Vec F S288x1024 .bf16) (Y : ℕ → Vec F S288x1024 .f32)
    (hT : ∀ k < tiles n.val, ∀ inb, View.ld (Val := Elt F) xc (Rect.unit (s := S1248x1024) ![288 * k, 0] S288x1024.size inb) = T k)
    (hY : ∀ k < tiles n.val, ∀ inb, View.ld (Val := Elt F) yc (Rect.unit (s := S1248x1024) ![288 * k, 0] S288x1024.size inb) = Y k) (K : PUnit → sProp 𝕄) :
    iprop((arg3.view.loc (c : Thread nD τ) ↦[arg3.view.set]{fullShare} X3) ∗ owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare o ∗ owns (c : Thread nD τ) arg12 fullShare xc ∗ owns (c : Thread nD τ) arg13 fullShare yc
      ∗ (iprop((arg3.view.loc (c : Thread nD τ) ↦[arg3.view.set]{fullShare} X3) ∗ owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare (putTo (BitVec.ofNat 32 n.val) (BitVec.ofNat 32 (i 1).val) x2 x3 (fill (fun k => addOf (T k) x4 x5 x6 (Y k)) (tiles n.val) yc) o (tiles n.val)) ∗ owns (c : Thread nD τ) arg12 fullShare xc ∗ owns (c : Thread nD τ) arg13 fullShare (fill (fun k => addOf (T k) x4 x5 x6 (Y k)) (tiles n.val) yc)) -∗ K ⟨⟩))
    ⊢ wp frame (wpE (defs₀ (F := F)) Variants.none (c : Thread nD τ) none) E (cc1_moe i arg3 harg3 arg4 harg4 arg5 harg5 arg6 harg6 arg7 harg7 arg8 harg8 arg9 harg9 arg10 harg10 arg11 harg11 arg12 harg12 arg13 harg13) K := by
  have hchk : k1_chk1 i (word i arg3 X3) := hv ▸ chk_of_le i n
  unfold owns
  iintro ⟨H3, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, Hk⟩
  subst hf4 hf5 hf6 hf7 hf8 hf9 hf10 hf11 hf12 hf13
  have e13 : arg13.view.read (Elt F) (runScatter c i arg3 harg3 arg4 harg4 arg5 harg5 arg6 harg6 arg7 harg7 arg8 harg8 arg9 harg9 arg10 harg10 arg11 harg11 arg12 harg12 arg13 harg13 X3 f4 f5 f6 f7 f8 f9 f10 f11 f12 f13 h3 h8 hchk).2.2.1 = fill (fun k => addOf (T k) (arg8.view.read (Elt F) f8) (arg9.view.read (Elt F) f9) (arg10.view.read (Elt F) f10) (Y k)) (tiles n.val) (arg13.view.read (Elt F) f13) := by
    unfold runScatter; dsimp only
    simp only [dif_neg (show ¬ runScatter.sl.v34 i = 1#1 from hfirst)]
    have hv' : runScatter.sl.r i arg3 X3 = BitVec.ofNat 32 n.val := hv
    refine (congrArg (fun L => arg13.view.read (Elt F) (arg13.view.writes (Elt F) _ (L ++ _))) (none4 (n := n) (hv := hv') (m := _) (hm := ?hm4) ..)).trans ?_
    case hm4 => rfl
    show arg13.view.read (Elt F) (arg13.view.writes (Elt F) _ ([] ++ _)) = _
    rw [List.nil_append]
    have hm : (k1_t3_loop (word i arg3 X3)).trips = tiles n.val := by rw [hv]; exact trips3 n
    refine (loop3_second (n := n) (hv := hv') (h4 := h4) (h5 := h5) (T := T) (Y := Y) (hT := hT) (hY := hY) (m := (k1_t3_loop (word i arg3 X3)).trips) (hm := hm.le) ..).trans ?_
    rw [hm]
  have e12 : arg12.view.read (Elt F) (runScatter c i arg3 harg3 arg4 harg4 arg5 harg5 arg6 harg6 arg7 harg7 arg8 harg8 arg9 harg9 arg10 harg10 arg11 harg11 arg12 harg12 arg13 harg13 X3 f4 f5 f6 f7 f8 f9 f10 f11 f12 f13 h3 h8 hchk).2.1 = arg12.view.read (Elt F) f12 := rfl
  have e11 : arg11.view.read (Elt F) (runScatter c i arg3 harg3 arg4 harg4 arg5 harg5 arg6 harg6 arg7 harg7 arg8 harg8 arg9 harg9 arg10 harg10 arg11 harg11 arg12 harg12 arg13 harg13 X3 f4 f5 f6 f7 f8 f9 f10 f11 f12 f13 h3 h8 hchk).1 = putTo (BitVec.ofNat 32 n.val) (BitVec.ofNat 32 (i 1).val) (arg6.view.read (Elt F) f6) (arg7.view.read (Elt F) f7) (fill (fun k => addOf (T k) (arg8.view.read (Elt F) f8) (arg9.view.read (Elt F) f9) (arg10.view.read (Elt F) f10) (Y k)) (tiles n.val) (arg13.view.read (Elt F) f13)) (arg11.view.read (Elt F) f11) (tiles n.val) := by
    unfold runScatter at e13 ⊢; dsimp only at e13 ⊢
    have hv' : runScatter.sl.r i arg3 X3 = BitVec.ofNat 32 n.val := hv
    refine (congrArg (fun L => arg11.view.read (Elt F) (arg11.view.writes (Elt F) _ (L ++ _))) (none6 (n := n) (hv := hv') (m := _) (hm := ?hm6) ..)).trans ?_
    case hm6 => rfl
    show arg11.view.read (Elt F) (arg11.view.writes (Elt F) _ ([] ++ _)) = _
    rw [List.nil_append]
    have hm : (k1_t5_loop (word i arg3 X3)).trips = tiles n.val := by rw [hv]; exact trips5 n
    refine (loop5 (n := n) (hv := hv') (m := (k1_t5_loop (word i arg3 X3)).trips) (hm := hm.le) ..).trans ?_
    rw [hm]
    exact putTo_congr hv (View.readAt_full _ _ _) (View.readAt_full _ _ _) e13 (by rw [dif_neg h1]) _
  iapply ((runScatter c i arg3 harg3 arg4 harg4 arg5 harg5 arg6 harg6 arg7 harg7 arg8 harg8 arg9 harg9 arg10 harg10 arg11 harg11 arg12 harg12 arg13 harg13 X3 f4 f5 f6 f7 f8 f9 f10 f11 f12 f13 h3 h8 hchk).2.2.2 E K)
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iintro ⟨H3, H4, H5, H6, H7, H8, H9, H10, H11, H12, H13⟩
  iapply Hk
  isplitl [H3]; · iexact H3
  isplitl [H4]
  · iexists f4; isplitr
    · ipureintro; rfl
    iexact H4
  isplitl [H5]
  · iexists f5; isplitr
    · ipureintro; rfl
    iexact H5
  isplitl [H6]
  · iexists f6; isplitr
    · ipureintro; rfl
    iexact H6
  isplitl [H7]
  · iexists f7; isplitr
    · ipureintro; rfl
    iexact H7
  isplitl [H8]
  · iexists f8; isplitr
    · ipureintro; rfl
    iexact H8
  isplitl [H9]
  · iexists f9; isplitr
    · ipureintro; rfl
    iexact H9
  isplitl [H10]
  · iexists f10; isplitr
    · ipureintro; rfl
    iexact H10
  isplitl [H11]
  · iexists _; isplitr
    swap
    · iexact H11
    ipureintro; exact e11
  isplitl [H12]
  · iexists _; isplitr
    swap
    · iexact H12
    ipureintro; exact e12
  iexists _; isplitr
  swap
  · iexact H13
  ipureintro; exact e13

end Cert.Moe
end
-- ==== Proof.MoeRegion.lean ====
module

public import proofs.«01_k».proof.Proof.MoeCall
public import proofs.«01_k».proof.Proof.Gen.KernelIdeal.Launch
public import Idealize.ShloMosaic.Lib.Pipeline.Frame
public import Idealize.ShloMosaic.Lib.Pipeline.FrameBody

/-! The expert call, grid point by grid point: what its pipeline holds. Two consecutive points are one pair of a token block and an
    expert; the call's two scratch buffers carry the gathered rows and the running products from one point to the next. -/

@[expose] public section
set_option maxRecDepth 16384
noncomputable section
namespace Cert.Moe
open Idealize.ShloMosaic Idealize.ShloMosaic.TcCoe Idealize.ShloMosaic.Tactic Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

/-- Grid point number `n`. -/
def pt (n : ℕ) : Fin grid1.N := ⟨n % 256, by rw [N_1]; exact Nat.mod_lt _ (by decide)⟩

/-- A grid point is the one its number names. -/
theorem pt_val (t : Fin grid1.N) : pt t.val = t := Fin.ext (Nat.mod_eq_of_lt (t.isLt.trans_eq N_1))

/-- The conditions of the call at a first half of a pair. -/
theorem even_facts : ∀ t : Fin grid1.N, t.val % 2 = 0 →
    k1_cond3 (grid1.coords t) = 1#1 ∧ ¬ k1_cond8 (grid1.coords t) = 1#1 ∧ k1_cond4 (grid1.coords t) = 1#1 ∧ ¬ k1_cond5 (grid1.coords t) = 1#1
      ∧ (k1_cond1 (grid1.coords t) = 1#1 ↔ t.val % 16 = 0) ∧ (firstPoint (grid1.coords t) = 1#1 ↔ t.val = 0) := by
  unfold firstPoint; decide +kernel

/-- The conditions of the call at a second half of a pair. -/
theorem odd_facts : ∀ t : Fin grid1.N, t.val % 2 = 1 →
    ¬ k1_cond3 (grid1.coords t) = 1#1 ∧ k1_cond8 (grid1.coords t) = 1#1 ∧ ¬ k1_cond4 (grid1.coords t) = 1#1 ∧ k1_cond5 (grid1.coords t) = 1#1
      ∧ ¬ k1_cond1 (grid1.coords t) = 1#1 ∧ ¬ firstPoint' (grid1.coords t) = 1#1 := by
  unfold firstPoint'; decide +kernel

/-- Where a point reads its count, and which expert it works for. -/
theorem place_facts : ∀ t : Fin grid1.N, k1_off1 (grid1.coords t) 0 = t.val / 2 ∧ (grid1.coords t 0).val = t.val / 16
    ∧ (grid1.coords t 1).val = (t.val / 2) % 8 ∧ (grid1.coords t 2).val = t.val % 2 := by
  decide +kernel

/-- The result's block is written back after a block's last point. -/
theorem flush1_7 (a : (pcfg1 (F := F)).Adm) (t : Fin (cfg1 a).N) : ((cfg1 a).win 7).flush t = true ↔ t.val % 16 = 15 :=
  Pipeline.Window.flush_reads (win1 a 7) rfl 0 (by decide) (show grid1.fixedAfter reads1_7 0 = true by decide) (Pipeline.Window.sep_of_coord cc1_transform_7 0 0 (fun _ => rfl) (by decide)) (P := 16) (m := 15) (by decide) rfl t

variable (a : (pcfg1 (F := F)).Adm) (V : Dev nD → Valuation τ sig (Elt F)) (c : Dev nD)

/-- The part of window `w`'s array that grid point `t` reads, the arrays being at `V`. -/
def moeBlk (w : Fin (cfg1 a).W) (t : Fin (cfg1 a).N) : (((cfg1 a).win w).xblock ((cfg1 a).grid.coords t)).Idx → Elt F ((cfg1 a).win w).elt :=
  (((cfg1 a).win w).blk t).view.read (Elt F) (V c (Proc.devRef .tc (Pipeline.arrRef spec1 w)))

/-- The token block at a grid point. -/
def bx0 (t : Fin (cfg1 a).N) : Vec F S1024x1024 .bf16 := moeBlk a V c 0 t
/-- The transposed ranks of the token block at a grid point. -/
def bx1 (t : Fin (cfg1 a).N) : Vec F S8x1024 .f32 := moeBlk a V c 1 t
/-- The ranks of the token block at a grid point. -/
def bx2 (t : Fin (cfg1 a).N) : Vec F S1024x128 .f32 := moeBlk a V c 2 t
/-- The weights of the token block at a grid point. -/
def bx3 (t : Fin (cfg1 a).N) : Vec F S1024x128 .f32 := moeBlk a V c 3 t
/-- The expert's first weight half at a grid point. -/
def bx4 (t : Fin (cfg1 a).N) : Vec F S1x1024x1408 .bf16 := moeBlk a V c 4 t
/-- The expert's second weight half at a grid point. -/
def bx5 (t : Fin (cfg1 a).N) : Vec F S1x1024x1408 .bf16 := moeBlk a V c 5 t
/-- The expert's third weight half at a grid point. -/
def bx6 (t : Fin (cfg1 a).N) : Vec F S1x1408x1024 .bf16 := moeBlk a V c 6 t

/-- The count of pair `q`: how many of its block's tokens chose its expert. -/
def wordAt (q : ℕ) : BitVec 32 := word (F := F) (grid1.coords (pt (2 * q))) (Memref.whole main_v12) (a.1 0)

/-- The first half of a pair is a gathering point. -/
theorem c3 (q : ℕ) : k1_cond3 (grid1.coords (pt (2 * q))) = 1#1 := (even_facts (pt (2 * q)) (by show 2 * q % 256 % 2 = 0; omega)).1

/-- The rows gathered for pair `q`, tile by tile. -/
def rowsAt (q k : ℕ) : Vec F S288x1024 .bf16 := rowsOf (wordAt a q) (rankRow (grid1.coords (pt (2 * q))) (bx1 a V c (pt (2 * q))) (c3 q)) (bx0 a V c (pt (2 * q))) k

/-- Their products over the first half of the inner width. -/
def halfAt (q k : ℕ) : Vec F S288x1024 .f32 := halfOf (rowsAt a V c q k) (bx4 a V c (pt (2 * q))) (bx5 a V c (pt (2 * q))) (bx6 a V c (pt (2 * q)))

/-- Their products over the whole inner width. -/
def fullAt (q k : ℕ) : Vec F S288x1024 .f32 :=
  addOf (rowsAt a V c q k) (bx4 a V c (pt (2 * q + 1))) (bx5 a V c (pt (2 * q + 1))) (bx6 a V c (pt (2 * q + 1))) (halfAt a V c q k)

/-- The product buffer before pair `q`: the tiles of the pairs so far, each over the one before. -/
def prodAt : ℕ → Vec F S1248x1024 .f32
  | 0 => k1_pay42
  | q + 1 => fill (fullAt a V c q) (tiles (wordAt a q).toNat) (fill (halfAt a V c q) (tiles (wordAt a q).toNat) (prodAt q))

/-- What pair `q` adds to the block `o`: each product row at its token, times the token's weight. -/
def addAt (q : ℕ) (o : Vec F S1024x1024 .f32) : Vec F S1024x1024 .f32 :=
  putTo (wordAt a q) (BitVec.ofNat 32 (q % 8)) (bx2 a V c (pt (2 * q + 1))) (bx3 a V c (pt (2 * q + 1))) (prodAt a V c (q + 1)) o (tiles (wordAt a q).toNat)

/-- The block after pair `q`. -/
def outAfter : ℕ → Vec F S1024x1024 .f32
  | 0 => addAt a V c 0 k1_pay41
  | q + 1 => addAt a V c (q + 1) (if (q + 1) % 8 = 0 then k1_pay41 else outAfter q)

/-- The block before pair `q`: zero for a block's first expert. -/
def outBefore (q : ℕ) : Vec F S1024x1024 .f32 := if q % 8 = 0 then k1_pay41 else outAfter a V c (q - 1)

/-- One pair's step. -/
theorem outAfter_eq (q : ℕ) : outAfter a V c q = addAt a V c q (outBefore a V c q) := by
  cases q with
  | zero => rfl
  | succ q => rfl

/-- The block after grid point `n`. -/
def outAt (n : ℕ) : Vec F S1024x1024 .f32 := if n % 2 = 0 then outBefore a V c (n / 2) else outAfter a V c (n / 2)

/-- What the two scratch buffers hold on entering grid point `n`. -/
def Carried (n : ℕ) (xc : Vec F S1248x1024 .bf16) (yc : Vec F S1248x1024 .f32) : Prop :=
  if n % 2 = 0 then n ≠ 0 → yc = prodAt a V c (n / 2)
  else (∀ k < tiles (wordAt a (n / 2)).toNat, ∀ inb, View.ld (Val := Elt F) xc (Rect.unit (s := S1248x1024) ![288 * k, 0] S288x1024.size inb) = rowsAt a V c (n / 2) k)
    ∧ yc = fill (halfAt a V c (n / 2)) (tiles (wordAt a (n / 2)).toNat) (prodAt a V c (n / 2))

/-- The scoped buffers of the other two calls. -/
def others : sProp 𝕄 := iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg4_1), ((c : Thread nD τ).loc cc2_stg4_1) ↦{fullShare} f))

/-- What the call keeps between grid points: its scratch, the other calls' buffers, and the table of counts. -/
def kept (n : ℕ) : sProp 𝕄 :=
  iprop((∃ (xc : Vec F S1248x1024 .bf16) (yc : Vec F S1248x1024 .f32), ⌜Carried a V c n xc yc⌝ ∗ (((c : Thread nD τ).loc cc1_scratch0) ↦{fullShare} xc) ∗ (((c : Thread nD τ).loc cc1_scratch1) ↦{fullShare} yc))
    ∗ others (F := F) c ∗ (((c : Thread nD τ).loc main_v12) ↦{fullShare} a.1 0))

/-- What the call's pipeline holds at each grid point. -/
def moeDat : Dat τ (Elt F) Unit ℕ (UR sig nD τ) ℕ (cfg1 a) c where
  A w := V c (Proc.devRef .tc (Pipeline.arrRef spec1 w))
  after w t := match w with
    | ⟨0, _⟩ => moeBlk a V c 0 t
    | ⟨1, _⟩ => moeBlk a V c 1 t
    | ⟨2, _⟩ => moeBlk a V c 2 t
    | ⟨3, _⟩ => moeBlk a V c 3 t
    | ⟨4, _⟩ => moeBlk a V c 4 t
    | ⟨5, _⟩ => moeBlk a V c 5 t
    | ⟨6, _⟩ => moeBlk a V c 6 t
    | ⟨7, _⟩ => outAt a V c t.val
  Φ t := kept a V c t.val
  q _ := fullShare
  owed _ := 0

/-- The arrays are entered at `V`. -/
theorem moe_A (w : Fin (cfg1 a).W) : (moeDat a V c).A w = V c (Proc.devRef .tc (Pipeline.arrRef spec1 w)) := by dsimp only [moeDat]
/-- What window 0 holds after a point. -/
theorem moe_after0 (t : Fin (cfg1 a).N) : (moeDat a V c).after 0 t = moeBlk a V c 0 t := by dsimp only [moeDat]; rfl
/-- What window 1 holds after a point. -/
theorem moe_after1 (t : Fin (cfg1 a).N) : (moeDat a V c).after 1 t = moeBlk a V c 1 t := by dsimp only [moeDat]; rfl
/-- What window 2 holds after a point. -/
theorem moe_after2 (t : Fin (cfg1 a).N) : (moeDat a V c).after 2 t = moeBlk a V c 2 t := by dsimp only [moeDat]; rfl
/-- What window 3 holds after a point. -/
theorem moe_after3 (t : Fin (cfg1 a).N) : (moeDat a V c).after 3 t = moeBlk a V c 3 t := by dsimp only [moeDat]; rfl
/-- What window 4 holds after a point. -/
theorem moe_after4 (t : Fin (cfg1 a).N) : (moeDat a V c).after 4 t = moeBlk a V c 4 t := by dsimp only [moeDat]; rfl
/-- What window 5 holds after a point. -/
theorem moe_after5 (t : Fin (cfg1 a).N) : (moeDat a V c).after 5 t = moeBlk a V c 5 t := by dsimp only [moeDat]; rfl
/-- What window 6 holds after a point. -/
theorem moe_after6 (t : Fin (cfg1 a).N) : (moeDat a V c).after 6 t = moeBlk a V c 6 t := by dsimp only [moeDat]; rfl
/-- What the result's window holds after a point. -/
theorem moe_after7 (t : Fin (cfg1 a).N) : (moeDat a V c).after 7 t = outAt a V c t.val := by dsimp only [moeDat]; rfl
/-- Operand 0's buffer holds its block at every point. -/
theorem moe_before0 (t : Fin (cfg1 a).N) (d) : (moeDat a V c).before 0 t d = moeBlk a V c 0 t :=
  ((moeDat a V c).before_in_eq_fetched 0 rfl (fun _ => rfl) (fun _ _ _ => rfl) (fun t => by rw [moe_after0]; unfold Dat.blockOf moeBlk; rw [moe_A]; try rfl) t d).trans
    (by unfold Dat.fetched Dat.blockOf moeBlk; rw [moe_A]; try rfl)
/-- Operand 1's buffer holds its block at every point. -/
theorem moe_before1 (t : Fin (cfg1 a).N) (d) : (moeDat a V c).before 1 t d = moeBlk a V c 1 t :=
  ((moeDat a V c).before_in_eq_fetched 1 rfl (fun _ => rfl) (fun _ _ _ => rfl) (fun t => by rw [moe_after1]; unfold Dat.blockOf moeBlk; rw [moe_A]; try rfl) t d).trans
    (by unfold Dat.fetched Dat.blockOf moeBlk; rw [moe_A]; try rfl)
/-- Operand 2's buffer holds its block at every point. -/
theorem moe_before2 (t : Fin (cfg1 a).N) (d) : (moeDat a V c).before 2 t d = moeBlk a V c 2 t :=
  ((moeDat a V c).before_in_eq_fetched 2 rfl (fun _ => rfl) (fun _ _ _ => rfl) (fun t => by rw [moe_after2]; unfold Dat.blockOf moeBlk; rw [moe_A]; try rfl) t d).trans
    (by unfold Dat.fetched Dat.blockOf moeBlk; rw [moe_A]; try rfl)
/-- Operand 3's buffer holds its block at every point. -/
theorem moe_before3 (t : Fin (cfg1 a).N) (d) : (moeDat a V c).before 3 t d = moeBlk a V c 3 t :=
  ((moeDat a V c).before_in_eq_fetched 3 rfl (fun _ => rfl) (fun _ _ _ => rfl) (fun t => by rw [moe_after3]; unfold Dat.blockOf moeBlk; rw [moe_A]; try rfl) t d).trans
    (by unfold Dat.fetched Dat.blockOf moeBlk; rw [moe_A]; try rfl)
/-- Operand 4's buffer holds its block at every point. -/
theorem moe_before4 (t : Fin (cfg1 a).N) (d) : (moeDat a V c).before 4 t d = moeBlk a V c 4 t :=
  ((moeDat a V c).before_in_eq_fetched 4 rfl (fun _ => rfl) (fun _ _ _ => rfl) (fun t => by rw [moe_after4]; unfold Dat.blockOf moeBlk; rw [moe_A]; try rfl) t d).trans
    (by unfold Dat.fetched Dat.blockOf moeBlk; rw [moe_A]; try rfl)
/-- Operand 5's buffer holds its block at every point. -/
theorem moe_before5 (t : Fin (cfg1 a).N) (d) : (moeDat a V c).before 5 t d = moeBlk a V c 5 t :=
  ((moeDat a V c).before_in_eq_fetched 5 rfl (fun _ => rfl) (fun _ _ _ => rfl) (fun t => by rw [moe_after5]; unfold Dat.blockOf moeBlk; rw [moe_A]; try rfl) t d).trans
    (by unfold Dat.fetched Dat.blockOf moeBlk; rw [moe_A]; try rfl)
/-- Operand 6's buffer holds its block at every point. -/
theorem moe_before6 (t : Fin (cfg1 a).N) (d) : (moeDat a V c).before 6 t d = moeBlk a V c 6 t :=
  ((moeDat a V c).before_in_eq_fetched 6 rfl (fun _ => rfl) (fun _ _ _ => rfl) (fun t => by rw [moe_after6]; unfold Dat.blockOf moeBlk; rw [moe_A]; try rfl) t d).trans
    (by unfold Dat.fetched Dat.blockOf moeBlk; rw [moe_A]; try rfl)
/-- The result's window is left alone at a first half that is not a block's first point. -/
theorem idle_facts : ∀ t : Fin grid1.N, idle1 7 (grid1.coords t) = decide (t.val % 2 = 0 ∧ t.val % 16 ≠ 0) := by decide +kernel

/-- At a point after one that wrote the result's window, it holds what that point left. -/
theorem moe_step7 (t : Fin (cfg1 a).N) (h : t.val % 16 ≠ 0) (hi : ¬ ((t.val - 1) % 2 = 0 ∧ (t.val - 1) % 16 ≠ 0)) (d) :
    (moeDat a V c).before 7 t d = outAt a V c (t.val - 1) := by
  have hlive : (cfg1 a).idle 7 ((cfg1 a).grid.coords ⟨t.val - 1, Nat.lt_of_le_of_lt (Nat.sub_le _ _) t.isLt⟩) = false :=
    (idle_facts ⟨t.val - 1, Nat.lt_of_le_of_lt (Nat.sub_le _ _) t.isLt⟩).trans (decide_eq_false hi)
  have hfl : ((cfg1 a).win 7).flush ⟨t.val - 1, Nat.lt_of_le_of_lt (Nat.sub_le _ _) t.isLt⟩ = false := by
    rw [Bool.eq_false_iff]; intro hf
    have h2 : (t.val - 1) % 16 = 15 := (flush1_7 a _).1 hf
    omega
  rw [Dat.before_of_pos _ 7 t (by omega) (((cfg1 a).win 7).fetch_out rfl t) d, hfl, if_neg Bool.false_ne_true]
  unfold Dat.left; rw [hlive]
  show (moeDat a V c).kept 7 _ d = _
  unfold Dat.kept
  rw [Pipeline.fill_of_clip_none (cfg := cfg1 a) 7 _ (fun _ => rfl) d ((moeDat a V c).after 7 _), Pipeline.Window.fill_cut, moe_after7]

/-- At a point after one that left the result's window alone, it holds what it held there. -/
theorem moe_skip7 (t : Fin (cfg1 a).N) (h : t.val % 16 ≠ 0) (hi : (t.val - 1) % 2 = 0 ∧ (t.val - 1) % 16 ≠ 0) (d) :
    (moeDat a V c).before 7 t d = (moeDat a V c).before 7 ⟨t.val - 1, Nat.lt_of_le_of_lt (Nat.sub_le _ _) t.isLt⟩ d := by
  have hidle : (cfg1 a).idle 7 ((cfg1 a).grid.coords ⟨t.val - 1, Nat.lt_of_le_of_lt (Nat.sub_le _ _) t.isLt⟩) = true :=
    (idle_facts ⟨t.val - 1, Nat.lt_of_le_of_lt (Nat.sub_le _ _) t.isLt⟩).trans (decide_eq_true hi)
  have hfl : ((cfg1 a).win 7).flush ⟨t.val - 1, Nat.lt_of_le_of_lt (Nat.sub_le _ _) t.isLt⟩ = false := by
    rw [Bool.eq_false_iff]; intro hf
    have h2 : (t.val - 1) % 16 = 15 := (flush1_7 a _).1 hf
    omega
  rw [Dat.before_of_pos _ 7 t (by omega) (((cfg1 a).win 7).fetch_out rfl t) d, hfl, if_neg Bool.false_ne_true]
  unfold Dat.left; rw [hidle]

/-- The result's buffer at any point but a block's first holds the block so far. -/
theorem moe_before7 (t : Fin (cfg1 a).N) (h : t.val % 16 ≠ 0) (d) : (moeDat a V c).before 7 t d = outAt a V c (t.val - 1) := by
  by_cases hi : (t.val - 1) % 2 = 0 ∧ (t.val - 1) % 16 ≠ 0
  · rw [moe_skip7 a V c t h hi d, moe_step7 a V c ⟨t.val - 1, _⟩ hi.2 (by show ¬ ((t.val - 1 - 1) % 2 = 0 ∧ _); omega) d]
    show outAt a V c (t.val - 1 - 1) = _
    unfold outAt; rw [if_neg (by omega), if_pos hi.1]; unfold outBefore
    rw [if_neg (by omega)]; congr 1; omega
  · exact moe_step7 a V c t h hi d

/-- The call's body at grid point `t`. -/
abbrev bodyAt1 (t : Fin (cfg1 a).N) : Prog (TpuEff nD τ sig (Elt F) Λ₀ .tc) PUnit :=
  cc1_moe (grid1.coords t) (Memref.whole main_v12) (Memref.isWhole_whole _) (spec1_0.stage ((cfg1 a).slots t 0)) (hstage1_0 (((cfg1 a).slots t 0).cast nbuf1_0)) (spec1_1.stage ((cfg1 a).slots t 1)) (hstage1_1 (((cfg1 a).slots t 1).cast nbuf1_1)) (spec1_2.stage ((cfg1 a).slots t 2)) (hstage1_2 (((cfg1 a).slots t 2).cast nbuf1_2)) (spec1_3.stage ((cfg1 a).slots t 3)) (hstage1_3 (((cfg1 a).slots t 3).cast nbuf1_3)) (spec1_4.stage ((cfg1 a).slots t 4)) (hstage1_4 (((cfg1 a).slots t 4).cast nbuf1_4)) (spec1_5.stage ((cfg1 a).slots t 5)) (hstage1_5 (((cfg1 a).slots t 5).cast nbuf1_5)) (spec1_6.stage ((cfg1 a).slots t 6)) (hstage1_6 (((cfg1 a).slots t 6).cast nbuf1_6)) (spec1_7.stage ((cfg1 a).slots t 7)) (hstage1_7 (((cfg1 a).slots t 7).cast nbuf1_7)) (Memref.whole cc1_scratch0) (Memref.isWhole_whole _) (Memref.whole cc1_scratch1) (Memref.isWhole_whole _)

/-- Both points of a pair read the same count. -/
theorem word_pair (t : Fin grid1.N) (ht : t.val % 2 = 1) (q : ℕ) (hq : q = t.val / 2) :
    word (F := F) (grid1.coords t) (Memref.whole main_v12) (a.1 0) = wordAt a q := by
  have hlt : t.val < 256 := t.isLt.trans_eq N_1
  have e : k1_off1 (grid1.coords t) = k1_off1 (grid1.coords (pt (2 * q))) := by
    funext x
    match x with
    | ⟨0, _⟩ =>
      refine (place_facts t).1.trans (Eq.trans ?_ (place_facts (pt (2 * q))).1.symm)
      show t.val / 2 = 2 * q % 256 / 2
      omega
  unfold wordAt word
  congr 3

set_option maxHeartbeats 1000000 in
/-- A first half of a pair. -/
theorem moe_even (Hc : ∀ q, (wordAt a q).toNat ≤ 1024) (t : Fin grid1.N) (ht : t.val % 2 = 0) (O : sProp 𝕄) (X : Vec F S1024x1024 .f32) (hX : t.val % 16 ≠ 0 → X = outAt a V c (t.val - 1))
    (arg4 : Memref sig .tc .vmem S1024x1024 .bf16) (harg4 : arg4.IsWhole) (arg5 : Memref sig .tc .vmem S8x1024 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1x1024x1408 .bf16) (harg8 : arg8.IsWhole) (arg9 : Memref sig .tc .vmem S1x1024x1408 .bf16) (harg9 : arg9.IsWhole) (arg10 : Memref sig .tc .vmem S1x1408x1024 .bf16) (harg10 : arg10.IsWhole) (arg11 : Memref sig .tc .vmem S1024x1024 .f32) (harg11 : arg11.IsWhole) :
    iprop(kept a V c t.val ∗ O ∗ owns (c : Thread nD τ) arg4 fullShare (bx0 a V c t) ∗ owns (c : Thread nD τ) arg5 fullShare (bx1 a V c t) ∗ owns (c : Thread nD τ) arg6 fullShare (bx2 a V c t) ∗ owns (c : Thread nD τ) arg7 fullShare (bx3 a V c t) ∗ owns (c : Thread nD τ) arg8 fullShare (bx4 a V c t) ∗ owns (c : Thread nD τ) arg9 fullShare (bx5 a V c t) ∗ owns (c : Thread nD τ) arg10 fullShare (bx6 a V c t) ∗ owns (c : Thread nD τ) arg11 fullShare X)
    ⊢ wp frame (wpE (defs₀ (F := F)) Variants.none c none) Set.univ (cc1_moe (grid1.coords t) (Memref.whole main_v12) (Memref.isWhole_whole _) arg4 harg4 arg5 harg5 arg6 harg6 arg7 harg7 arg8 harg8 arg9 harg9 arg10 harg10 arg11 harg11 (Memref.whole cc1_scratch0) (Memref.isWhole_whole _) (Memref.whole cc1_scratch1) (Memref.isWhole_whole _)) (fun _ =>
      iprop(kept a V c (t.val + 1) ∗ O ∗ owns (c : Thread nD τ) arg4 fullShare (bx0 a V c t) ∗ owns (c : Thread nD τ) arg5 fullShare (bx1 a V c t) ∗ owns (c : Thread nD τ) arg6 fullShare (bx2 a V c t) ∗ owns (c : Thread nD τ) arg7 fullShare (bx3 a V c t) ∗ owns (c : Thread nD τ) arg8 fullShare (bx4 a V c t) ∗ owns (c : Thread nD τ) arg9 fullShare (bx5 a V c t) ∗ owns (c : Thread nD τ) arg10 fullShare (bx6 a V c t) ∗ owns (c : Thread nD τ) arg11 fullShare (outAt a V c t.val))) := by
  obtain ⟨q, hq⟩ : ∃ q, q = t.val / 2 := ⟨_, rfl⟩
  have hlt : t.val < 256 := t.isLt.trans_eq N_1
  have htq : t.val = 2 * q := by omega
  have htp : pt (2 * q) = t := by rw [← htq]; exact pt_val t
  have hw : word (F := F) (grid1.coords t) (Memref.whole main_v12) (a.1 0) = BitVec.ofNat 32 (⟨(wordAt a q).toNat, by have := Hc q; omega⟩ : Fin 1025).val := by
    rw [show (⟨(wordAt a q).toNat, by have := Hc q; omega⟩ : Fin 1025).val = (wordAt a q).toNat from rfl, BitVec.ofNat_toNat, BitVec.setWidth_eq]
    unfold wordAt; rw [htp]
  unfold kept
  obtain ⟨h3, h8, h4, h5, h1, hf⟩ := even_facts t ht
  iintro ⟨⟨⟨%xc, %yc, %hC, Hx, Hy⟩, HR, HT⟩, Ho, H0, H1, H2, H3, H4, H5, H6, H7⟩
  have eo : (if k1_cond1 (grid1.coords t) = 1#1 then k1_pay41 else X) = outAt a V c t.val := by
    unfold outAt; rw [if_pos ht]; unfold outBefore
    by_cases h16 : t.val % 16 = 0
    · rw [if_pos (h1.2 h16), if_pos (by omega)]
    · rw [if_neg (fun h => h16 (h1.1 h)), if_neg (by omega), hX h16]
      unfold outAt; rw [if_neg (by omega)]; congr 1; omega
  have ey : (if firstPoint (grid1.coords t) = 1#1 then k1_pay42 else yc) = prodAt a V c q := by
    by_cases h0 : t.val = 0
    · rw [if_pos (hf.2 h0), show q = 0 by omega]; rfl
    · rw [if_neg (fun h => h0 (hf.1 h))]
      have := hC; unfold Carried at this; rw [if_pos ht] at this; rw [this h0, hq]
  iapply (gather_call c Set.univ (grid1.coords t) _ _ _ _ _ _ _ _ _ _ _ _ _ _ _ _ _ _ _ _ _ _ (a.1 0) (bx0 a V c t) (bx1 a V c t) (bx2 a V c t) (bx3 a V c t) (bx4 a V c t) (bx5 a V c t) (bx6 a V c t) X xc yc _ hw h3 h8 h4 h5 _)
  rw [eo, ey]
  simp only [Memref.view_whole, View.set_whole, owns_whole]
  isplitl [HT]; · iexact HT
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [Hx]; · iexact Hx
  isplitl [Hy]; · iexact Hy
  iintro ⟨HT, H0, H1, H2, H3, H4, H5, H6, H7, Hx, Hy⟩
  isplitl [Hx Hy HR HT]
  · isplitl [Hx Hy]
    · iexists _, _; isplitr
      swap
      · isplitl [Hx]; · iexact Hx
        iexact Hy
      ipureintro
      unfold Carried
      rw [if_neg (by omega), show (t.val + 1) / 2 = q by omega]
      refine ⟨fun k hk inb => (ld_fill _ _ _ _ hk inb).trans ?_, ?_⟩
      · unfold rowsAt; subst htp; rw [← hw]; rfl
      · subst htp; unfold halfAt rowsAt; rw [← hw]; rfl
    isplitl [HR]; · iexact HR
    iexact HT
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

set_option maxHeartbeats 1000000 in
/-- A second half of a pair. -/
theorem moe_odd (Hc : ∀ q, (wordAt a q).toNat ≤ 1024) (t : Fin grid1.N) (ht : t.val % 2 = 1) (O : sProp 𝕄) (X : Vec F S1024x1024 .f32) (hX : t.val % 16 ≠ 0 → X = outAt a V c (t.val - 1))
    (arg4 : Memref sig .tc .vmem S1024x1024 .bf16) (harg4 : arg4.IsWhole) (arg5 : Memref sig .tc .vmem S8x1024 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1x1024x1408 .bf16) (harg8 : arg8.IsWhole) (arg9 : Memref sig .tc .vmem S1x1024x1408 .bf16) (harg9 : arg9.IsWhole) (arg10 : Memref sig .tc .vmem S1x1408x1024 .bf16) (harg10 : arg10.IsWhole) (arg11 : Memref sig .tc .vmem S1024x1024 .f32) (harg11 : arg11.IsWhole) :
    iprop(kept a V c t.val ∗ O ∗ owns (c : Thread nD τ) arg4 fullShare (bx0 a V c t) ∗ owns (c : Thread nD τ) arg5 fullShare (bx1 a V c t) ∗ owns (c : Thread nD τ) arg6 fullShare (bx2 a V c t) ∗ owns (c : Thread nD τ) arg7 fullShare (bx3 a V c t) ∗ owns (c : Thread nD τ) arg8 fullShare (bx4 a V c t) ∗ owns (c : Thread nD τ) arg9 fullShare (bx5 a V c t) ∗ owns (c : Thread nD τ) arg10 fullShare (bx6 a V c t) ∗ owns (c : Thread nD τ) arg11 fullShare X)
    ⊢ wp frame (wpE (defs₀ (F := F)) Variants.none c none) Set.univ (cc1_moe (grid1.coords t) (Memref.whole main_v12) (Memref.isWhole_whole _) arg4 harg4 arg5 harg5 arg6 harg6 arg7 harg7 arg8 harg8 arg9 harg9 arg10 harg10 arg11 harg11 (Memref.whole cc1_scratch0) (Memref.isWhole_whole _) (Memref.whole cc1_scratch1) (Memref.isWhole_whole _)) (fun _ =>
      iprop(kept a V c (t.val + 1) ∗ O ∗ owns (c : Thread nD τ) arg4 fullShare (bx0 a V c t) ∗ owns (c : Thread nD τ) arg5 fullShare (bx1 a V c t) ∗ owns (c : Thread nD τ) arg6 fullShare (bx2 a V c t) ∗ owns (c : Thread nD τ) arg7 fullShare (bx3 a V c t) ∗ owns (c : Thread nD τ) arg8 fullShare (bx4 a V c t) ∗ owns (c : Thread nD τ) arg9 fullShare (bx5 a V c t) ∗ owns (c : Thread nD τ) arg10 fullShare (bx6 a V c t) ∗ owns (c : Thread nD τ) arg11 fullShare (outAt a V c t.val))) := by
  obtain ⟨q, hq⟩ : ∃ q, q = t.val / 2 := ⟨_, rfl⟩
  have hlt : t.val < 256 := t.isLt.trans_eq N_1
  have htq : t.val = 2 * q + 1 := by omega
  have htp : pt (2 * q + 1) = t := by rw [← htq]; exact pt_val t
  have hw : word (F := F) (grid1.coords t) (Memref.whole main_v12) (a.1 0) = BitVec.ofNat 32 (⟨(wordAt a q).toNat, by have := Hc q; omega⟩ : Fin 1025).val := by
    rw [show (⟨(wordAt a q).toNat, by have := Hc q; omega⟩ : Fin 1025).val = (wordAt a q).toNat from rfl, BitVec.ofNat_toNat, BitVec.setWidth_eq]
    exact word_pair a t ht q hq
  unfold kept
  obtain ⟨h3, h8, h4, h5, h1, hf⟩ := odd_facts t ht
  iintro ⟨⟨⟨%xc, %yc, %hC, Hx, Hy⟩, HR, HT⟩, Ho, H0, H1, H2, H3, H4, H5, H6, H7⟩
  unfold Carried at hC
  rw [if_neg (by omega), ← hq] at hC
  obtain ⟨hx, hy⟩ := hC
  have eo : X = outBefore a V c q := by
    rw [hX (by omega)]
    unfold outAt; rw [if_pos (by omega)]; congr 1; omega
  subst hy
  iapply (scatter_call c Set.univ (grid1.coords t) _ _ _ _ _ _ _ _ _ _ _ _ _ _ _ _ _ _ _ _ _ _ (a.1 0) (bx0 a V c t) (bx1 a V c t) (bx2 a V c t) (bx3 a V c t) (bx4 a V c t) (bx5 a V c t) (bx6 a V c t) X xc (fill (halfAt a V c q) (tiles (wordAt a q).toNat) (prodAt a V c q)) _ hw h3 h8 h4 h5 h1 hf
    (rowsAt a V c q) (halfAt a V c q) hx (fun k hk inb => ld_fill _ _ _ _ hk inb) _)
  have ep : fill (fun k => addOf (rowsAt a V c q k) (bx4 a V c t) (bx5 a V c t) (bx6 a V c t) (halfAt a V c q k)) (tiles (wordAt a q).toNat) (fill (halfAt a V c q) (tiles (wordAt a q).toNat) (prodAt a V c q)) = prodAt a V c (q + 1) := by
    subst htp; rfl
  have eq8 : (grid1.coords t 1).val = q % 8 := by rw [(place_facts t).2.2.1, hq]
  have ef : putTo (BitVec.ofNat 32 (wordAt a q).toNat) (BitVec.ofNat 32 (grid1.coords t 1).val) (bx2 a V c t) (bx3 a V c t) (prodAt a V c (q + 1)) (outBefore a V c q) (tiles (wordAt a q).toNat) = outAt a V c t.val := by
    unfold outAt; rw [if_neg (by omega), ← hq, outAfter_eq, eq8, BitVec.ofNat_toNat, BitVec.setWidth_eq]
    unfold addAt; subst htp; rfl
  dsimp only at *
  rw [ep, eo, ef]
  simp only [Memref.view_whole, View.set_whole, owns_whole]
  isplitl [HT]; · iexact HT
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [Hx]; · iexact Hx
  isplitl [Hy]; · iexact Hy
  iintro ⟨HT, H0, H1, H2, H3, H4, H5, H6, H7, Hx, Hy⟩
  isplitl [Hx Hy HR HT]
  · isplitl [Hx Hy]
    · iexists xc, (prodAt a V c (q + 1)); isplitr
      swap
      · isplitl [Hx]; · iexact Hx
        iexact Hy
      ipureintro
      unfold Carried
      rw [if_pos (by omega), show (t.val + 1) / 2 = q + 1 by omega]
      exact fun _ => rfl
    isplitl [HR]; · iexact HR
    iexact HT
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- Operand 0's buffer before a point. -/
theorem moe_pre0 (t : Fin (cfg1 a).N) : (iprop(∃ d, owns (c : Thread nD τ) (((cfg1 a).win 0).stage ((cfg1 a).slots t 0)) fullShare ((moeDat a V c).before 0 t d)) : sProp 𝕄) ⊢ owns (c : Thread nD τ) (spec1_0.stage ((cfg1 a).slots t 0)) fullShare (bx0 a V c t) := by
  refine exists_elim fun d => ?_
  have h := moe_before0 a V c t d
  rw [h]; exact BI.Entails.refl _
/-- And after it. -/
theorem moe_post0 (t : Fin (cfg1 a).N) : (owns (c : Thread nD τ) (spec1_0.stage ((cfg1 a).slots t 0)) fullShare (bx0 a V c t) : sProp 𝕄) ⊢ owns (c : Thread nD τ) (((cfg1 a).win 0).stage ((cfg1 a).slots t 0)) fullShare ((moeDat a V c).after 0 t) := by
  rw [moe_after0]; exact BI.Entails.refl _

/-- Operand 1's buffer before a point. -/
theorem moe_pre1 (t : Fin (cfg1 a).N) : (iprop(∃ d, owns (c : Thread nD τ) (((cfg1 a).win 1).stage ((cfg1 a).slots t 1)) fullShare ((moeDat a V c).before 1 t d)) : sProp 𝕄) ⊢ owns (c : Thread nD τ) (spec1_1.stage ((cfg1 a).slots t 1)) fullShare (bx1 a V c t) := by
  refine exists_elim fun d => ?_
  have h := moe_before1 a V c t d
  rw [h]; exact BI.Entails.refl _
/-- And after it. -/
theorem moe_post1 (t : Fin (cfg1 a).N) : (owns (c : Thread nD τ) (spec1_1.stage ((cfg1 a).slots t 1)) fullShare (bx1 a V c t) : sProp 𝕄) ⊢ owns (c : Thread nD τ) (((cfg1 a).win 1).stage ((cfg1 a).slots t 1)) fullShare ((moeDat a V c).after 1 t) := by
  rw [moe_after1]; exact BI.Entails.refl _

/-- Operand 2's buffer before a point. -/
theorem moe_pre2 (t : Fin (cfg1 a).N) : (iprop(∃ d, owns (c : Thread nD τ) (((cfg1 a).win 2).stage ((cfg1 a).slots t 2)) fullShare ((moeDat a V c).before 2 t d)) : sProp 𝕄) ⊢ owns (c : Thread nD τ) (spec1_2.stage ((cfg1 a).slots t 2)) fullShare (bx2 a V c t) := by
  refine exists_elim fun d => ?_
  have h := moe_before2 a V c t d
  rw [h]; exact BI.Entails.refl _
/-- And after it. -/
theorem moe_post2 (t : Fin (cfg1 a).N) : (owns (c : Thread nD τ) (spec1_2.stage ((cfg1 a).slots t 2)) fullShare (bx2 a V c t) : sProp 𝕄) ⊢ owns (c : Thread nD τ) (((cfg1 a).win 2).stage ((cfg1 a).slots t 2)) fullShare ((moeDat a V c).after 2 t) := by
  rw [moe_after2]; exact BI.Entails.refl _

/-- Operand 3's buffer before a point. -/
theorem moe_pre3 (t : Fin (cfg1 a).N) : (iprop(∃ d, owns (c : Thread nD τ) (((cfg1 a).win 3).stage ((cfg1 a).slots t 3)) fullShare ((moeDat a V c).before 3 t d)) : sProp 𝕄) ⊢ owns (c : Thread nD τ) (spec1_3.stage ((cfg1 a).slots t 3)) fullShare (bx3 a V c t) := by
  refine exists_elim fun d => ?_
  have h := moe_before3 a V c t d
  rw [h]; exact BI.Entails.refl _
/-- And after it. -/
theorem moe_post3 (t : Fin (cfg1 a).N) : (owns (c : Thread nD τ) (spec1_3.stage ((cfg1 a).slots t 3)) fullShare (bx3 a V c t) : sProp 𝕄) ⊢ owns (c : Thread nD τ) (((cfg1 a).win 3).stage ((cfg1 a).slots t 3)) fullShare ((moeDat a V c).after 3 t) := by
  rw [moe_after3]; exact BI.Entails.refl _

/-- Operand 4's buffer before a point. -/
theorem moe_pre4 (t : Fin (cfg1 a).N) : (iprop(∃ d, owns (c : Thread nD τ) (((cfg1 a).win 4).stage ((cfg1 a).slots t 4)) fullShare ((moeDat a V c).before 4 t d)) : sProp 𝕄) ⊢ owns (c : Thread nD τ) (spec1_4.stage ((cfg1 a).slots t 4)) fullShare (bx4 a V c t) := by
  refine exists_elim fun d => ?_
  have h := moe_before4 a V c t d
  rw [h]; exact BI.Entails.refl _
/-- And after it. -/
theorem moe_post4 (t : Fin (cfg1 a).N) : (owns (c : Thread nD τ) (spec1_4.stage ((cfg1 a).slots t 4)) fullShare (bx4 a V c t) : sProp 𝕄) ⊢ owns (c : Thread nD τ) (((cfg1 a).win 4).stage ((cfg1 a).slots t 4)) fullShare ((moeDat a V c).after 4 t) := by
  rw [moe_after4]; exact BI.Entails.refl _

/-- Operand 5's buffer before a point. -/
theorem moe_pre5 (t : Fin (cfg1 a).N) : (iprop(∃ d, owns (c : Thread nD τ) (((cfg1 a).win 5).stage ((cfg1 a).slots t 5)) fullShare ((moeDat a V c).before 5 t d)) : sProp 𝕄) ⊢ owns (c : Thread nD τ) (spec1_5.stage ((cfg1 a).slots t 5)) fullShare (bx5 a V c t) := by
  refine exists_elim fun d => ?_
  have h := moe_before5 a V c t d
  rw [h]; exact BI.Entails.refl _
/-- And after it. -/
theorem moe_post5 (t : Fin (cfg1 a).N) : (owns (c : Thread nD τ) (spec1_5.stage ((cfg1 a).slots t 5)) fullShare (bx5 a V c t) : sProp 𝕄) ⊢ owns (c : Thread nD τ) (((cfg1 a).win 5).stage ((cfg1 a).slots t 5)) fullShare ((moeDat a V c).after 5 t) := by
  rw [moe_after5]; exact BI.Entails.refl _

/-- Operand 6's buffer before a point. -/
theorem moe_pre6 (t : Fin (cfg1 a).N) : (iprop(∃ d, owns (c : Thread nD τ) (((cfg1 a).win 6).stage ((cfg1 a).slots t 6)) fullShare ((moeDat a V c).before 6 t d)) : sProp 𝕄) ⊢ owns (c : Thread nD τ) (spec1_6.stage ((cfg1 a).slots t 6)) fullShare (bx6 a V c t) := by
  refine exists_elim fun d => ?_
  have h := moe_before6 a V c t d
  rw [h]; exact BI.Entails.refl _
/-- And after it. -/
theorem moe_post6 (t : Fin (cfg1 a).N) : (owns (c : Thread nD τ) (spec1_6.stage ((cfg1 a).slots t 6)) fullShare (bx6 a V c t) : sProp 𝕄) ⊢ owns (c : Thread nD τ) (((cfg1 a).win 6).stage ((cfg1 a).slots t 6)) fullShare ((moeDat a V c).after 6 t) := by
  rw [moe_after6]; exact BI.Entails.refl _

/-- The result's buffer after a point, as the pipeline asks for it: at a point that leaves it alone, what it held. -/
theorem moe_post7 (t : Fin (cfg1 a).N) (d : ((cfg1 a).win 7).block.Idx → Elt F ((cfg1 a).win 7).elt) :
    (owns (c : Thread nD τ) (spec1_7.stage ((cfg1 a).slots t 7)) fullShare (outAt a V c t.val) : sProp 𝕄) ⊢
      (match (cfg1 a).idle 7 ((cfg1 a).grid.coords t) with
       | true => match ((cfg1 a).win 7).flush t with
         | false => iprop(∃ d, owns (c : Thread nD τ) (((cfg1 a).win 7).stage ((cfg1 a).slots t 7)) fullShare ((moeDat a V c).before 7 t d))
         | true => owns (c : Thread nD τ) (((cfg1 a).win 7).stage ((cfg1 a).slots t 7)) fullShare ((moeDat a V c).after 7 t)
       | false => owns (c : Thread nD τ) (((cfg1 a).win 7).stage ((cfg1 a).slots t 7)) fullShare ((moeDat a V c).after 7 t)) := by
  by_cases hi : t.val % 2 = 0 ∧ t.val % 16 ≠ 0
  · have hidle : (cfg1 a).idle 7 ((cfg1 a).grid.coords t) = true := (idle_facts t).trans (decide_eq_true hi)
    have hfl : ((cfg1 a).win 7).flush t = false := by
      rw [Bool.eq_false_iff]; intro hf
      have h2 : t.val % 16 = 15 := (flush1_7 a _).1 hf
      omega
    rw [hidle, hfl]; dsimp only
    refine exists_intro_trans d ?_
    rw [moe_before7 a V c t hi.2 d]
    have e : outAt a V c t.val = outAt a V c (t.val - 1) := by
      unfold outAt; rw [if_pos hi.1, if_neg (by omega)]; unfold outBefore
      rw [if_neg (by omega)]; congr 1; omega
    rw [e]; exact BI.Entails.refl _
  · have hidle : (cfg1 a).idle 7 ((cfg1 a).grid.coords t) = false := (idle_facts t).trans (decide_eq_false hi)
    rw [hidle, moe_after7]; exact BI.Entails.refl _

/-- What is carried from point to point. -/
theorem moe_carry (t : Fin ((cfg1 a).N + 1)) (n : ℕ) (h : t.val = n) : ((moeDat a V c).Φ t : sProp 𝕄) = kept a V c n := by
  rw [← h]; dsimp only [moeDat]

/-- An equation read as an entailment. -/
theorem entails_of_eq {P Q : sProp 𝕄} (h : P = Q) : P ⊢ Q := by
  rw [h]

/-- The pipeline's body obligation. -/
theorem moe_body (Hc : ∀ q, (wordAt a q).toNat ≤ 1024) : BodyObligation (moeDat a V c) (defs₀ (F := F)) Variants.none () Set.univ := fun t => by
  rw [bigSep_W1, bigSep_W1]
  rw [show defs₀ (F := F) .tc (cfg1 a).body ((cfg1 a).bodyArgs t ((cfg1 a).slots t)) = bodyAt1 a t by unfold defs₀; rw [Defs.onTc_tc]]
  have hΦ := entails_of_eq (moe_carry a V c t.castSucc t.val (Fin.val_castSucc t))
  refine (BIClass.sep_mono hΦ (BIClass.sep_mono .rfl (BIClass.sep_mono (moe_pre0 a V c t) (BIClass.sep_mono (moe_pre1 a V c t) (BIClass.sep_mono (moe_pre2 a V c t) (BIClass.sep_mono (moe_pre3 a V c t) (BIClass.sep_mono (moe_pre4 a V c t) (BIClass.sep_mono (moe_pre5 a V c t) (BIClass.sep_mono (moe_pre6 a V c t) .rfl))))))))).trans ?_
  iintro ⟨HΦ, Ho, H0, H1, H2, H3, H4, H5, H6, ⟨%d, H7⟩⟩
  have hX : t.val % 16 ≠ 0 → (moeDat a V c).before 7 t d = outAt a V c (t.val - 1) := fun h => moe_before7 a V c t h d
  have key := fun (par : t.val % 2 = 0 ∨ t.val % 2 = 1) => par.elim
    (fun h => moe_even a V c Hc t h ((moeDat a V c).owesAt () t.castSucc) ((moeDat a V c).before 7 t d) hX (spec1_0.stage ((cfg1 a).slots t 0)) (hstage1_0 (((cfg1 a).slots t 0).cast nbuf1_0)) (spec1_1.stage ((cfg1 a).slots t 1)) (hstage1_1 (((cfg1 a).slots t 1).cast nbuf1_1)) (spec1_2.stage ((cfg1 a).slots t 2)) (hstage1_2 (((cfg1 a).slots t 2).cast nbuf1_2)) (spec1_3.stage ((cfg1 a).slots t 3)) (hstage1_3 (((cfg1 a).slots t 3).cast nbuf1_3)) (spec1_4.stage ((cfg1 a).slots t 4)) (hstage1_4 (((cfg1 a).slots t 4).cast nbuf1_4)) (spec1_5.stage ((cfg1 a).slots t 5)) (hstage1_5 (((cfg1 a).slots t 5).cast nbuf1_5)) (spec1_6.stage ((cfg1 a).slots t 6)) (hstage1_6 (((cfg1 a).slots t 6).cast nbuf1_6)) (spec1_7.stage ((cfg1 a).slots t 7)) (hstage1_7 (((cfg1 a).slots t 7).cast nbuf1_7)))
    (fun h => moe_odd a V c Hc t h ((moeDat a V c).owesAt () t.castSucc) ((moeDat a V c).before 7 t d) hX (spec1_0.stage ((cfg1 a).slots t 0)) (hstage1_0 (((cfg1 a).slots t 0).cast nbuf1_0)) (spec1_1.stage ((cfg1 a).slots t 1)) (hstage1_1 (((cfg1 a).slots t 1).cast nbuf1_1)) (spec1_2.stage ((cfg1 a).slots t 2)) (hstage1_2 (((cfg1 a).slots t 2).cast nbuf1_2)) (spec1_3.stage ((cfg1 a).slots t 3)) (hstage1_3 (((cfg1 a).slots t 3).cast nbuf1_3)) (spec1_4.stage ((cfg1 a).slots t 4)) (hstage1_4 (((cfg1 a).slots t 4).cast nbuf1_4)) (spec1_5.stage ((cfg1 a).slots t 5)) (hstage1_5 (((cfg1 a).slots t 5).cast nbuf1_5)) (spec1_6.stage ((cfg1 a).slots t 6)) (hstage1_6 (((cfg1 a).slots t 6).cast nbuf1_6)) (spec1_7.stage ((cfg1 a).slots t 7)) (hstage1_7 (((cfg1 a).slots t 7).cast nbuf1_7)))
  have key := triple_restated (key (Nat.mod_two_eq_zero_or_one t.val)) rfl (.rfl)
    (fun _ => BIClass.sep_mono (entails_of_eq (moe_carry a V c t.succ (t.val + 1) (Fin.val_succ t)).symm) (BIClass.sep_mono .rfl (BIClass.sep_mono (moe_post0 a V c t) (BIClass.sep_mono (moe_post1 a V c t) (BIClass.sep_mono (moe_post2 a V c t) (BIClass.sep_mono (moe_post3 a V c t) (BIClass.sep_mono (moe_post4 a V c t) (BIClass.sep_mono (moe_post5 a V c t) (BIClass.sep_mono (moe_post6 a V c t) (moe_post7 a V c t d))))))))))
  iapply key
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

end Cert.Moe
end
-- ==== Proof.MoeRouter.lean ====
module

public import proofs.«01_k».proof.Proof.Gen.KernelIdeal.Skeleton
public import proofs.«01_k».proof.Proof.Gen.KernelIdeal.Points
public import proofs.«01_k».proof.Proof.Gen.KernelIdeal.Launch
public import Idealize.ShloMosaic.Lib.Pipeline.Frame
public import Idealize.ShloMosaic.Lib.Pipeline.FrameBody
public import Idealize.ShloMosaic.Lib.VecWindow
public import Idealize.ShloMosaic.Lib.Tactic

/-! The router call: what it leaves in its three results, at every grid point. -/

@[expose] public section
set_option maxRecDepth 16384
noncomputable section
namespace Cert.Moe
open Idealize.ShloMosaic Idealize.ShloMosaic.TcCoe Idealize.ShloMosaic.Tactic Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

/-- A block's routing weights: each token's two weights at its two experts' lanes, zero elsewhere. -/
def gateOf (x0 : Vec F S1024x1024 .f32) (x1 : Vec F S1024x128 .f32) : Vec F S1024x128 .f32 :=
  k0_pay1 (k0_pay9 x0 x1) (k0_pay12 x0 x1) (k0_pay14 x0 x1) (k0_pay15 x0 x1) (Scalar.ofBits .f32 0x00000000#32)

/-- A block's ranks: at a chosen expert's lane the number of earlier tokens that chose it, `-1` elsewhere. -/
def posOf (x0 : Vec F S1024x1024 .f32) (x1 : Vec F S1024x128 .f32) : Vec F S1024x128 .f32 := k0_pay4 (k0_pay9 x0 x1) (k0_pay12 x0 x1)

/-- A block's counts: how many of its tokens chose each expert. -/
def cntOf (x0 : Vec F S1024x1024 .f32) (x1 : Vec F S1024x128 .f32) : Vec F S1x8x128 .f32 := k0_pay5 (k0_pay9 x0 x1) (k0_pay12 x0 x1)

set_option maxHeartbeats 1000000 in
/-- The call on whole buffers: from its operands it leaves the results named above. -/
theorem route_call (c : Dev nD) (E : Set ℕ) (i : grid0.Coords) (arg1 : Memref sig .tc .vmem S1024x1024 .f32) (harg1 : arg1.IsWhole) (arg2 : Memref sig .tc .vmem S1024x128 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1x8x128 .f32) (harg5 : arg5.IsWhole)
    (x0 : Vec F S1024x1024 .f32) (x1 : Vec F S1024x128 .f32) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare (gateOf x0 x1) ∗ owns (c : Thread nD τ) arg4 fullShare (posOf x0 x1) ∗ owns (c : Thread nD τ) arg5 fullShare (cntOf x0 x1)) -∗ K ⟨⟩))
      ⊢ wp frame (wpE (defs₀ (F := F)) Variants.none c none) E (cc0_router i arg1 harg1 arg2 harg2 arg3 harg3 arg4 harg4 arg5 harg5) K := by
  simp only [cc0_router_eq_skeleton]; unfold cc0_router_skel
  simp only [k0_part1_eq_skeleton]
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (View.read_writes_full _ _ _ _ _).trans ?_
    show _ = gateOf (arg1.view.read (Elt F) f0) (arg2.view.read (Elt F) f1)
    unfold gateOf
    repeat rw [← View.readAt_full _ _ (off := ![0, 0]) (by decide)]
    all_goals first | rfl | (simp only [View.readAt_full]; rfl)
  isplitl [H3]
  · iexists _; isplitr
    swap; · iexact H3
    ipureintro
    refine (View.read_writes_full _ _ _ _ _).trans ?_
    show _ = posOf (arg1.view.read (Elt F) f0) (arg2.view.read (Elt F) f1)
    unfold posOf
    repeat rw [← View.readAt_full _ _ (off := ![0, 0]) (by decide)]
    all_goals first | rfl | (simp only [View.readAt_full]; rfl)
  iexists _; isplitr
  swap; · iexact H4
  ipureintro
  refine (View.read_writes_full _ _ _ _ _).trans ?_
  show _ = cntOf (arg1.view.read (Elt F) f0) (arg2.view.read (Elt F) f1)
  unfold cntOf
  repeat rw [← View.readAt_full _ _ (off := ![0, 0]) (by decide)]
  all_goals first | rfl | (simp only [View.readAt_full]; rfl)

variable (V : Dev nD → Valuation τ sig (Elt F))

/-- The part of window `w`'s array that grid point `t` reads, the arrays being at `V`. -/
def routeBlk (c : Dev nD) (w : Fin cfg0.W) (t : Fin cfg0.N) : ((cfg0.win w).xblock (cfg0.grid.coords t)).Idx → Elt F (cfg0.win w).elt :=
  ((cfg0.win w).blk t).view.read (Elt F) (V c (Proc.devRef .tc (Pipeline.arrRef spec0 w)))

/-- What the call's pipeline holds at each grid point: the operands' blocks and the results computed from them. -/
def routeDat (c : Dev nD) : Dat τ (Elt F) Unit ℕ (UR sig nD τ) ℕ cfg0 c where
  A w := V c (Proc.devRef .tc (Pipeline.arrRef spec0 w))
  after w t := match w with
    | ⟨0, _⟩ => routeBlk V c 0 t
    | ⟨1, _⟩ => routeBlk V c 1 t
    | ⟨2, _⟩ => gateOf (routeBlk V c 0 t) (routeBlk V c 1 t)
    | ⟨3, _⟩ => posOf (routeBlk V c 0 t) (routeBlk V c 1 t)
    | ⟨4, _⟩ => cntOf (routeBlk V c 0 t) (routeBlk V c 1 t)
  Φ _ := Pipeline.scopedRest spec0 c
  q _ := fullShare
  owed _ := 0

/-- The arrays are entered at `V`. -/
theorem route_A (c : Dev nD) (w : Fin cfg0.W) : (routeDat V c).A w = V c (Proc.devRef .tc (Pipeline.arrRef spec0 w)) := by
  dsimp only [routeDat]

/-- What window 0 holds after a point. -/
theorem route_after0 (c : Dev nD) (t : Fin cfg0.N) : (routeDat V c).after 0 t = routeBlk V c 0 t := by dsimp only [routeDat]
/-- What window 1 holds after a point. -/
theorem route_after1 (c : Dev nD) (t : Fin cfg0.N) : (routeDat V c).after 1 t = routeBlk V c 1 t := by dsimp only [routeDat]
/-- What window 2 holds after a point. -/
theorem route_after2 (c : Dev nD) (t : Fin cfg0.N) : (routeDat V c).after 2 t = gateOf (routeBlk V c 0 t) (routeBlk V c 1 t) := by dsimp only [routeDat]
/-- What window 3 holds after a point. -/
theorem route_after3 (c : Dev nD) (t : Fin cfg0.N) : (routeDat V c).after 3 t = posOf (routeBlk V c 0 t) (routeBlk V c 1 t) := by dsimp only [routeDat]
/-- What window 4 holds after a point. -/
theorem route_after4 (c : Dev nD) (t : Fin cfg0.N) : (routeDat V c).after 4 t = cntOf (routeBlk V c 0 t) (routeBlk V c 1 t) := by dsimp only [routeDat]
/-- Operand 0's buffer holds its block at every point. -/
theorem route_before0 (c : Dev nD) (t : Fin cfg0.N) (d) : (routeDat V c).before 0 t d = routeBlk V c 0 t :=
  ((routeDat V c).before_in_eq_fetched 0 rfl (fun _ => rfl) (fun _ _ _ => rfl) (fun t => by rw [route_after0]; unfold Dat.blockOf routeBlk; rw [route_A]; try rfl) t d).trans
    (by unfold Dat.fetched Dat.blockOf routeBlk; rw [route_A]; try rfl)
/-- Operand 1's buffer holds its block at every point. -/
theorem route_before1 (c : Dev nD) (t : Fin cfg0.N) (d) : (routeDat V c).before 1 t d = routeBlk V c 1 t :=
  ((routeDat V c).before_in_eq_fetched 1 rfl (fun _ => rfl) (fun _ _ _ => rfl) (fun t => by rw [route_after1]; unfold Dat.blockOf routeBlk; rw [route_A]; try rfl) t d).trans
    (by unfold Dat.fetched Dat.blockOf routeBlk; rw [route_A]; try rfl)

/-- At every grid point the call takes its windows from what they hold before to what they hold after. -/
theorem route_point (c : Dev nD) (t : Fin cfg0.N) :
    iprop((routeDat V c).Φ t.castSucc ∗ (routeDat V c).owesAt () t.castSucc
      ∗ (∃ d, owns (c : Thread nD τ) (st0_0 t) fullShare ((routeDat V c).before 0 t d))
      ∗ (∃ d, owns (c : Thread nD τ) (st0_1 t) fullShare ((routeDat V c).before 1 t d))
      ∗ (∃ d, owns (c : Thread nD τ) (st0_2 t) fullShare ((routeDat V c).before 2 t d))
      ∗ (∃ d, owns (c : Thread nD τ) (st0_3 t) fullShare ((routeDat V c).before 3 t d))
      ∗ (∃ d, owns (c : Thread nD τ) (st0_4 t) fullShare ((routeDat V c).before 4 t d)))
    ⊢ wp frame (wpE (defs₀ (F := F)) Variants.none c none) Set.univ (bodyAt0 t) (fun _ =>
      iprop((routeDat V c).Φ t.succ ∗ (routeDat V c).owesAt () t.succ
      ∗ owns (c : Thread nD τ) (st0_0 t) fullShare ((routeDat V c).after 0 t)
      ∗ owns (c : Thread nD τ) (st0_1 t) fullShare ((routeDat V c).after 1 t)
      ∗ owns (c : Thread nD τ) (st0_2 t) fullShare ((routeDat V c).after 2 t)
      ∗ owns (c : Thread nD τ) (st0_3 t) fullShare ((routeDat V c).after 3 t)
      ∗ owns (c : Thread nD τ) (st0_4 t) fullShare ((routeDat V c).after 4 t))) := by
  unfold bodyAt0
  simp only [route_before0, route_before1]
  rw [show (routeDat V c).Φ t.succ = (routeDat V c).Φ t.castSucc from rfl,
    show (routeDat V c).owesAt () t.succ = (routeDat V c).owesAt () t.castSucc from rfl,
    route_after0, route_after1, route_after2, route_after3, route_after4]
  iintro ⟨HΦ, Ho, ⟨%d0, H0⟩, ⟨%d1, H1⟩, ⟨%d2, H2⟩, ⟨%d3, H3⟩, ⟨%d4, H4⟩⟩
  iapply (route_call c Set.univ (grid0.coords t) _ _ _ _ _ _ _ _ _ _ (routeBlk V c 0 t) (routeBlk V c 1 t) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation. -/
theorem route_body (c : Dev nD) : BodyObligation (routeDat (F := F) V c) (defs₀ (F := F)) Variants.none () Set.univ := fun t => by
  rw [bigSep_W0, bigSep_W0]
  rw [show defs₀ (F := F) .tc cfg0.body (cfg0.bodyArgs t (cfg0.slots t)) = bodyAt0 t by unfold defs₀; rw [Defs.onTc_tc]]
  exact triple_restated (route_point V c t) rfl .rfl fun _ => .rfl

end Cert.Moe
end
-- ==== Proof.MoeNorm.lean ====
module

public import proofs.«01_k».proof.Proof.Gen.KernelIdeal.Skeleton
public import proofs.«01_k».proof.Proof.Gen.KernelIdeal.Points
public import proofs.«01_k».proof.Proof.Gen.KernelIdeal.Launch
public import Idealize.ShloMosaic.Lib.Pipeline.Frame
public import Idealize.ShloMosaic.Lib.Pipeline.FrameBody
public import Idealize.ShloMosaic.Lib.VecWindow
public import Idealize.ShloMosaic.Lib.Tactic

/-! The closing call, residual and layer norm: what it leaves in its result, at every grid point. -/

@[expose] public section
set_option maxRecDepth 16384
noncomputable section
namespace Cert.Moe
open Idealize.ShloMosaic Idealize.ShloMosaic.TcCoe Idealize.ShloMosaic.Tactic Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

/-- A block of the residual sum's layer norm. -/
def normOf (x0 x1 : Vec F S1024x1024 .f32) (x2 x3 : Vec F S1x1024 .f32) : Vec F S1024x1024 .f32 := k2_pay1 x0 x1 x2 x3

set_option maxHeartbeats 1000000 in
/-- The call on whole buffers: from its operands it leaves the results named above. -/
theorem norm_call (c : Dev nD) (E : Set ℕ) (i : grid2.Coords) (arg1 : Memref sig .tc .vmem S1024x1024 .f32) (harg1 : arg1.IsWhole) (arg2 : Memref sig .tc .vmem S1024x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1024x1024 .f32) (harg5 : arg5.IsWhole)
    (x0 : Vec F S1024x1024 .f32) (x1 : Vec F S1024x1024 .f32) (x2 : Vec F S1x1024 .f32) (x3 : Vec F S1x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (normOf x0 x1 x2 x3)) -∗ K ⟨⟩))
      ⊢ wp frame (wpE (defs₀ (F := F)) Variants.none c none) E (cc2_res_ln i arg1 harg1 arg2 harg2 arg3 harg3 arg4 harg4 arg5 harg5) K := by
  simp only [cc2_res_ln_eq_skeleton]; unfold cc2_res_ln_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  refine (View.read_writes_full _ _ _ _ _).trans ?_
  show _ = normOf (arg1.view.read (Elt F) f0) (arg2.view.read (Elt F) f1) (arg3.view.read (Elt F) f2) (arg4.view.read (Elt F) f3)
  unfold normOf
  repeat rw [← View.readAt_full _ _ (off := ![0, 0]) (by decide)]
  all_goals first | rfl | (simp only [View.readAt_full]; rfl)

variable (V : Dev nD → Valuation τ sig (Elt F))

/-- The part of window `w`'s array that grid point `t` reads, the arrays being at `V`. -/
def normBlk (c : Dev nD) (w : Fin cfg2.W) (t : Fin cfg2.N) : ((cfg2.win w).xblock (cfg2.grid.coords t)).Idx → Elt F (cfg2.win w).elt :=
  ((cfg2.win w).blk t).view.read (Elt F) (V c (Proc.devRef .tc (Pipeline.arrRef spec2 w)))

/-- What the call's pipeline holds at each grid point: the operands' blocks and the results computed from them. -/
def normDat (c : Dev nD) : Dat τ (Elt F) Unit ℕ (UR sig nD τ) ℕ cfg2 c where
  A w := V c (Proc.devRef .tc (Pipeline.arrRef spec2 w))
  after w t := match w with
    | ⟨0, _⟩ => normBlk V c 0 t
    | ⟨1, _⟩ => normBlk V c 1 t
    | ⟨2, _⟩ => normBlk V c 2 t
    | ⟨3, _⟩ => normBlk V c 3 t
    | ⟨4, _⟩ => normOf (normBlk V c 0 t) (normBlk V c 1 t) (normBlk V c 2 t) (normBlk V c 3 t)
  Φ _ := Pipeline.scopedRest spec2 c
  q _ := fullShare
  owed _ := 0

/-- The arrays are entered at `V`. -/
theorem norm_A (c : Dev nD) (w : Fin cfg2.W) : (normDat V c).A w = V c (Proc.devRef .tc (Pipeline.arrRef spec2 w)) := by
  dsimp only [normDat]

/-- What window 0 holds after a point. -/
theorem norm_after0 (c : Dev nD) (t : Fin cfg2.N) : (normDat V c).after 0 t = normBlk V c 0 t := by dsimp only [normDat]
/-- What window 1 holds after a point. -/
theorem norm_after1 (c : Dev nD) (t : Fin cfg2.N) : (normDat V c).after 1 t = normBlk V c 1 t := by dsimp only [normDat]
/-- What window 2 holds after a point. -/
theorem norm_after2 (c : Dev nD) (t : Fin cfg2.N) : (normDat V c).after 2 t = normBlk V c 2 t := by dsimp only [normDat]
/-- What window 3 holds after a point. -/
theorem norm_after3 (c : Dev nD) (t : Fin cfg2.N) : (normDat V c).after 3 t = normBlk V c 3 t := by dsimp only [normDat]
/-- What window 4 holds after a point. -/
theorem norm_after4 (c : Dev nD) (t : Fin cfg2.N) : (normDat V c).after 4 t = normOf (normBlk V c 0 t) (normBlk V c 1 t) (normBlk V c 2 t) (normBlk V c 3 t) := by dsimp only [normDat]
/-- Operand 0's buffer holds its block at every point. -/
theorem norm_before0 (c : Dev nD) (t : Fin cfg2.N) (d) : (normDat V c).before 0 t d = normBlk V c 0 t :=
  ((normDat V c).before_in_eq_fetched 0 rfl (fun _ => rfl) (fun _ _ _ => rfl) (fun t => by rw [norm_after0]; unfold Dat.blockOf normBlk; rw [norm_A]; try rfl) t d).trans
    (by unfold Dat.fetched Dat.blockOf normBlk; rw [norm_A]; try rfl)
/-- Operand 1's buffer holds its block at every point. -/
theorem norm_before1 (c : Dev nD) (t : Fin cfg2.N) (d) : (normDat V c).before 1 t d = normBlk V c 1 t :=
  ((normDat V c).before_in_eq_fetched 1 rfl (fun _ => rfl) (fun _ _ _ => rfl) (fun t => by rw [norm_after1]; unfold Dat.blockOf normBlk; rw [norm_A]; try rfl) t d).trans
    (by unfold Dat.fetched Dat.blockOf normBlk; rw [norm_A]; try rfl)
/-- Operand 2's buffer holds its block at every point. -/
theorem norm_before2 (c : Dev nD) (t : Fin cfg2.N) (d) : (normDat V c).before 2 t d = normBlk V c 2 t :=
  ((normDat V c).before_in_eq_fetched 2 rfl (fun _ => rfl) (fun _ _ _ => rfl) (fun t => by rw [norm_after2]; unfold Dat.blockOf normBlk; rw [norm_A]; try rfl) t d).trans
    (by unfold Dat.fetched Dat.blockOf normBlk; rw [norm_A]; try rfl)
/-- Operand 3's buffer holds its block at every point. -/
theorem norm_before3 (c : Dev nD) (t : Fin cfg2.N) (d) : (normDat V c).before 3 t d = normBlk V c 3 t :=
  ((normDat V c).before_in_eq_fetched 3 rfl (fun _ => rfl) (fun _ _ _ => rfl) (fun t => by rw [norm_after3]; unfold Dat.blockOf normBlk; rw [norm_A]; try rfl) t d).trans
    (by unfold Dat.fetched Dat.blockOf normBlk; rw [norm_A]; try rfl)

/-- At every grid point the call takes its windows from what they hold before to what they hold after. -/
theorem norm_point (c : Dev nD) (t : Fin cfg2.N) :
    iprop((normDat V c).Φ t.castSucc ∗ (normDat V c).owesAt () t.castSucc
      ∗ (∃ d, owns (c : Thread nD τ) (st2_0 t) fullShare ((normDat V c).before 0 t d))
      ∗ (∃ d, owns (c : Thread nD τ) (st2_1 t) fullShare ((normDat V c).before 1 t d))
      ∗ (∃ d, owns (c : Thread nD τ) (st2_2 t) fullShare ((normDat V c).before 2 t d))
      ∗ (∃ d, owns (c : Thread nD τ) (st2_3 t) fullShare ((normDat V c).before 3 t d))
      ∗ (∃ d, owns (c : Thread nD τ) (st2_4 t) fullShare ((normDat V c).before 4 t d)))
    ⊢ wp frame (wpE (defs₀ (F := F)) Variants.none c none) Set.univ (bodyAt2 t) (fun _ =>
      iprop((normDat V c).Φ t.succ ∗ (normDat V c).owesAt () t.succ
      ∗ owns (c : Thread nD τ) (st2_0 t) fullShare ((normDat V c).after 0 t)
      ∗ owns (c : Thread nD τ) (st2_1 t) fullShare ((normDat V c).after 1 t)
      ∗ owns (c : Thread nD τ) (st2_2 t) fullShare ((normDat V c).after 2 t)
      ∗ owns (c : Thread nD τ) (st2_3 t) fullShare ((normDat V c).after 3 t)
      ∗ owns (c : Thread nD τ) (st2_4 t) fullShare ((normDat V c).after 4 t))) := by
  unfold bodyAt2
  simp only [norm_before0, norm_before1, norm_before2, norm_before3]
  rw [show (normDat V c).Φ t.succ = (normDat V c).Φ t.castSucc from rfl,
    show (normDat V c).owesAt () t.succ = (normDat V c).owesAt () t.castSucc from rfl,
    norm_after0, norm_after1, norm_after2, norm_after3, norm_after4]
  iintro ⟨HΦ, Ho, ⟨%d0, H0⟩, ⟨%d1, H1⟩, ⟨%d2, H2⟩, ⟨%d3, H3⟩, ⟨%d4, H4⟩⟩
  iapply (norm_call c Set.univ (grid2.coords t) _ _ _ _ _ _ _ _ _ _ (normBlk V c 0 t) (normBlk V c 1 t) (normBlk V c 2 t) (normBlk V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation. -/
theorem norm_body (c : Dev nD) : BodyObligation (normDat (F := F) V c) (defs₀ (F := F)) Variants.none () Set.univ := fun t => by
  rw [bigSep_W2, bigSep_W2]
  rw [show defs₀ (F := F) .tc cfg2.body (cfg2.bodyArgs t (cfg2.slots t)) = bodyAt2 t by unfold defs₀; rw [Defs.onTc_tc]]
  exact triple_restated (norm_point V c t) rfl .rfl fun _ => .rfl

end Cert.Moe
end
-- ==== Proof.MoeRun.lean ====
module

public import proofs.«01_k».proof.Proof.MoeRegion
public import proofs.«01_k».proof.Proof.MoeRouter
public import proofs.«01_k».proof.Proof.MoeNorm
public import proofs.«01_k».proof.Proof.Gen.KernelIdeal.Regions
public import Idealize.ShloMosaic.Lib.Pipeline.RegionArraysTS
public import Idealize.ShloMosaic.Lib.Pipeline.Regions

/-! The whole program: the router call, the host lines after it, the expert call and the normalising call, one after the other, with what
    every buffer holds in between. -/

@[expose] public section
set_option maxRecDepth 16384
noncomputable section
namespace Cert.Moe
open Idealize.ShloMosaic Idealize.ShloMosaic.TcCoe Idealize.ShloMosaic.Tactic Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation RegionSeg Seg cellOf)
variable {F : FTy → Type} [FloatOps F]
local notation "𝕄" => MT nD τ sig Unit (Elt F) ℕ (UR sig nD τ) ℕ

variable (m : (ℓ : Loc nD τ sig) → Buf (Elt F) ℓ)

/-- What the router call leaves. -/
def outs3 : Outs (F := F) := fun _ r c => Pipeline.afterRegion (routeDat (V2 m) c) (V2 m c) (Proc.devRef .tc r)

/-- The program runs on one core. -/
theorem one_core (c : Dev nD) : c = 0 := Subsingleton.elim c 0

/-- The table of counts that the expert call is handed. -/
def table : (pcfg1 (F := F)).Adm := ⟨fun k => match k with | ⟨0, _⟩ => V4 m (outs3 m) 0 main_v12, trivial⟩

/-- What the expert call leaves, after the router call. -/
def outs5 : Outs (F := F) := fun n r c => match n with
  | 3 => outs3 m 3 r c
  | _ => Pipeline.afterRegion (moeDat (table m) (V4 m (outs3 m)) c) (V4 m (outs3 m) c) (Proc.devRef .tc r)

/-- What the three calls leave. -/
def outs : Outs (F := F) := fun n r c => match n with
  | 3 => outs3 m 3 r c
  | 6 => Pipeline.afterRegion (normDat (V5 m (outs5 m)) c) (V5 m (outs5 m) c) (Proc.devRef .tc r)
  | n => outs5 m n r c

/-- A function that differs from another only at one argument is the other updated there. -/
theorem upd1 {A : Type} {B : A → Type} [DecidableEq A] (f g : (b : A) → B b) (k : A) (h : ∀ b, b ≠ k → f b = g b) :
    f = Function.update g k (f k) := by
  funext b
  by_cases e : b = k
  · subst e; rw [Function.update_self]
  · rw [Function.update_of_ne e, h b e]

/-- The same at three arguments. -/
theorem upd3 {A : Type} {B : A → Type} [DecidableEq A] (f g : (b : A) → B b) (k0 k1 k2 : A) (h : ∀ b, b ≠ k2 → b ≠ k1 → b ≠ k0 → f b = g b) :
    f = Function.update (Function.update (Function.update g k0 (f k0)) k1 (f k1)) k2 (f k2) := by
  refine upd1 f _ k2 fun b h2 => ?_
  by_cases h1 : b = k1
  · subst h1; rw [Function.update_self]
  rw [Function.update_of_ne h1]
  by_cases h0 : b = k0
  · subst h0; rw [Function.update_self]
  rw [Function.update_of_ne h0, h b h2 h1 h0]

/-- The router call's results are the only buffers it changes. -/
theorem after_route (c : Dev nD) : Pipeline.afterRegion (routeDat (V2 m) c) (V2 m c) = V3 m (outs3 m) c := by
  refine upd3 _ _ (Proc.devRef .tc main_v6_0) (Proc.devRef .tc main_v6_1) (Proc.devRef .tc main_v6_2) fun b h2 h1 h0 => ?_
  by_cases hb : ∃ w : Fin cfg0.W, b = Proc.devRef .tc (Pipeline.arrRef spec0 w)
  · obtain ⟨w, rfl⟩ := hb
    refine (Pipeline.afterRegion_arr (routeDat (V2 m) c) (V2 m c) winFacts0.arr_inj w).trans (((routeDat (V2 m) c).arrAt_in w ?_ _).trans (route_A (V2 m) c w))
    match w with
    | ⟨0, _⟩ => rfl
    | ⟨1, _⟩ => rfl
    | ⟨2, _⟩ => exact absurd rfl h0
    | ⟨3, _⟩ => exact absurd rfl h1
    | ⟨4, _⟩ => exact absurd rfl h2
  · unfold Pipeline.afterRegion; rw [dif_neg hb]

/-- The expert call's result is the only buffer it changes. -/
theorem after_moe (c : Dev nD) : Pipeline.afterRegion (moeDat (table m) (V4 m (outs3 m)) c) (V4 m (outs3 m) c) = V5 m (outs5 m) c := by
  refine (upd1 _ (V4 m (outs3 m) c) (Proc.devRef .tc main_v14) fun b h2 => ?_).trans rfl
  by_cases hb : ∃ w : Fin (cfg1 (table m)).W, b = Proc.devRef .tc (Pipeline.arrRef spec1 w)
  · obtain ⟨w, rfl⟩ := hb
    refine (Pipeline.afterRegion_arr (moeDat (table m) (V4 m (outs3 m)) c) (V4 m (outs3 m) c) winFacts1.arr_inj w).trans
      (((moeDat (table m) (V4 m (outs3 m)) c).arrAt_in w ?_ _).trans (moe_A (table m) (V4 m (outs3 m)) c w))
    match w with
    | ⟨0, _⟩ => rfl
    | ⟨1, _⟩ => rfl
    | ⟨2, _⟩ => rfl
    | ⟨3, _⟩ => rfl
    | ⟨4, _⟩ => rfl
    | ⟨5, _⟩ => rfl
    | ⟨6, _⟩ => rfl
    | ⟨7, _⟩ => exact absurd rfl h2
  · unfold Pipeline.afterRegion; rw [dif_neg hb]

/-- The normalising call's result is the only buffer it changes. -/
theorem after_norm (c : Dev nD) : Pipeline.afterRegion (normDat (V5 m (outs5 m)) c) (V5 m (outs5 m) c) = V6 m (outs m) c := by
  refine (upd1 _ (V5 m (outs5 m) c) (Proc.devRef .tc main_v15) fun b h2 => ?_).trans rfl
  by_cases hb : ∃ w : Fin cfg2.W, b = Proc.devRef .tc (Pipeline.arrRef spec2 w)
  · obtain ⟨w, rfl⟩ := hb
    refine (Pipeline.afterRegion_arr (normDat (V5 m (outs5 m)) c) (V5 m (outs5 m) c) winFacts2.arr_inj w).trans
      (((normDat (V5 m (outs5 m)) c).arrAt_in w ?_ _).trans (norm_A (V5 m (outs5 m)) c w))
    match w with
    | ⟨0, _⟩ => rfl
    | ⟨1, _⟩ => rfl
    | ⟨2, _⟩ => rfl
    | ⟨3, _⟩ => rfl
    | ⟨4, _⟩ => exact absurd rfl h2
  · unfold Pipeline.afterRegion; rw [dif_neg hb]

/-- The tables of the three calls: only the expert call has one. -/
def tabs : (p : Fin 3) → (pcfgs (F := F) p).Adm
  | ⟨0, _⟩ => cfg0.toPCfg_adm
  | ⟨1, _⟩ => table m
  | ⟨2, _⟩ => cfg2.toPCfg_adm

/-- What the three pipelines hold. -/
def dats : (p : Fin 3) → (c : Dev nD) → Dat τ (Elt F) Unit ℕ (UR sig nD τ) ℕ (Pipeline.pin (pcfgs (F := F)) (tabs m) p) c
  | ⟨0, _⟩ => fun c => routeDat (V2 m) c
  | ⟨1, _⟩ => fun c => moeDat (table m) (V4 m (outs3 m)) c
  | ⟨2, _⟩ => fun c => normDat (V5 m (outs5 m)) c

/-- Every semaphore of the core may be waited for. -/
def waits : GSem nD τ sig → Finset Unit := fun g => if g.1.2 = .tc then {()} else ∅

/-- Nothing is owed, so nothing orders the waits. -/
theorem no_debt (p : Fin 3) : Pipeline.LevelCut (pcfgs (F := F)) (tabs m) () waits (fun _ _ => (0 : ℕ)) p (fun _ => 0) (fun _ => 0) where
  hι _ _ _ := by unfold waits; rw [if_pos rfl]; exact Finset.mem_singleton_self _
  hιb _ _ _ := le_refl _
  hD _ _ _ h := absurd h (lt_irrefl _)

/-- What a core keeps besides its buffers. -/
def rest (c : Dev nD) : sProp 𝕄 := iprop((∃ W, owes (c : Thread nD τ) (0 : CellTallies nD τ sig Unit) W) ∗ emp ∗ emp)

/-- The router call as a stretch of the program. -/
def region0 : RegionSeg (pcfgs (F := F)) (tabs m) (dats m) () defs₀ Variants.none waits (fun _ _ => 0) 0 :=
  RegionSeg.ofHeldIn pcfgs (tabs m) (dats m) () defs₀ Variants.none waits (fun _ _ => 0) 0 (fun _ => 0) (Pipeline.ucRefs τ sig) (fun _ => iprop(emp)) (fun _ => iprop(emp))
    launch0 rfl (fun c => (route_body (V2 m) c).loose) (fun _ _ => rfl) (fun _ => rfl) (fun c w => by show (routeDat (V2 m) c).share w = fullShare; unfold Dat.share; split <;> rfl)
    (fun c => by
      show iprop(Pipeline.scopedRest spec0 c ∗ emp) ⊢ (Pipeline.scopedRest spec0 c : sProp 𝕄)
      iintro ⟨H, -⟩; iexact H)
    (fun c => by
      show (Pipeline.scopedRest spec0 c : sProp 𝕄) ⊢ iprop(Pipeline.scopedRest spec0 c ∗ emp)
      iintro H; isplitl [H]; · iexact H
      iempintro)
    (fun _ => 0) (no_debt m 0) (fun _ => iprop(emp)) (fun c => V2 m c) (fun c w => route_A (V2 m) c w)

/-- The normalising call as a stretch of the program. -/
def region2 : RegionSeg (pcfgs (F := F)) (tabs m) (dats m) () defs₀ Variants.none waits (fun _ _ => 0) 2 :=
  RegionSeg.ofHeldIn pcfgs (tabs m) (dats m) () defs₀ Variants.none waits (fun _ _ => 0) 2 (fun _ => 0) (Pipeline.ucRefs τ sig) (fun _ => iprop(emp)) (fun _ => iprop(emp))
    launch2 rfl (fun c => (norm_body (V5 m (outs5 m)) c).loose) (fun _ _ => rfl) (fun _ => rfl) (fun c w => by show (normDat (V5 m (outs5 m)) c).share w = fullShare; unfold Dat.share; split <;> rfl)
    (fun c => by
      show iprop(Pipeline.scopedRest spec2 c ∗ emp) ⊢ (Pipeline.scopedRest spec2 c : sProp 𝕄)
      iintro ⟨H, -⟩; iexact H)
    (fun c => by
      show (Pipeline.scopedRest spec2 c : sProp 𝕄) ⊢ iprop(Pipeline.scopedRest spec2 c ∗ emp)
      iintro H; isplitl [H]; · iexact H
      iempintro)
    (fun _ => 0) (no_debt m 2) (fun _ => iprop(emp)) (fun c => V5 m (outs5 m) c) (fun c w => norm_A (V5 m (outs5 m)) c w)

/-- The one table of the expert call. -/
theorem tables_eq (c : Dev nD) : (Pipeline.tablesAt (pcfgs (F := F)) (tabs m) 1 c : sProp 𝕄) = iprop((((c : Thread nD τ).loc main_v12) ↦{fullShare} (table m).1 0)) := by
  show (bigSep Finset.univ fun k : Fin 1 => ((c.tc : Thread nD τ).loc (pre1.ref k)) ↦{fullShare} (table m).1 k : sProp 𝕄) = _
  rw [show (Finset.univ : Finset (Fin 1)) = {0} from rfl, bigSep_singleton]; rfl

/-- The scratch buffers set apart from the others. -/
theorem scratch_apart (c : Dev nD) : (Pipeline.scopedRest spec1 c : sProp 𝕄) ⊢
    iprop((∃ xc : Vec F S1248x1024 .bf16, ((c : Thread nD τ).loc cc1_scratch0) ↦{fullShare} xc) ∗ (∃ yc : Vec F S1248x1024 .f32, ((c : Thread nD τ).loc cc1_scratch1) ↦{fullShare} yc) ∗ others (F := F) c) := by
  rw [scopedRest1_eq]; unfold others
  iintro ⟨B0, B1, B2, B3, B4, B5, B6, B7, B8, B9, B10, B11, B12, B13, B14, B15, B16, B17, B18⟩
  isplitl [B9]; · iexact B9
  isplitl [B10]; · iexact B10
  isplitl [B0]; · iexact B0
  isplitl [B1]; · iexact B1
  isplitl [B2]; · iexact B2
  isplitl [B3]; · iexact B3
  isplitl [B4]; · iexact B4
  isplitl [B5]; · iexact B5
  isplitl [B6]; · iexact B6
  isplitl [B7]; · iexact B7
  isplitl [B8]; · iexact B8
  isplitl [B11]; · iexact B11
  isplitl [B12]; · iexact B12
  isplitl [B13]; · iexact B13
  isplitl [B14]; · iexact B14
  isplitl [B15]; · iexact B15
  isplitl [B16]; · iexact B16
  isplitl [B17]; · iexact B17
  iexact B18

/-- And put back among them. -/
theorem scratch_back (c : Dev nD) :
    (iprop((∃ xc : Vec F S1248x1024 .bf16, ((c : Thread nD τ).loc cc1_scratch0) ↦{fullShare} xc) ∗ (∃ yc : Vec F S1248x1024 .f32, ((c : Thread nD τ).loc cc1_scratch1) ↦{fullShare} yc) ∗ others (F := F) c) : sProp 𝕄)
      ⊢ Pipeline.scopedRest spec1 c := by
  rw [scopedRest1_eq]; unfold others
  iintro ⟨B9, B10, B0, B1, B2, B3, B4, B5, B6, B7, B8, B11, B12, B13, B14, B15, B16, B17, B18⟩
  isplitl [B0]; · iexact B0
  isplitl [B1]; · iexact B1
  isplitl [B2]; · iexact B2
  isplitl [B3]; · iexact B3
  isplitl [B4]; · iexact B4
  isplitl [B5]; · iexact B5
  isplitl [B6]; · iexact B6
  isplitl [B7]; · iexact B7
  isplitl [B8]; · iexact B8
  isplitl [B9]; · iexact B9
  isplitl [B10]; · iexact B10
  isplitl [B11]; · iexact B11
  isplitl [B12]; · iexact B12
  isplitl [B13]; · iexact B13
  isplitl [B14]; · iexact B14
  isplitl [B15]; · iexact B15
  isplitl [B16]; · iexact B16
  isplitl [B17]; · iexact B17
  iexact B18

/-- The expert call is entered with its buffers and its table. -/
theorem moe_enter (c : Dev nD) : iprop((Pipeline.scopedRest spec1 c ∗ emp) ∗ Pipeline.tablesAt (pcfgs (F := F)) (tabs m) 1 c) ⊢ (kept (table m) (V4 m (outs3 m)) c 0 : sProp 𝕄) := by
  rw [tables_eq]; unfold kept
  iintro ⟨⟨H, -⟩, T⟩
  ihave H := (scratch_apart c) $$ H
  icases H with ⟨⟨%xc, Hx⟩, ⟨%yc, Hy⟩, Ho⟩
  isplitl [Hx Hy]
  · iexists xc; iexists yc
    isplitr
    · ipureintro; unfold Carried; rw [if_pos rfl]; exact fun h => absurd rfl h
    isplitl [Hx]; · iexact Hx
    iexact Hy
  isplitl [Ho]; · iexact Ho
  iexact T

/-- And gives them back. -/
theorem moe_exit (c : Dev nD) (n : ℕ) : (kept (table m) (V4 m (outs3 m)) c n : sProp 𝕄) ⊢ iprop((Pipeline.scopedRest spec1 c ∗ emp) ∗ Pipeline.tablesAt (pcfgs (F := F)) (tabs m) 1 c) := by
  rw [tables_eq]; unfold kept
  iintro ⟨⟨%xc, %yc, -, Hx, Hy⟩, Ho, T⟩
  isplitl [Hx Hy Ho]
  · isplitl [Hx Hy Ho]
    · iapply (scratch_back c)
      isplitl [Hx]; · iexists xc; iexact Hx
      isplitl [Hy]; · iexists yc; iexact Hy
      iexact Ho
    iempintro
  iexact T

/-- The expert call as a stretch of the program. -/
def region1 (Hc : ∀ q, (wordAt (table m) q).toNat ≤ 1024) : RegionSeg (pcfgs (F := F)) (tabs m) (dats m) () defs₀ Variants.none waits (fun _ _ => 0) 1 :=
  RegionSeg.ofHeldInT pcfgs (tabs m) (dats m) () defs₀ Variants.none waits (fun _ _ => 0) 1 (fun _ => 0) (Pipeline.ucRefs τ sig) (fun _ => iprop(emp)) (fun _ => iprop(emp))
    launch1 (fun c => (moe_body (table m) (V4 m (outs3 m)) c Hc).loose) (fun _ _ => rfl) (fun _ => rfl) (fun c w => by show (moeDat (table m) (V4 m (outs3 m)) c).share w = fullShare; unfold Dat.share; split <;> rfl)
    (fun c => (moe_enter m c).trans (entails_of_eq (moe_carry (table m) (V4 m (outs3 m)) c 0 0 rfl).symm))
    (fun c => (entails_of_eq (moe_carry (table m) (V4 m (outs3 m)) c (Fin.last _) _ rfl)).trans (moe_exit m c _))
    (fun _ => 0) (no_debt m 1) (fun _ => iprop(emp)) (fun c => V4 m (outs3 m) c) (fun c w => moe_A (table m) (V4 m (outs3 m)) c w)
    (fun c k => by rw [one_core c]; match k with | ⟨0, _⟩ => rfl)

/-- Every whole buffer of the core is held throughout. -/
theorem arrs_in (p : Fin 3) : Pipeline.arrRefs (pcfgs (F := F) p).spec ⊆ Pipeline.ucRefs τ sig := by
  match p with
  | ⟨0, _⟩ => exact (by decide : Pipeline.arrRefs (τ := τ) spec0 ⊆ Pipeline.ucRefs τ sig)
  | ⟨1, _⟩ => exact (by decide : Pipeline.arrRefs (τ := τ) spec1 ⊆ Pipeline.ucRefs τ sig)
  | ⟨2, _⟩ => exact (by decide : Pipeline.arrRefs (τ := τ) spec2 ⊆ Pipeline.ucRefs τ sig)

/-- The table too. -/
theorem tabs_in : Pipeline.tblRefs (τ := τ) pre1 ⊆ Pipeline.ucRefs τ sig := by decide

/-- The router call's results do not depend on the later calls. -/
theorem V3_same (c : Dev nD) : V3 m (outs m) c = V3 m (outs3 m) c := rfl
/-- Nor do the host lines after it. -/
theorem V4_same (c : Dev nD) : V4 m (outs m) c = V4 m (outs3 m) c := rfl
/-- Nor does the expert call. -/
theorem V5_same (c : Dev nD) : V5 m (outs m) c = V5 m (outs5 m) c := rfl

/-- The router call is entered from the buffers after the first host lines. -/
theorem enter0 (c : Dev nD) : iprop(StableHlo.held (c : Thread nD τ) (Pipeline.ucRefs τ sig) (V2 m c) ∗ rest c) ⊢ (region0 m).pre c := by
  unfold region0 rest; exact RegionSeg.ofHeldIn_pre (p := 0) (a := tabs m) (pdats := dats m) (X := fun _ => iprop(emp)) (R := fun _ => iprop(emp)) (D := fun _ => 0) (W := fun c => V2 m c) (arrs_in 0) c
/-- And left with its results. -/
theorem leave0 (c : Dev nD) : ((region0 m).post c : sProp 𝕄) ⊢ (iprop(StableHlo.held (c : Thread nD τ) (Pipeline.ucRefs τ sig) (V3 m (outs m) c) ∗ rest c) : sProp 𝕄) := by
  have e : Pipeline.afterRegion (dats m 0 c) (V2 m c) = V3 m (outs m) c := after_route m c
  unfold region0 rest
  exact (RegionSeg.ofHeldIn_post (arrs_in 0) c).trans (sep_mono (entails_of_eq (congrArg (StableHlo.held (c : Thread nD τ) (Pipeline.ucRefs τ sig)) e)) .rfl)
/-- The expert call is entered from the buffers after the next host lines. -/
theorem enter1 (Hc) (c : Dev nD) : iprop(StableHlo.held (c : Thread nD τ) (Pipeline.ucRefs τ sig) (V4 m (outs m) c) ∗ rest c) ⊢ (region1 m Hc).pre c := by
  rw [V4_same]; unfold region1 rest; exact RegionSeg.ofHeldInT_pre (p := 1) (a := tabs m) (pdats := dats m) (X := fun _ => iprop(emp)) (R := fun _ => iprop(emp)) (D := fun _ => 0) (W := fun c => V4 m (outs3 m) c) (arrs_in 1) tabs_in c
/-- And left with its result. -/
theorem leave1 (Hc) (c : Dev nD) : ((region1 m Hc).post c : sProp 𝕄) ⊢ (iprop(StableHlo.held (c : Thread nD τ) (Pipeline.ucRefs τ sig) (V5 m (outs m) c) ∗ rest c) : sProp 𝕄) := by
  have e : Pipeline.afterRegion (dats m 1 c) (V4 m (outs3 m) c) = V5 m (outs m) c := after_moe m c
  unfold region1 rest
  exact (RegionSeg.ofHeldInT_post (arrs_in 1) tabs_in c).trans (sep_mono (entails_of_eq (congrArg (StableHlo.held (c : Thread nD τ) (Pipeline.ucRefs τ sig)) e)) .rfl)
/-- The normalising call is entered from there. -/
theorem enter2 (c : Dev nD) : iprop(StableHlo.held (c : Thread nD τ) (Pipeline.ucRefs τ sig) (V5 m (outs m) c) ∗ rest c) ⊢ (region2 m).pre c := by
  rw [V5_same]; unfold region2 rest; exact RegionSeg.ofHeldIn_pre (p := 2) (a := tabs m) (pdats := dats m) (X := fun _ => iprop(emp)) (R := fun _ => iprop(emp)) (D := fun _ => 0) (W := fun c => V5 m (outs5 m) c) (arrs_in 2) c
/-- And left with its result. -/
theorem leave2 (c : Dev nD) : ((region2 m).post c : sProp 𝕄) ⊢ (iprop(StableHlo.held (c : Thread nD τ) (Pipeline.ucRefs τ sig) (V6 m (outs m) c) ∗ rest c) : sProp 𝕄) := by
  have e : Pipeline.afterRegion (dats m 2 c) (V5 m (outs5 m) c) = V6 m (outs m) c := after_norm m c
  unfold region2 rest
  exact (RegionSeg.ofHeldIn_post (arrs_in 2) c).trans (sep_mono (entails_of_eq (congrArg (StableHlo.held (c : Thread nD τ) (Pipeline.ucRefs τ sig)) e)) .rfl)
/-- At the end nothing is owed. -/
theorem rest_owes (c : Dev nD) : (rest c : sProp 𝕄) ⊢ iprop(∃ W, owes (c : Thread nD τ) (0 : CellTallies nD τ sig Unit) W) := by
  unfold rest; iintro ⟨H, -, -⟩; iexact H

-- the theorem about programs of several calls is found by unifying its conclusion with this one, which takes unfolding plain definitions in the
-- type of an unknown
set_option backward.isDefEq.respectTransparency.types false in
set_option maxHeartbeats 2000000 in
/-- The program always ends, with its arguments as they were, its result what the third call leaves, and no semaphore raised. -/
theorem run_main (g : Dev nD → PrngReg) (Hc : ∀ q, (wordAt (table m) q).toNat ≤ 1024) :
    θ_run defs (onTc (τ := τ) (main (F := F))) ⟨m, fun _ => 0, g⟩ (fun r => (∀ c : Dev nD,
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4) ∧
      r.2.mem ((c.tc : Thread nD τ).loc main_arg5) = m ((c.tc : Thread nD τ).loc main_arg5) ∧
      r.2.mem ((c.tc : Thread nD τ).loc main_arg6) = m ((c.tc : Thread nD τ).loc main_arg6) ∧
      r.2.mem ((c.tc : Thread nD τ).loc main_v15) = V6 m (outs m) c main_v15)
      ∧ r.2.sem = fun _ => 0) := by
  have mem : ∀ r : Ref sig .tc, r.isScoped = false → (Proc.devRef .tc r : DevRef τ sig) ∈ Pipeline.ucRefs τ sig := fun r h =>
    Finset.mem_filter.mpr ⟨StableHlo.devRef_mem_tcRefs r, by simpa using h⟩
  refine Pipeline.θ_run_regions_kit_dev_sems (pcfgs (F := F)) (tabs m) (dats m) () (cellOf_inj (tabs m)) emb₁ defs₀ Variants.none waits (fun _ _ => 0) m g main
    (segs m (outs m) Variants.none waits (fun _ _ => 0) (fun _ => rest) () (tabs m) (dats m) (region0 m) (region1 m Hc) (region2 m))
    (fun c Q => by
      rewrite [main_chain c, Seg.run_eq_chain,
        show (segs m (outs m) Variants.none waits (fun _ _ => 0) (fun _ => rest) () (tabs m) (dats m) (region0 m) (region1 m Hc) (region2 m) c).map Seg.prog = [
          StableHlo.seq hostOps0, StableHlo.seq hostOps0_1, Prog.lift (.customCall (Pipeline.entry 0) ()), StableHlo.seq hostOps1,
          Prog.lift (.customCall (Pipeline.entry 1) ()), Prog.lift (.customCall (Pipeline.entry 2) ()) ] from rfl]
      dsimp (config := { failIfUnchanged := false }) only
      exact .rfl)
    (fun c => by simp only [segs, Seg.pipes_host, Seg.pipes_region, Seg.pipes_nil]; decide) (fun _ => 0)
    (fun p h => if_neg h) (fun _ => iprop(emp)) (initOf (Pipeline.cells (Pipeline.pin (pcfgs (F := F)) (tabs m)) (cellOf_inj (tabs m))) (Pipeline.launchToks (Pipeline.pin (pcfgs (F := F)) (tabs m)) (cellOf_inj (tabs m))))
    (by
      iintro Hu; imodintro
      isplitl [Hu]
      · iapply (show (ownU _ : sProp 𝕄) ⊢ BI.own (emb₁ (initOf (Pipeline.cells (Pipeline.pin (pcfgs (F := F)) (tabs m)) (cellOf_inj (tabs m))) (Pipeline.launchToks (Pipeline.pin (pcfgs (F := F)) (tabs m)) (cellOf_inj (tabs m))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ rest c))
    (Tₙ := fun c => StableHlo.held (c : Thread nD τ) (Pipeline.ucRefs τ sig) (V6 m (outs m) c))
    (hch := fun c => ⟨.rfl, .rfl, enter0 m c, leave0 m c, enter1 m Hc c, (leave1 m Hc c).trans (enter2 m c), (leave2 m c).trans (sep_mono .rfl (rest_owes c))⟩)
    (hinit := by
      refine Pipeline.initEach waits (fun _ _ => 0) fun c => ?_
      rw [show unscopedBufs c (fun b => m ((c.tc : Thread nD τ).loc b)) = StableHlo.held (c : Thread nD τ) (Pipeline.ucRefs τ sig) (V0 m c) from Pipeline.unscopedBufs_held c (V0 m c)]
      unfold rest
      iintro ⟨⟨Hh, -, HO, -, -, -⟩, -⟩
      imodintro
      isplitl [Hh]; · iexact Hh
      isplitl [HO]; · iexists ∅; iexact HO
      isplitl []; · iempintro
      iempintro)
    (QY := fun c s => s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_v15) = V6 m (outs m) c main_v15)
    (hfin := fun c s' => by
      unfold StableHlo.held
      iintro ⟨Hh, HSI⟩
      ihave Hr := (pointsTo_read_all (Pipeline.ucRefs τ sig) (fun b => ((c : Thread nD τ).1, b)) (V6 m (outs m) c) s') $$ [Hh HSI]
      · isplitl [Hh] <;> iassumption
      icases Hr with ⟨%h, HSI⟩
      imodintro
      isplitr
      · ipureintro
        exact ⟨(h (Proc.devRef .tc main_arg0) (mem main_arg0 (by decide))).trans (V6_main_arg0 m (outs m) c),
        (h (Proc.devRef .tc main_arg1) (mem main_arg1 (by decide))).trans (V6_main_arg1 m (outs m) c),
        (h (Proc.devRef .tc main_arg2) (mem main_arg2 (by decide))).trans (V6_main_arg2 m (outs m) c),
        (h (Proc.devRef .tc main_arg3) (mem main_arg3 (by decide))).trans (V6_main_arg3 m (outs m) c),
        (h (Proc.devRef .tc main_arg4) (mem main_arg4 (by decide))).trans (V6_main_arg4 m (outs m) c),
        (h (Proc.devRef .tc main_arg5) (mem main_arg5 (by decide))).trans (V6_main_arg5 m (outs m) c),
        (h (Proc.devRef .tc main_arg6) (mem main_arg6 (by decide))).trans (V6_main_arg6 m (outs m) c),
        h (Proc.devRef .tc main_v15) (mem main_v15 (by decide))⟩
      · iexact HSI)
    (hQ := fun _ h hz => ⟨h, funext fun g => hz g (.inr (regions_no_unscoped g.2))⟩)

end Cert.Moe
end
-- ==== Proof.MoeCount.lean ====
module

public import proofs.«01_k».proof.Proof.MoeRun
public import Idealize.ShloMosaic.Lib.Pointwise
public import Idealize.ShloMosaic.Lib.Tactic
public import Idealize.ShloMosaic.Lib.NatWords
public import Idealize.ShloMosaic.Lib.Pipeline.Value
public import Idealize.ShloMosaic.Lib.Pipeline.ValueKit

/-! The counts that the expert call is handed are at most 1024, the rows of a block: the call's writes stay inside its buffers. -/

@[expose] public section
set_option maxRecDepth 16384
noncomputable section
namespace Cert.Moe
open Idealize.ShloMosaic Idealize.ShloMosaic.TcCoe Idealize.ShloMosaic.Tactic Idealize.ShloMosaic.Pointwise Cert.KernelIdeal Cert.KernelIdeal.Gen
open Idealize.SL.Sem
open Idealize.ShloMosaic.Pipeline (Dat Cfg Window)
variable {F : FTy → Type} [FloatOps F]
variable (m : (ℓ : Loc nD τ sig) → Buf (Elt F) ℓ)

/-- Where the router call's blocks lie. -/
theorem idx0 : ∀ t : Fin grid0.N, (win0_0.index t (0 : Fin 2) = t.val ∧ win0_0.index t (1 : Fin 2) = 0) ∧ (win0_1.index t (0 : Fin 2) = 0 ∧ win0_1.index t (1 : Fin 2) = 0)
    ∧ (win0_2.index t (0 : Fin 2) = t.val ∧ win0_2.index t (1 : Fin 2) = 0) ∧ (win0_3.index t (0 : Fin 2) = t.val ∧ win0_3.index t (1 : Fin 2) = 0)
    ∧ (win0_4.index t (0 : Fin 3) = t.val ∧ win0_4.index t (1 : Fin 3) = 0 ∧ win0_4.index t (2 : Fin 3) = 0) := by
  decide +kernel

/-- Different grid points of the router call write different blocks of the counts. -/
theorem inj0_4 : ∀ t t' : Fin grid0.N, win0_4.index t = win0_4.index t' → t = t' := by decide +kernel

/-- Row `t` of the router call's result for the counts. -/
def blockIx (t : Fin cfg0.N) : Fin 16 := ⟨t.val, t.isLt.trans_eq N_0⟩

/-- The counts the router call leaves for a block are those computed from the block. -/
theorem cnt_read (c : Dev nD) (t : Fin cfg0.N) (s : Fin 8) (j : Fin 128) :
    V3 m (outs3 m) c main_v6_2 (ix3 (blockIx t) s j) = cntOf (routeBlk (V2 m) c 0 t) (routeBlk (V2 m) c 1 t) (ix3 0 s j) := by
  have e : V3 m (outs3 m) c main_v6_2 = (routeDat (V2 m) c).arrAt 4 cfg0.N :=
    (congrFun (after_route m c) (Proc.devRef .tc main_v6_2)).symm.trans (Pipeline.afterRegion_arr (routeDat (V2 m) c) (V2 m c) winFacts0.arr_inj 4)
  have h := (routeDat (V2 m) c).arrAt_emb_eq_flushed 4 (fun t t' _ _ hne => (cfg0.win 4).disjoint_blk fun h => hne (inj0_4 t t' h)) t (flush0_4 t) (ix3 0 s j)
  have he : ((cfg0.win 4).blk t).view.emb (ix3 (0 : Fin 1) s j) = ix3 (blockIx t) s j := by
    obtain ⟨_, _, _, _, e0, e1, e2⟩ := idx0 t
    funext a; apply Fin.ext
    match a with
    | ⟨0, _⟩ => show win0_4.index t (0 : Fin 3) * 1 + 1 * 0 = t.val; omega
    | ⟨1, _⟩ => show win0_4.index t (1 : Fin 3) * 8 + 1 * s.val = s.val; omega
    | ⟨2, _⟩ => show win0_4.index t (2 : Fin 3) * 128 + 1 * j.val = j.val; omega
  rw [e, ← he, h]
  show (routeDat (V2 m) c).after 4 t (ix3 0 s j) = _
  rw [route_after4]

/-- A word of the table is a count, as an integer. -/
theorem table_read (outs : Outs (F := F)) (c : Dev nD) (t : Fin 16) (e : Fin 8) :
    V4 m outs c main_v12 (ix1 ⟨8 * t.val + e.val, by omega⟩) = FloatOps.fptosi (F := F) 32 (V3 m outs c main_v6_2 (ix3 t 0 ⟨e.val, by omega⟩)) := by
  unfold_abbrev_sides; after_results
  pointwise

/-- A count is the sum of its column of the block's choices. -/
theorem cnt_apply (x0 : Vec F S1024x1024 .f32) (x1 : Vec F S1024x128 .f32) (s : Fin 8) (j : Fin 128) :
    cntOf x0 x1 (ix3 0 s j) = multiReduction .add [0] S128 (k0_pay3 (F := F) (k0_pay9 x0 x1) (k0_pay12 x0 x1)) 0x00000000#32 reduces_S1024x128_S128 (.inl rfl) rfl (ix1 j) := by
  unfold cntOf k0_pay5
  pointwise

/-- A word of the table, as the expert call reads it. -/
theorem word_read (a : (pcfg1 (F := F)).Adm) (q : ℕ) : wordAt a q = a.1 0 (ix1 ⟨q % 128, Nat.mod_lt _ (by decide)⟩) := by
  unfold wordAt word
  have h := (place_facts (pt (2 * q))).1
  have hp : (pt (2 * q)).val = (2 * q) % 256 := rfl
  show a.1 0 _ = _
  refine congrArg (a.1 0) (funext fun b => Fin.ext ?_)
  match b with
  | ⟨0, _⟩ => show k1_off1 (grid1.coords (pt (2 * q))) 0 + 1 * 0 = q % 128; omega

/-- The choices as numbers: one where a token chose the expert. -/
theorem pay3_cases (a b : IVec S1024x128 1) (i : S1024x128.Idx) :
    k0_pay3 (F := F) a b i = Scalar.ofBits .f32 0x3F800000#32 ∨ k0_pay3 (F := F) a b i = Scalar.ofBits .f32 0x00000000#32 := by
  unfold k0_pay3
  show Scalar.select _ _ _ = _ ∨ Scalar.select _ _ _ = _
  unfold Scalar.select
  split
  · exact .inl rfl
  · exact .inr rfl

/-- Over the extended reals the natural number `n` converts to the word `n`. -/
theorem fptosi_nat (n : ℕ) (h : n < 2 ^ 24) : Ideal.fptosi 32 ((n : ℝ) : EReal) = BitVec.ofNat 32 n := by
  rw [Ideal.fptosi, Ideal.toIntClamped_coe, if_pos (Nat.cast_nonneg n), Int.floor_natCast]
  rw [show max (-((2 ^ (32 - 1) : ℕ) : ℤ)) (min (((2 ^ (32 - 1) : ℕ) : ℤ) - 1) (n : ℤ)) = (n : ℤ) by omega, BitVec.ofInt_natCast]

/-- Over the extended reals a count is the number of the column's chosen tokens. -/
theorem ideal_count (a b : IVec S1024x128 1) (j : Fin 128) :
    multiReduction .add [0] S128 (k0_pay3 (F := Ideal) a b) 0x00000000#32 reduces_S1024x128_S128 (.inl rfl) rfl (ix1 j)
      = (((Finset.univ.filter fun r : Fin 1024 => k0_pay2 a b (ix2 r j) = 1#1).card : ℝ) : EReal) := by
  unfold k0_pay3
  pointwise
  have h : ∀ s : Finset (Fin 1024), ∑ x ∈ s, Scalar.select (k0_pay2 a b (ix2 x j)) (1 : EReal) 0 = (((s.filter fun r : Fin 1024 => k0_pay2 a b (ix2 r j) = 1#1).card : ℝ) : EReal) := by
    intro s
    induction s using Finset.induction_on with
    | empty => simp
    | insert x s hx ih =>
      rw [Finset.sum_insert hx, ih, Finset.filter_insert]
      by_cases hc : k0_pay2 a b (ix2 x j) = 1#1
      · rw [if_pos hc, show Scalar.select (k0_pay2 a b (ix2 x j)) (1 : EReal) 0 = 1 from if_pos hc]
        rw [Finset.card_insert_of_notMem (fun h => hx (Finset.mem_filter.mp h).1)]
        push_cast
        rw [add_comm]
      · rw [if_neg hc, show Scalar.select (k0_pay2 a b (ix2 x j)) (1 : EReal) 0 = 0 from if_neg hc, zero_add]
  exact h _

/-- Over the extended reals a count is at most 1024. -/
theorem ideal_bound (a b : IVec S1024x128 1) (j : Fin 128) :
    (FloatOps.fptosi (F := Ideal) (φ := .f32) 32 (multiReduction .add [0] S128 (k0_pay3 (F := Ideal) a b) 0x00000000#32 reduces_S1024x128_S128 (.inl rfl) rfl (ix1 j))).toNat ≤ 1024 := by
  have hc : (Finset.univ.filter fun r : Fin 1024 => k0_pay2 a b (ix2 r j) = 1#1).card ≤ 1024 := (Finset.card_filter_le _ _).trans (by simp)
  rw [ideal_count]
  show (Ideal.fptosi 32 _).toNat ≤ _
  rw [fptosi_nat _ (by omega), BitVec.toNat_ofNat]
  omega

/-- The `q`-th word of the table is the count of block `q / 8` and expert `q % 8`. -/
theorem word_count (t : Fin cfg0.N) (e : Fin 8) (q : ℕ) (hq : q % 128 = 8 * t.val + e.val) :
    wordAt (table m) q = FloatOps.fptosi (F := F) (φ := .f32) 32 (multiReduction .add [0] S128
      (k0_pay3 (F := F) (k0_pay9 (routeBlk (V2 m) 0 0 t) (routeBlk (V2 m) 0 1 t)) (k0_pay12 (routeBlk (V2 m) 0 0 t) (routeBlk (V2 m) 0 1 t)))
      0x00000000#32 reduces_S1024x128_S128 (.inl rfl) rfl (ix1 ⟨e.val, by omega⟩)) := by
  rw [word_read]
  have ht : (blockIx t).val = t.val := rfl
  have h := table_read m (outs3 m) 0 (blockIx t) e
  rw [cnt_read, cnt_apply] at h
  rw [← h]
  exact congrArg (V4 m (outs3 m) 0 main_v12) (congrArg Idealize.ShloMosaic.ix1 (Fin.ext hq))

/-- The bound, from the bound on a column's sum. -/
theorem bound_of (hb : ∀ (a b : IVec S1024x128 1) (j : Fin 128), (FloatOps.fptosi (F := F) (φ := .f32) 32 (multiReduction .add [0] S128 (k0_pay3 (F := F) a b) 0x00000000#32 reduces_S1024x128_S128 (.inl rfl) rfl (ix1 j))).toNat ≤ 1024)
    (q : ℕ) : (wordAt (table m) q).toNat ≤ 1024 := by
  rw [word_count m ⟨q % 128 / 8, by rw [show cfg0.N = 16 from N_0]; omega⟩ ⟨q % 8, by omega⟩ q (by show q % 128 = 8 * (q % 128 / 8) + q % 8; omega)]
  exact hb _ _ _

/-- The bound over the extended reals. -/
theorem word_ideal (m : (ℓ : Loc nD τ sig) → Buf (Elt Ideal) ℓ) (q : ℕ) : (wordAt (table m) q).toNat ≤ 1024 := bound_of m ideal_bound q

end Cert.Moe
end
-- ==== Proof.MoeUnit.lean ====
module

public import proofs.«01_k».proof.Proof.MoeTiles
public import proofs.«01_k».proof.Proof.Swiglu
public import Idealize.ShloMosaic.Lib.Pointwise
public import Idealize.ShloMosaic.Lib.Tactic

/-! What the expert call's arithmetic is, over the extended reals, index by index: gathering, the gated products, scattering. -/

@[expose] public section
set_option maxRecDepth 16384
noncomputable section
namespace Cert.Moe
open Idealize.ShloMosaic Idealize.ShloMosaic.TcCoe Idealize.ShloMosaic.Tactic Cert.KernelIdeal Cert.KernelIdeal.Gen
open Cert.Swiglu

/-- One stretch of 256 hidden units, at row `r` and output `j`. -/
def part (x : FVec Ideal S288x1024 .bf16) (a b : FVec Ideal S1x1024x256 .bf16) (d : FVec Ideal S1x256x1024 .bf16) (r : Fin 288) (j : Fin 1024) : EReal :=
  ∑ k : Fin 256, unit (fun i => x (ix2 r i)) (fun i => a (ix3 0 i k)) (fun i => b (ix3 0 i k)) (d (ix3 0 k j))

/-- The last stretch, of 128 hidden units. -/
def part' (x : FVec Ideal S288x1024 .bf16) (a b : FVec Ideal S1x1024x128 .bf16) (d : FVec Ideal S1x128x1024 .bf16) (r : Fin 288) (j : Fin 1024) : EReal :=
  ∑ k : Fin 128, unit (fun i => x (ix2 r i)) (fun i => a (ix3 0 i k)) (fun i => b (ix3 0 i k)) (d (ix3 0 k j))

variable (x : FVec Ideal S288x1024 .bf16) (s y : FVec Ideal S288x1024 .f32) (a b a' b' : FVec Ideal S1x1024x256 .bf16) (d d' : FVec Ideal S1x256x1024 .bf16) (r : Fin 288) (j : Fin 1024)

/-- The first stretch of hidden units, at an index. -/
theorem pay17_apply : k1_pay17 (F := Ideal) x a b d (ix2 r j) = part x a b d r j := by
  pointwise [k1_pay17, part, unit, gated]

/-- Two further stretches are added to the running sum, at an index. -/
theorem pay21_apply : k1_pay21 (F := Ideal) x s (k1_pay18 x a) (k1_pay19 x b) (k1_pay20 x a) (Scalar.ofBits .f32 0x3F800000#32) d a' b' d' (ix2 r j)
    = s (ix2 r j) + part x a b d r j + part x a' b' d' r j := by
  pointwise [k1_pay21, k1_pay18, k1_pay19, k1_pay20, part, unit, gated]

/-- One further stretch is added to the running sum, at an index. -/
theorem pay23_apply : k1_pay23 (F := Ideal) x s (k1_pay22 x a) b d (ix2 r j) = s (ix2 r j) + part x a b d r j := by
  pointwise [k1_pay23, k1_pay22, part, unit, gated]

/-- A stretch kept by itself, at an index. -/
theorem pay24_apply : k1_pay24 (F := Ideal) x a b d (ix2 r j) = part x a b d r j := by
  pointwise [k1_pay24, part, unit, gated]

variable (p q : FVec Ideal S1x1024x128 .bf16) (u : FVec Ideal S1x128x1024 .bf16)

/-- The first half of an expert: the running sum, the stretch kept aside and the last short stretch. -/
theorem pay5_apply (s' : FVec Ideal S288x1024 .f32) : k1_pay5 (F := Ideal) x s s' p q u (ix2 r j) = s (ix2 r j) + s' (ix2 r j) + part' x p q u r j := by
  pointwise [k1_pay5, k1_pay4, part', unit, gated]

/-- The second half of an expert: the same sum added to what the first half left. -/
theorem pay6_apply (s' : FVec Ideal S288x1024 .f32) : k1_pay6 (F := Ideal) x s s' p q u y (ix2 r j) = y (ix2 r j) + (s (ix2 r j) + s' (ix2 r j) + part' x p q u r j) := by
  pointwise [k1_pay6, k1_pay4, part', unit, gated]

variable (A B : Vec Ideal S1x1024x1408 .bf16) (D : Vec Ideal S1x1408x1024 .bf16)

/-- Hidden unit `k` of the 1408 of a half, on row `r` and output `j` of the tile. -/
def hid (k : Fin 1408) : EReal :=
  unit (fun i => x (ix2 r i)) (fun i => A (ix3 0 i k)) (fun i => B (ix3 0 i k)) (D (ix3 0 k j))

/-- A stretch of the half's weights from column `o` is that stretch of the hidden units. -/
theorem part_cut (o : ℕ) (ho : o + 256 ≤ 1408) (h h') :
    part x (View.ld (Val := Elt Ideal) A (Rect.unit (s := S1x1024x1408) ![0, 0, o] S1x1024x256.size h)) (View.ld (Val := Elt Ideal) B (Rect.unit (s := S1x1024x1408) ![0, 0, o] S1x1024x256.size h))
      (View.ld (Val := Elt Ideal) D (Rect.unit (s := S1x1408x1024) ![0, o, 0] S1x256x1024.size h')) r j
    = ∑ k : Fin 256, hid x r j A B D ⟨o + k, by omega⟩ := by
  unfold part hid
  pointwise

/-- The same of the last stretch. -/
theorem part_cut' (o : ℕ) (ho : o + 128 ≤ 1408) (h h') :
    part' x (View.ld (Val := Elt Ideal) A (Rect.unit (s := S1x1024x1408) ![0, 0, o] S1x1024x128.size h)) (View.ld (Val := Elt Ideal) B (Rect.unit (s := S1x1024x1408) ![0, 0, o] S1x1024x128.size h))
      (View.ld (Val := Elt Ideal) D (Rect.unit (s := S1x1408x1024) ![0, o, 0] S1x128x1024.size h')) r j
    = ∑ k : Fin 128, hid x r j A B D ⟨o + k, by omega⟩ := by
  unfold part' hid
  pointwise

/-- The stretches add up to the half. -/
theorem half_sum : chunks (F := Ideal) x A B D (ix2 r j) + chunk5 (F := Ideal) x A B D (ix2 r j)
      + part' x (View.ld (Val := Elt Ideal) A (Rect.unit (s := S1x1024x1408) ![0, 0, 1280] S1x1024x128.size inb_S1x1024x1408_S1x1024x128_0_0_1280)) (View.ld (Val := Elt Ideal) B (Rect.unit (s := S1x1024x1408) ![0, 0, 1280] S1x1024x128.size inb_S1x1024x1408_S1x1024x128_0_0_1280))
        (View.ld (Val := Elt Ideal) D (Rect.unit (s := S1x1408x1024) ![0, 1280, 0] S1x128x1024.size inb_S1x1408x1024_S1x128x1024_0_1280_0)) r j
    = ∑ k, hid x r j A B D k := by
  unfold chunks chunk5
  rw [pay23_apply, pay21_apply, pay17_apply, pay24_apply]
  rw [part_cut x r j A B D 0 (by decide), part_cut x r j A B D 256 (by decide), part_cut x r j A B D 512 (by decide),
    part_cut x r j A B D 768 (by decide), part_cut x r j A B D 1024 (by decide), part_cut' x r j A B D 1280 (by decide)]
  have h0 : ∑ k : Fin 256, hid x r j A B D ⟨0 + k, by omega⟩ = ∑ k : Fin 256, hid x r j A B D ⟨k, by omega⟩ :=
    Finset.sum_congr rfl fun k _ => by congr 1; exact Fin.ext (Nat.zero_add _)
  rw [h0, sum_grow (hid x r j A B D) 256 256 512 rfl (by decide), sum_grow (hid x r j A B D) 512 256 768 rfl (by decide),
    sum_grow (hid x r j A B D) 768 256 1024 rfl (by decide), sum_grow (hid x r j A B D) 1024 256 1280 rfl (by decide),
    sum_grow (hid x r j A B D) 1280 128 1408 rfl (by decide)]

/-- A tile's products over the first half of the hidden units. -/
theorem half_apply : halfOf (F := Ideal) x A B D (ix2 r j) = ∑ k, hid x r j A B D k := by
  unfold halfOf; rw [pay5_apply, half_sum]

/-- A tile's products over the second half, added to what was found. -/
theorem add_apply : addOf (F := Ideal) x A B D y (ix2 r j) = y (ix2 r j) + ∑ k, hid x r j A B D k := by
  unfold addOf; rw [pay6_apply, half_sum]

/-- Tile `k`'s row `s` has rank `288 k + s`. -/
theorem rank_word (k s : ℕ) : IntOp.addi (Scalar.muli (Scf.iv 0#32 1#32 k) 288#32) (BitVec.ofNat 32 s) = BitVec.ofNat 32 (288 * k + s) := by
  simp only [Scf.iv, Scalar.muli, IntOp.addi, IntOp.muli]
  apply BitVec.eq_of_toNat_eq
  simp only [BitVec.toNat_add, BitVec.toNat_mul, BitVec.toNat_ofNat]
  omega

/-- A small word read as a signed integer. -/
theorem sitofp_small (n : ℕ) (h : n < 2 ^ 31) : FloatOps.sitofp (F := Ideal) .f32 (BitVec.ofNat 32 n) = ((n : ℝ) : EReal) := by
  show (((BitVec.ofNat 32 n).toInt : ℝ) : EReal) = _
  rw [BitVec.toInt_eq_toNat_cond, BitVec.toNat_ofNat, Nat.mod_eq_of_lt (by omega), if_pos (by omega)]
  simp

/-- A gathered row: the sum over the block's tokens of those whose rank it is. -/
theorem rows_apply (v3 : BitVec 32) (p : Vec Ideal S1x1024 .f32) (X : Vec Ideal S1024x1024 .bf16) (k : ℕ) (hk : k < (k1_t1_loop v3).trips) (hk' : k < 5) :
    rowsOf (F := Ideal) v3 p X k (ix2 r j) = ∑ i : Fin 1024, (if p (ix2 0 i) = (((288 * k + r.val : ℕ) : ℝ) : EReal) then 1 else 0) * X (ix2 i j) := by
  unfold rowsOf
  rw [dif_pos hk]
  unfold k1_pay2 k1_pay1
  pointwise
  rw [rank_word, sitofp_small _ (by omega)]

/-- A sum over the lanes of one lane's entry. -/
theorem lane_sum (n : ℕ) (hn : n ≤ 2 ^ 31) (f : Fin n → EReal) (a : Fin n) (w : BitVec 32) (hw : w = BitVec.ofNat 32 a.val) :
    ∑ x, Scalar.select (IntOp.cmpi CmpIPredicate.eq (BitVec.ofNat 32 x.val) w) (f x) 0 = f a := by
  subst hw
  rw [Finset.sum_eq_single a]
  · simp [Scalar.select, IntOp.cmpi]
  · intro b _ hb
    have : BitVec.ofNat 32 b.val ≠ BitVec.ofNat 32 a.val := fun h => hb (Fin.ext (by
      have := congrArg BitVec.toNat h
      simp only [BitVec.toNat_ofNat] at this
      omega))
    have e : IntOp.cmpi CmpIPredicate.eq (BitVec.ofNat 32 b.val) (BitVec.ofNat 32 a.val) = 0#1 := by
      unfold IntOp.cmpi
      rw [beq_eq_false_iff_ne.2 this]
      rfl
    rw [e]; rfl
  · intro h; exact absurd (Finset.mem_univ a) h

/-- The rank a band's row stands for: none (−2) after the first 288. -/
def slot (k : ℕ) (x : Fin 384) : EReal := if x.val < 288 then (((288 * k + x.val : ℕ) : ℝ) : EReal) else ((-2 : ℝ) : EReal)

/-- as the kernel computes it. -/
theorem slot_word (k : ℕ) (hk : k < 5) (x : Fin 384) :
    FloatOps.sitofp (F := Ideal) .f32 (Scalar.select (IntOp.cmpi CmpIPredicate.slt (BitVec.ofNat 32 x.val) 288#32)
                      (IntOp.addi (Scalar.muli (Scf.iv 0#32 1#32 k) 288#32) (BitVec.ofNat 32 x.val)) 4294967294#32) = slot k x := by
  rw [rank_word]
  unfold slot
  have hc : IntOp.cmpi CmpIPredicate.slt (BitVec.ofNat 32 x.val) 288#32 = if x.val < 288 then 1#1 else 0#1 := by
    have : ∀ x : Fin 384, IntOp.cmpi CmpIPredicate.slt (BitVec.ofNat 32 x.val) 288#32 = if x.val < 288 then 1#1 else 0#1 := by decide +kernel
    exact this x
  rw [hc]
  by_cases h : x.val < 288
  · rw [if_pos h, if_pos h]
    exact sitofp_small _ (by omega)
  · rw [if_neg h, if_neg h]
    show (((4294967294#32).toInt : ℝ) : EReal) = _
    have : (4294967294#32).toInt = -2 := by decide
    rw [this]; simp

/-- What a tile's band adds to a token's sum: the gate times the row of the token's rank. -/
theorem put_apply (v3 : BitVec 32) (a : Fin 128) (k : Fin (k1_t5_loop v3).trips) (hk : k.val < 5) (pos gate : Vec Ideal S1024x128 .f32) (yt : Vec Ideal S384x1024 .f32) (o : Vec Ideal S1024x1024 .f32) (i : Fin 1024) :
    putOf (F := Ideal) v3 (BitVec.ofNat 32 a.val) k pos gate yt o (ix2 i j) = o (ix2 i j) + gate (ix2 i a) * ∑ x, (if pos (ix2 i a) = slot k.val x then 1 else 0) * yt (ix2 x j) := by
  have hi := i.isLt
  have h0 : ((ix2 i j : S1024x1024.Idx) 0).val = i.val := rfl
  unfold putOf
  simp only
  have key : ∀ (f : Fin 1024 → Fin 256) (i' : Fin 1024), i' = i →
     o (ix2 i' j) + (∑ x : Fin 128, Scalar.select (IntOp.cmpi CmpIPredicate.eq (BitVec.ofNat 32 x.val) (BitVec.ofNat 32 a.val)) (gate (ix2 i' x)) 0) *
        ∑ x : Fin 384, (if ∑ x_1 : Fin 128, Scalar.select (IntOp.cmpi CmpIPredicate.eq (BitVec.ofNat 32 x_1.val) (BitVec.ofNat 32 a.val)) (pos (ix2 i' x_1)) 0 =
                  FloatOps.sitofp (F := Ideal) FTy.f32 (Scalar.select (IntOp.cmpi CmpIPredicate.slt (BitVec.ofNat 32 x.val) 288#32)
                      (IntOp.addi (Scalar.muli (Scf.iv 0#32 1#32 k.val) 288#32) (BitVec.ofNat 32 x.val)) 4294967294#32) then 1 else 0) * yt (ix2 x j)
     = o (ix2 i j) + gate (ix2 i a) * ∑ x, (if pos (ix2 i a) = slot k.val x then 1 else 0) * yt (ix2 x j) := by
    intro _ i' e
    subst e
    rw [lane_sum 128 (by decide) (fun x => gate (ix2 i' x)) a _ rfl, lane_sum 128 (by decide) (fun x => pos (ix2 i' x)) a _ rfl]
    simp only [slot_word k.val hk]
  split
  · pointwise [k1_pay35, k1_pay34, k1_pay33, k1_pay11, k1_pay12, k1_pay10]
    exact key (fun _ => 0) _ (Fin.ext (by show i.val % 256 = i.val; omega))
  · split
    · pointwise [k1_pay36, k1_pay34, k1_pay33, k1_pay11, k1_pay12, k1_pay10]
      exact key (fun _ => 0) _ (Fin.ext (by show 256 + i.val % 256 = i.val; omega))
    · split
      · pointwise [k1_pay13, k1_pay34, k1_pay33, k1_pay11, k1_pay12, k1_pay10]
        exact key (fun _ => 0) _ (Fin.ext (by show 512 + i.val % 256 = i.val; omega))
      · pointwise [k1_pay14, k1_pay34, k1_pay33, k1_pay11, k1_pay12, k1_pay10]
        exact key (fun _ => 0) _ (Fin.ext (by show 768 + i.val % 256 = i.val; omega))

end Cert.Moe
end
-- ==== Proof.MoePair.lean ====
module

public import proofs.«01_k».proof.Proof.MoeUnit
public import proofs.«01_k».proof.Proof.MoeRegion

/-! One expert's share of a block of 1024 tokens, over the extended reals: each token sent to the expert gets its weight
times the expert's value on it, and the others get nothing. -/

@[expose] public section
set_option maxRecDepth 16384
noncomputable section
namespace Cert.Moe
open Idealize.ShloMosaic Idealize.ShloMosaic.TcCoe Idealize.ShloMosaic.Tactic Idealize.ShloMosaic.Pointwise Cert.KernelIdeal Cert.KernelIdeal.Gen
open Cert.Swiglu
open Idealize.SL Idealize.SL.Sem

/-- A word of at most 1024 is that of its number. -/
theorem word_of {v : BitVec 32} (h : v.toNat ≤ 1024) : ∃ n : Fin 1025, n.val = v.toNat ∧ v = BitVec.ofNat 32 n.val :=
  ⟨⟨v.toNat, by omega⟩, rfl, by simp⟩

/-- The gathering loop's trips. -/
theorem trips_rows {v : BitVec 32} (h : v.toNat ≤ 1024) : (k1_t1_loop v).trips = tiles v.toNat := by
  obtain ⟨n, hn, e⟩ := word_of h
  have := trips1 n
  rw [← e, hn] at this
  exact this

/-- The scattering loop's trips. -/
theorem trips_put {v : BitVec 32} (h : v.toNat ≤ 1024) : (k1_t5_loop v).trips = tiles v.toNat := by
  obtain ⟨n, hn, e⟩ := word_of h
  have := trips5 n
  rw [← e, hn] at this
  exact this

/-- A band reads rows of the products. -/
theorem band_apply (y : Vec Ideal S1248x1024 .f32) (k : ℕ) (hk : k < 4) (x : Fin 384) (j : Fin 1024) :
    band y k (ix2 x j) = y (ix2 (⟨288 * k + x.val, by omega⟩ : Fin 1248) j) := by
  unfold band
  rw [dif_pos hk]
  exact View.ld_unit_apply_of _ _ _ _ _ _ (fun a => by
    match a with
    | ⟨0, _⟩ => rfl
    | ⟨1, _⟩ => exact (Nat.zero_add _).symm)

/-- A real number is another exactly when the extended reals are. -/
theorem nat_eq_iff (a b : ℕ) : ((a : ℝ) : EReal) = ((b : ℝ) : EReal) ↔ a = b := by
  rw [EReal.coe_eq_coe_iff, Nat.cast_inj]

/-- No slot has rank −1. -/
theorem slot_ne (k : ℕ) (x : Fin 384) : ((-1 : ℝ) : EReal) ≠ slot k x := by
  unfold slot
  split
  · intro h
    rw [EReal.coe_eq_coe_iff] at h
    have : (0 : ℝ) ≤ ((288 * k + x.val : ℕ) : ℝ) := Nat.cast_nonneg _
    rw [← h] at this
    norm_num at this
  · intro h
    rw [EReal.coe_eq_coe_iff] at h
    norm_num at h

/-- A rank is a slot's exactly when it is in the slot's tile, at the slot's row. -/
theorem slot_iff (r k : ℕ) (x : Fin 384) : ((r : ℝ) : EReal) = slot k x ↔ x.val < 288 ∧ r = 288 * k + x.val := by
  unfold slot
  split
  · rename_i h
    rw [nat_eq_iff]
    exact ⟨fun e => ⟨h, e⟩, fun e => e.2⟩
  · rename_i h
    constructor
    · intro e
      rw [EReal.coe_eq_coe_iff] at e
      have : (0 : ℝ) ≤ (r : ℝ) := Nat.cast_nonneg _
      rw [e] at this
      norm_num at this
    · intro e; exact absurd e.1 h

/-- What the scattering loop adds to a token's sum. -/
theorem put_all (v3 : BitVec 32) (hv : v3.toNat ≤ 1024) (a : Fin 128) (pos gate : Vec Ideal S1024x128 .f32) (y : Vec Ideal S1248x1024 .f32) (o : Vec Ideal S1024x1024 .f32)
    (i : Fin 1024) (j : Fin 1024) (ch : Prop) [Decidable ch] (rank : ℕ)
    (hpos : pos (ix2 i a) = if ch then ((rank : ℝ) : EReal) else ((-1 : ℝ) : EReal)) (hb : rank < 1248) (m : ℕ) (hm : m ≤ tiles v3.toNat) :
    putTo (F := Ideal) v3 (BitVec.ofNat 32 a.val) pos gate y o m (ix2 i j)
      = o (ix2 i j) + gate (ix2 i a) * (if ch ∧ rank < 288 * m then y (ix2 (⟨rank, hb⟩ : Fin 1248) j) else 0) := by
  have h4 := tiles_le hv
  induction m with
  | zero =>
    rw [if_neg (by omega), mul_zero, add_zero]
    rfl
  | succ m ih =>
    have hk : m < (k1_t5_loop v3).trips := by rw [trips_put hv]; omega
    have e : putTo (F := Ideal) v3 (BitVec.ofNat 32 a.val) pos gate y o (m + 1) = putOf v3 (BitVec.ofNat 32 a.val) ⟨m, hk⟩ pos gate (band y m) (putTo v3 (BitVec.ofNat 32 a.val) pos gate y o m) := by
      show (if h : m < (k1_t5_loop v3).trips then _ else _) = _
      rw [dif_pos hk]
    rw [e, put_apply j v3 a ⟨m, hk⟩ (by show m < 5; omega) pos gate, ih (by omega), hpos]
    by_cases hc : ch
    · simp only [hc, true_and, if_true]
      by_cases hr : rank < 288 * m
      · rw [if_pos hr, if_pos (by omega), Finset.sum_eq_zero, mul_zero, add_zero]
        intro x _
        rw [if_neg, zero_mul]
        intro h
        have := (slot_iff rank m x).1 h
        omega
      · rw [if_neg hr, mul_zero, add_zero]
        by_cases hr' : rank < 288 * (m + 1)
        · rw [if_pos hr', Finset.sum_eq_single (⟨rank - 288 * m, by omega⟩ : Fin 384)]
          · rw [if_pos ((slot_iff rank m _).2 ⟨by show rank - 288 * m < 288; omega, by show rank = 288 * m + (rank - 288 * m); omega⟩), one_mul, band_apply y m (by omega)]
            congr 4
            apply Fin.ext
            show 288 * m + (rank - 288 * m) = rank
            omega
          · intro x _ hx
            rw [if_neg, zero_mul]
            intro h
            have := (slot_iff rank m x).1 h
            exact hx (Fin.ext (by show x.val = rank - 288 * m; omega))
          · intro h; exact absurd (Finset.mem_univ _) h
        · rw [if_neg hr', Finset.sum_eq_zero]
          intro x _
          rw [if_neg, zero_mul]
          intro h
          have := (slot_iff rank m x).1 h
          omega
    · simp only [hc, false_and, if_false, mul_zero, add_zero]
      rw [Finset.sum_eq_zero, mul_zero, add_zero]
      intro x _
      rw [if_neg (slot_ne m x), zero_mul]

/-- A tile's row, when one token has its rank: that token's row. -/
theorem rows_one (v3 : BitVec 32) (hv : v3.toNat ≤ 1024) (p : Vec Ideal S1x1024 .f32) (X : Vec Ideal S1024x1024 .bf16) (k : ℕ) (hk : k < tiles v3.toNat) (s : Fin 288) (i : Fin 1024)
    (h : ∀ i' : Fin 1024, p (ix2 0 i') = (((288 * k + s.val : ℕ) : ℝ) : EReal) ↔ i' = i) (j : Fin 1024) :
    rowsOf (F := Ideal) v3 p X k (ix2 s j) = X (ix2 i j) := by
  have h4 := tiles_le hv
  rw [rows_apply s j v3 p X k (by rw [trips_rows hv]; exact hk) (by omega), Finset.sum_eq_single i]
  · rw [if_pos ((h i).2 rfl), one_mul]
  · intro b _ hb
    rw [if_neg fun e => hb ((h b).1 e), zero_mul]
  · intro h; exact absurd (Finset.mem_univ _) h

/-- An expert's value at output `j` on the row `x`, from the two halves of its weights. -/
def expert (A B : Vec Ideal S1x1024x1408 .bf16) (D : Vec Ideal S1x1408x1024 .bf16) (A' B' : Vec Ideal S1x1024x1408 .bf16) (D' : Vec Ideal S1x1408x1024 .bf16) (x : Fin 1024 → EReal) (j : Fin 1024) : EReal :=
  (∑ k : Fin 1408, unit x (fun i => A (ix3 0 i k)) (fun i => B (ix3 0 i k)) (D (ix3 0 k j)))
    + ∑ k : Fin 1408, unit x (fun i => A' (ix3 0 i k)) (fun i => B' (ix3 0 i k)) (D' (ix3 0 k j))

variable (a : (pcfg1 (F := Ideal)).Adm) (V : Dev nD → Valuation τ sig (Elt Ideal)) (c : Dev nD)

/-- The product of pair `q` at a rank that token `i` alone has: the expert's value on the token. -/
theorem full_apply (q : ℕ) (hv : (wordAt a q).toNat ≤ 1024) (k : ℕ) (hk : k < tiles (wordAt a q).toNat) (s : Fin 288) (i : Fin 1024)
    (h : ∀ i' : Fin 1024, rankRow (grid1.coords (pt (2 * q))) (bx1 a V c (pt (2 * q))) (c3 q) (ix2 0 i') = (((288 * k + s.val : ℕ) : ℝ) : EReal) ↔ i' = i) (j : Fin 1024) :
    fullAt a V c q k (ix2 s j) = expert (bx4 a V c (pt (2 * q))) (bx5 a V c (pt (2 * q))) (bx6 a V c (pt (2 * q))) (bx4 a V c (pt (2 * q + 1))) (bx5 a V c (pt (2 * q + 1))) (bx6 a V c (pt (2 * q + 1)))
      (fun l => bx0 a V c (pt (2 * q)) (ix2 i l)) j := by
  unfold fullAt halfAt
  rw [add_apply, half_apply]
  have hr : (fun l => rowsAt a V c q k (ix2 s l)) = fun l => bx0 a V c (pt (2 * q)) (ix2 i l) := by
    funext l
    exact rows_one _ hv _ _ k hk s i h l
  unfold hid expert
  rw [hr]

/-- What pair `q` adds to token `i`: its weight times the expert's value when the expert is chosen for it. -/
theorem add_pair (q : ℕ) (hv : (wordAt a q).toNat ≤ 1024) (e : Fin 128) (he : q % 8 = e.val) (o : Vec Ideal S1024x1024 .f32) (i j : Fin 1024)
    (ch : Fin 1024 → Prop) [DecidablePred ch] (rank : Fin 1024 → ℕ)
    (hpos : bx2 a V c (pt (2 * q + 1)) (ix2 i e) = if ch i then ((rank i : ℝ) : EReal) else ((-1 : ℝ) : EReal))
    (hrow : ∀ i', rankRow (grid1.coords (pt (2 * q))) (bx1 a V c (pt (2 * q))) (c3 q) (ix2 0 i') = if ch i' then ((rank i' : ℝ) : EReal) else ((-1 : ℝ) : EReal))
    (hinj : ∀ i', ch i → ch i' → rank i' = rank i → i' = i) (hlt : ch i → rank i < (wordAt a q).toNat) (hb : rank i < 1248) :
    addAt a V c q o (ix2 i j) = o (ix2 i j) + bx3 a V c (pt (2 * q + 1)) (ix2 i e) * (if ch i then
      expert (bx4 a V c (pt (2 * q))) (bx5 a V c (pt (2 * q))) (bx6 a V c (pt (2 * q))) (bx4 a V c (pt (2 * q + 1))) (bx5 a V c (pt (2 * q + 1))) (bx6 a V c (pt (2 * q + 1)))
      (fun l => bx0 a V c (pt (2 * q)) (ix2 i l)) j else 0) := by
  unfold addAt
  rw [he, put_all _ hv e _ _ _ _ i j (ch i) (rank i) hpos hb _ le_rfl]
  by_cases hc : ch i
  · have hl := hlt hc
    have ht : rank i < 288 * tiles (wordAt a q).toNat := by unfold tiles; omega
    rw [if_pos ⟨hc, ht⟩, if_pos hc]
    congr 2
    show fill (fullAt a V c q) _ _ _ = _
    unfold fill
    rw [if_pos (by exact ht)]
    show fullAt a V c q (rank i / 288) (ix2 ⟨rank i % 288, _⟩ ⟨j.val, _⟩) = _
    exact full_apply a V c q hv (rank i / 288) (by omega) ⟨rank i % 288, Nat.mod_lt _ (by decide)⟩ i (fun i' => by
      have e1 : 288 * (rank i / 288) + rank i % 288 = rank i := Nat.div_add_mod _ _
      show _ = (((288 * (rank i / 288) + rank i % 288 : ℕ) : ℝ) : EReal) ↔ _
      rw [e1, hrow]
      by_cases hc' : ch i'
      · rw [if_pos hc', nat_eq_iff]
        exact ⟨hinj i' hc hc', fun h => by rw [h]⟩
      · rw [if_neg hc']
        constructor
        · intro h
          rw [EReal.coe_eq_coe_iff] at h
          have : (0 : ℝ) ≤ ((rank i : ℕ) : ℝ) := Nat.cast_nonneg _
          rw [← h] at this
          norm_num at this
        · intro h; rw [h] at hc'; exact absurd hc hc') j
  · rw [if_neg (fun h => hc h.1), if_neg hc]

end Cert.Moe
end
-- ==== Proof.MoeChoice.lean ====
module

public import Idealize.ShloMosaic.Lib.SortPrefix
public import Idealize.ShloMosaic.Lib.Pointwise
public import Idealize.ShloMosaic.Lib.Tactic

/-! Choosing the two largest of a row of values, the earlier of equals first: by a stable sort, and by taking the
largest, then the largest of the rest. -/

@[expose] public section
set_option maxRecDepth 16384
noncomputable section
namespace Cert.Moe
open Idealize.ShloMosaic

/-- `i` is the first place of the largest value. -/
def Top {n : ℕ} (M : Fin n → EReal) (i : Fin n) : Prop := ∀ x, M x ≤ M i ∧ (M x = M i → i ≤ x)

/-- `i'` is the first place of the largest value at a place other than `i`. -/
def Next {n : ℕ} (M : Fin n → EReal) (i i' : Fin n) : Prop := i' ≠ i ∧ ∀ x, x ≠ i → M x ≤ M i' ∧ (M x = M i' → i' ≤ x)

/-- Of some places there is a first one of the largest value. -/
theorem exists_first {n : ℕ} (M : Fin n → EReal) (s : Finset (Fin n)) (h : s.Nonempty) :
    ∃ i ∈ s, ∀ x ∈ s, M x ≤ M i ∧ (M x = M i → i ≤ x) := by
  obtain ⟨m, hm, hmax⟩ := s.exists_max_image M h
  have hne : (s.filter fun x => M x = M m).Nonempty := ⟨m, Finset.mem_filter.2 ⟨hm, rfl⟩⟩
  have hi := Finset.mem_filter.1 (Finset.min'_mem _ hne)
  refine ⟨_, hi.1, fun x hx => ⟨(hmax x hx).trans_eq hi.2.symm, fun e => Finset.min'_le _ _ (Finset.mem_filter.2 ⟨hx, e.trans hi.2⟩)⟩⟩

/-- Eight values have two largest. -/
theorem exists_two (M : Fin 8 → EReal) : ∃ i i', Top M i ∧ Next M i i' := by
  obtain ⟨i, -, hi⟩ := exists_first M Finset.univ ⟨0, Finset.mem_univ _⟩
  have hne : (Finset.univ.erase i).Nonempty := by
    rw [← Finset.card_pos, Finset.card_erase_of_mem (Finset.mem_univ _), Finset.card_univ, Fintype.card_fin]
    decide
  obtain ⟨i', h', hi'⟩ := exists_first M _ hne
  exact ⟨i, i', fun x => hi x (Finset.mem_univ _), Finset.ne_of_mem_erase h', fun x hx => hi' x (Finset.mem_erase.2 ⟨hx, Finset.mem_univ _⟩)⟩

/-- The largest value, by folding. -/
theorem fold_max {n : ℕ} (M : Fin n → EReal) (i : Fin n) (h : Top M i) : Finset.fold max ⊥ M Finset.univ = M i :=
  le_antisymm (Finset.fold_max_le _ |>.2 ⟨bot_le, fun x _ => (h x).1⟩) (Finset.le_fold_max _ |>.2 (Or.inr ⟨i, Finset.mem_univ _, le_rfl⟩))

/-- The first place of the largest value, by folding. -/
theorem fold_min (M : Fin 128 → EReal) (i : Fin 128) (h : Top M i) (N : EReal) (hN : ((128 : ℝ) : EReal) ≤ N) :
    Finset.fold min ⊤ (fun x : Fin 128 => if M x = M i then ((x.val : ℝ) : EReal) else N) Finset.univ = ((i.val : ℝ) : EReal) := by
  apply le_antisymm
  · exact (Finset.fold_min_le _).2 (Or.inr ⟨i, Finset.mem_univ _, by rw [if_pos rfl]⟩)
  · refine (Finset.le_fold_min _).2 ⟨le_top, fun x _ => ?_⟩
    split
    · rename_i e
      rw [EReal.coe_le_coe_iff]
      exact_mod_cast (h x).2 e
    · refine le_trans ?_ hN
      rw [EReal.coe_le_coe_iff]
      exact_mod_cast le_of_lt i.isLt

/-! ## The stable sort -/

/-- Inserting depends on the order among the list's elements and the new one only. -/
theorem insertBefore_congr {ι : Type} (B C : ι → ι → Bool) (a : ι) : ∀ l : List ι, (∀ b ∈ l, B b a = C b a) → insertBefore B a l = insertBefore C a l
  | [], _ => rfl
  | b :: l, h => by
    unfold insertBefore
    rw [h b (List.mem_cons_self ..), insertBefore_congr B C a l fun b' hb' => h b' (List.mem_cons_of_mem _ hb')]

/-- The stable sort of an increasing list: ties may be broken by place. -/
theorem stableSort_congr {n : ℕ} (B C : Fin n → Fin n → Bool) (h : ∀ a b, a < b → B b a = C b a) :
    ∀ l : List (Fin n), l.Pairwise (· < ·) → stableSort B l = stableSort C l
  | [], _ => rfl
  | a :: l, hl => by
    have ih := stableSort_congr B C h l (List.pairwise_cons.1 hl).2
    unfold stableSort
    rw [ih]
    exact insertBefore_congr B C a _ fun b hb => h a b ((List.pairwise_cons.1 hl).1 b ((perm_stableSort C l).mem_iff.1 hb))

/-- The first two of a stable sort by decreasing value. -/
theorem sorted_two (M : Fin 8 → EReal) (i i' : Fin 8) (h : Top M i) (h' : Next M i i') (B : Fin 8 → Fin 8 → Bool) (hB : ∀ a b, B a b = decide (M b < M a)) :
    sortedFrom B 0 = i ∧ sortedFrom B 1 = i' := by
  let C : Fin 8 → Fin 8 → Bool := fun a b => (fun p q : EReal => decide (q < p)) (M a) (M b) || (decide (M a = M b) && decide (a < b))
  have hC : StrictTotalBefore C := StrictTotalBefore.of_key_then_position (fun p q : EReal => decide (q < p)) M (fun a => by simp) (fun a b c => by
      simp only [decide_eq_true_eq]; exact fun h1 h2 => lt_trans h2 h1) (fun a b => by
      simp only [decide_eq_true_eq]
      rcases lt_trichotomy a b with h | h | h
      · exact Or.inr (Or.inr h)
      · exact Or.inr (Or.inl h)
      · exact Or.inl h)
  have e : sortPositions 8 B = sortPositions 8 C := stableSort_congr B C (fun a b hab => by
      show B b a = (decide (M a < M b) || (decide (M b = M a) && decide (b < a)))
      rw [hB, decide_eq_false (p := b < a) (not_lt.2 hab.le), Bool.and_false, Bool.or_false]) _ (List.pairwise_lt_finRange 8)
  have e' : ∀ k, sortedFrom B k = sortedFrom C k := fun k => by
    show (sortPositions 8 B).get _ = (sortPositions 8 C).get _
    congr 1
    exact Fin.heq_ext_iff (by rw [e]) |>.2 rfl
  let σ : Fin 2 → Fin 8 := ![i, i']
  have hσ := fun k : Fin 2 => hC.sortedFrom_eq_of_prefix (k := 2) (by decide) σ (fun x y hxy => by
      match x, y with
      | 0, 0 => rfl
      | 1, 1 => rfl
      | 0, 1 => exact absurd hxy.symm h'.1
      | 1, 0 => exact absurd hxy h'.1) (fun x y hxy => by
      match x, y with
      | 0, 0 => exact absurd hxy (lt_irrefl _)
      | 1, 1 => exact absurd hxy (lt_irrefl _)
      | 1, 0 => exact absurd hxy (by decide)
      | 0, 1 =>
        show (decide (M i < M i') || (decide (M i' = M i) && decide (i' < i))) = false
        rw [decide_eq_false (not_lt.2 (h i').1), Bool.false_or]
        by_cases hm : M i' = M i
        · rw [decide_eq_false (p := i' < i) (not_lt.2 ((h i').2 hm)), Bool.and_false]
        · rw [decide_eq_false hm, Bool.false_and]) (fun x p hp => by
      have hp0 : i ≠ p := hp 0
      have hp1 : i' ≠ p := hp 1
      match x with
      | 0 =>
        show (decide (M i < M p) || (decide (M p = M i) && decide (p < i))) = false
        rw [decide_eq_false (not_lt.2 (h p).1), Bool.false_or]
        by_cases hm : M p = M i
        · rw [decide_eq_false (p := p < i) (not_lt.2 ((h p).2 hm)), Bool.and_false]
        · rw [decide_eq_false hm, Bool.false_and]
      | 1 =>
        show (decide (M i' < M p) || (decide (M p = M i') && decide (p < i'))) = false
        rw [decide_eq_false (not_lt.2 (h'.2 p hp0.symm).1), Bool.false_or]
        by_cases hm : M p = M i'
        · rw [decide_eq_false (p := p < i') (not_lt.2 ((h'.2 p hp0.symm).2 hm)), Bool.and_false]
        · rw [decide_eq_false hm, Bool.false_and]) k
  exact ⟨(e' 0).trans (hσ 0), (e' 1).trans (hσ 1)⟩

end Cert.Moe
end
-- ==== Proof.MoeRef.lean ====
module

public import proofs.«01_k».proof.Proof.Gen.ReferenceIdeal.Read
public import proofs.«01_k».proof.Proof.MoeChoice
public import proofs.«01_k».proof.Proof.Swiglu

/-! The reference of the expert block, over the extended reals, index by index. -/

@[expose] public section
set_option maxRecDepth 16384
noncomputable section
namespace Cert.MoeRef
open Idealize.ShloMosaic Idealize.ShloMosaic.TcCoe Idealize.ShloMosaic.Tactic Idealize.ShloMosaic.Pointwise Cert.ReferenceIdeal Cert.ReferenceIdeal.Gen Cert.ReferenceIdeal.Read
open Cert.Swiglu Cert.Moe
variable (x0 : FVec Ideal S16384x1024 .f32) (x1 : FVec Ideal S1024x8 .f32) (x2 x3 : FVec Ideal S8x1024x2816 .f32) (x4 : FVec Ideal S8x2816x1024 .f32)
   (x5 x6 : FVec Ideal S1024 .f32) (i : Fin 16384) (e : Fin 8) (j : Fin 1024) (k : Fin 2)

/-- Expert `e`'s value at output `j` on the row `x`. -/
def swi (x : Fin 1024 → EReal) : EReal :=
  ∑ k : Fin 2816, unit x (fun i => x2 (ix3 e i k)) (fun i => x3 (ix3 e i k)) (x4 (ix3 e k j))

/-- The routing logits. -/
theorem logit_apply : val_main_v0 (F := Ideal) x0 x1 (ix2 i e) = ∑ x, x0 (ix2 i x) * x1 (ix2 x e) := by
  pointwise [val_main_v0]

/-- The residual sum before the first expert. -/
theorem start_apply : val_main_v17 (F := Ideal) (ix2 i j) = 0 := by
  pointwise [val_main_v17, val_main_cst_3]

/-- Expert 0 is added, times its weight. -/
theorem step0 : val_main_v32 (F := Ideal) x0 x1 x2 x3 x4 (ix2 i j) = val_main_v17 (F := Ideal) (ix2 i j) + val_main_v16 (F := Ideal) x0 x1 (ix2 i 0) * swi x2 x3 x4 0 j (fun l => x0 (ix2 i l)) := by
  pointwise [val_main_v32, val_main_v31, val_main_v30, val_main_v29, val_main_v28, val_main_v27, val_main_v26, val_main_v25, val_main_v24, val_main_v23, val_main_v22, val_main_v21, val_main_v20, val_main_v19, val_main_v18, val_main_call1_v5, val_main_call1_v4, val_main_call1_cst_0, val_main_call1_v3, val_main_call1_v2, val_main_call1_cst, val_main_call1_v1, val_main_call1_v0, swi, unit, gated]
  simp only [zero_sub]
  try rfl

/-- Expert 1 is added, times its weight. -/
theorem step1 : val_main_v47 (F := Ideal) x0 x1 x2 x3 x4 (ix2 i j) = val_main_v32 (F := Ideal) x0 x1 x2 x3 x4 (ix2 i j) + val_main_v16 (F := Ideal) x0 x1 (ix2 i 1) * swi x2 x3 x4 1 j (fun l => x0 (ix2 i l)) := by
  pointwise [val_main_v47, val_main_v46, val_main_v45, val_main_v44, val_main_v43, val_main_v42, val_main_v41, val_main_v40, val_main_v39, val_main_v38, val_main_v37, val_main_v36, val_main_v35, val_main_v34, val_main_v33, val_main_call2_v5, val_main_call2_v4, val_main_call2_cst_0, val_main_call2_v3, val_main_call2_v2, val_main_call2_cst, val_main_call2_v1, val_main_call2_v0, swi, unit, gated]
  simp only [zero_sub]
  try rfl

/-- Expert 2 is added, times its weight. -/
theorem step2 : val_main_v62 (F := Ideal) x0 x1 x2 x3 x4 (ix2 i j) = val_main_v47 (F := Ideal) x0 x1 x2 x3 x4 (ix2 i j) + val_main_v16 (F := Ideal) x0 x1 (ix2 i 2) * swi x2 x3 x4 2 j (fun l => x0 (ix2 i l)) := by
  pointwise [val_main_v62, val_main_v61, val_main_v60, val_main_v59, val_main_v58, val_main_v57, val_main_v56, val_main_v55, val_main_v54, val_main_v53, val_main_v52, val_main_v51, val_main_v50, val_main_v49, val_main_v48, val_main_call3_v5, val_main_call3_v4, val_main_call3_cst_0, val_main_call3_v3, val_main_call3_v2, val_main_call3_cst, val_main_call3_v1, val_main_call3_v0, swi, unit, gated]
  simp only [zero_sub]
  try rfl

/-- Expert 3 is added, times its weight. -/
theorem step3 : val_main_v77 (F := Ideal) x0 x1 x2 x3 x4 (ix2 i j) = val_main_v62 (F := Ideal) x0 x1 x2 x3 x4 (ix2 i j) + val_main_v16 (F := Ideal) x0 x1 (ix2 i 3) * swi x2 x3 x4 3 j (fun l => x0 (ix2 i l)) := by
  pointwise [val_main_v77, val_main_v76, val_main_v75, val_main_v74, val_main_v73, val_main_v72, val_main_v71, val_main_v70, val_main_v69, val_main_v68, val_main_v67, val_main_v66, val_main_v65, val_main_v64, val_main_v63, val_main_call4_v5, val_main_call4_v4, val_main_call4_cst_0, val_main_call4_v3, val_main_call4_v2, val_main_call4_cst, val_main_call4_v1, val_main_call4_v0, swi, unit, gated]
  simp only [zero_sub]
  try rfl

/-- Expert 4 is added, times its weight. -/
theorem step4 : val_main_v92 (F := Ideal) x0 x1 x2 x3 x4 (ix2 i j) = val_main_v77 (F := Ideal) x0 x1 x2 x3 x4 (ix2 i j) + val_main_v16 (F := Ideal) x0 x1 (ix2 i 4) * swi x2 x3 x4 4 j (fun l => x0 (ix2 i l)) := by
  pointwise [val_main_v92, val_main_v91, val_main_v90, val_main_v89, val_main_v88, val_main_v87, val_main_v86, val_main_v85, val_main_v84, val_main_v83, val_main_v82, val_main_v81, val_main_v80, val_main_v79, val_main_v78, val_main_call5_v5, val_main_call5_v4, val_main_call5_cst_0, val_main_call5_v3, val_main_call5_v2, val_main_call5_cst, val_main_call5_v1, val_main_call5_v0, swi, unit, gated]
  simp only [zero_sub]
  try rfl

/-- Expert 5 is added, times its weight. -/
theorem step5 : val_main_v107 (F := Ideal) x0 x1 x2 x3 x4 (ix2 i j) = val_main_v92 (F := Ideal) x0 x1 x2 x3 x4 (ix2 i j) + val_main_v16 (F := Ideal) x0 x1 (ix2 i 5) * swi x2 x3 x4 5 j (fun l => x0 (ix2 i l)) := by
  pointwise [val_main_v107, val_main_v106, val_main_v105, val_main_v104, val_main_v103, val_main_v102, val_main_v101, val_main_v100, val_main_v99, val_main_v98, val_main_v97, val_main_v96, val_main_v95, val_main_v94, val_main_v93, val_main_call6_v5, val_main_call6_v4, val_main_call6_cst_0, val_main_call6_v3, val_main_call6_v2, val_main_call6_cst, val_main_call6_v1, val_main_call6_v0, swi, unit, gated]
  simp only [zero_sub]
  try rfl

/-- Expert 6 is added, times its weight. -/
theorem step6 : val_main_v122 (F := Ideal) x0 x1 x2 x3 x4 (ix2 i j) = val_main_v107 (F := Ideal) x0 x1 x2 x3 x4 (ix2 i j) + val_main_v16 (F := Ideal) x0 x1 (ix2 i 6) * swi x2 x3 x4 6 j (fun l => x0 (ix2 i l)) := by
  pointwise [val_main_v122, val_main_v121, val_main_v120, val_main_v119, val_main_v118, val_main_v117, val_main_v116, val_main_v115, val_main_v114, val_main_v113, val_main_v112, val_main_v111, val_main_v110, val_main_v109, val_main_v108, val_main_call7_v5, val_main_call7_v4, val_main_call7_cst_0, val_main_call7_v3, val_main_call7_v2, val_main_call7_cst, val_main_call7_v1, val_main_call7_v0, swi, unit, gated]
  simp only [zero_sub]
  try rfl

/-- Expert 7 is added, times its weight. -/
theorem step7 : val_main_v137 (F := Ideal) x0 x1 x2 x3 x4 (ix2 i j) = val_main_v122 (F := Ideal) x0 x1 x2 x3 x4 (ix2 i j) + val_main_v16 (F := Ideal) x0 x1 (ix2 i 7) * swi x2 x3 x4 7 j (fun l => x0 (ix2 i l)) := by
  pointwise [val_main_v137, val_main_v136, val_main_v135, val_main_v134, val_main_v133, val_main_v132, val_main_v131, val_main_v130, val_main_v129, val_main_v128, val_main_v127, val_main_v126, val_main_v125, val_main_v124, val_main_v123, val_main_call8_v5, val_main_call8_v4, val_main_call8_cst_0, val_main_call8_v3, val_main_call8_v2, val_main_call8_cst, val_main_call8_v1, val_main_call8_v0, swi, unit, gated]
  simp only [zero_sub]
  try rfl

/-- The eight experts, each times its weight, added one after another. -/
def mix (w s : Fin 8 → EReal) : EReal := 0 + w 0 * s 0 + w 1 * s 1 + w 2 * s 2 + w 3 * s 3 + w 4 * s 4 + w 5 * s 5 + w 6 * s 6 + w 7 * s 7

/-- The experts' sum. -/
theorem mix_apply : val_main_v137 (F := Ideal) x0 x1 x2 x3 x4 (ix2 i j) = mix (fun e => val_main_v16 (F := Ideal) x0 x1 (ix2 i e)) (fun e => swi x2 x3 x4 e j (fun l => x0 (ix2 i l))) := by
  rw [step7, step6, step5, step4, step3, step2, step1, step0, start_apply]
  rfl

/-- The residual sum at an index. -/
theorem resid_apply : val_main_v140 (F := Ideal) x0 x1 x2 x3 x4 (ix2 i j) = resid (x0 (ix2 i j)) (val_main_v137 (F := Ideal) x0 x1 x2 x3 x4 (ix2 i j)) := by
  pointwise [val_main_v140, val_main_v139, val_main_v138, val_main_cst_4, resid]

/-- The normalized row. -/
theorem lnorm_apply : val_main_v162 (F := Ideal) x0 x1 x2 x3 x4 x5 x6 (ix2 i j)
    = lnorm (fun c => val_main_v140 (F := Ideal) x0 x1 x2 x3 x4 (ix2 i c)) (x5 (ix1 j)) (x6 (ix1 j)) j := by
  pointwise [val_main_v162, val_main_v161, val_main_v160, val_main_v159, val_main_v158, val_main_v157, val_main_v156, val_main_v155, val_main_v154, val_main_v153, val_main_v152, val_main_v151, val_main_v150, val_main_v149, val_main_v148, val_main_v147, val_main_v146, val_main_v145, val_main_v144, val_main_v143, val_main_v142, val_main_v141, val_main_cst_5, val_main_cst_6, val_main_cst_7, val_main_cst_8, val_main_cst_9, lnorm]

/-- The whole result at an index. -/
theorem ref_apply : val_main_v162 (F := Ideal) x0 x1 x2 x3 x4 x5 x6 (ix2 i j)
    = lnorm (fun c => resid (x0 (ix2 i c)) (mix (fun e => val_main_v16 (F := Ideal) x0 x1 (ix2 i e)) (fun e => swi x2 x3 x4 e c (fun l => x0 (ix2 i l))))) (x5 (ix1 j)) (x6 (ix1 j)) j := by
  rw [lnorm_apply]
  exact congrArg (fun f => lnorm f _ _ _) (funext fun c => by rw [resid_apply, mix_apply])

/-! ## The weights -/

/-- The weight of expert `e` in a token whose logits are `L`, its two largest at `i1` and `i2`: the softmax of the two. -/
def weight (L : Fin 8 → EReal) (i1 i2 e : Fin 8) : EReal :=
  (if e = i1 then Ideal.div 1 (1 + Ideal.exp (L i2 - L i1)) else 0) + (if e = i2 then Ideal.div (Ideal.exp (L i2 - L i1)) (1 + Ideal.exp (L i2 - L i1)) else 0)

/-- A place of a row, along the row. -/
theorem along_row (i : Fin 16384) (a b : Fin 8) : (ix2 i a : S16384x8.Idx).along 1 b = ix2 i b := by
  funext d
  match d with
  | ⟨0, _⟩ => rfl
  | ⟨1, _⟩ => rfl

/-- The order of the sort. -/
theorem before (L : FVec Ideal S16384x8 .f32) (a b : Fin 8) : (FloatOps.cmpfTotal (F := Ideal) (φ := .f32) .gt (L (ix2 i a)) (L (ix2 i b)) == 1#1) = decide (L (ix2 i b) < L (ix2 i a)) := by
  show (BitVec.ofBool (decide (L (ix2 i b) < L (ix2 i a))) == 1#1) = _
  by_cases h : L (ix2 i b) < L (ix2 i a) <;> simp [h]

/-- The order of a token's logits. -/
def order (x0 : FVec Ideal S16384x1024 .f32) (x1 : FVec Ideal S1024x8 .f32) (i : Fin 16384) (a b : Fin 8) : Bool :=
  decide (val_main_v0 (F := Ideal) x0 x1 (ix2 i b) < val_main_v0 (F := Ideal) x0 x1 (ix2 i a))

/-- The value at a place of the sorted row. -/
theorem values_apply : val_main_values (F := Ideal) x0 x1 (ix2 i k) = val_main_v0 (F := Ideal) x0 x1 (ix2 i (sortedFrom (order x0 x1 i) (k.castLE (by decide)))) := by
  unfold val_main_values order
  generalize val_main_v0 (F := Ideal) x0 x1 = L
  unfold Host.topK Host.sort2
  pointwise
  simp only [along_row, before]
  rfl

/-- The place it comes from. -/
theorem indices_apply : val_main_indices (F := Ideal) x0 x1 (ix2 i k) = BitVec.ofNat 32 (sortedFrom (order x0 x1 i) (k.castLE (by decide))).val := by
  unfold val_main_indices order
  generalize val_main_v0 (F := Ideal) x0 x1 = L
  unfold Host.topK Host.sort2
  pointwise
  simp only [along_row, before]
  rfl

/-- The softmax over the two largest, before its constants are read. -/
theorem soft_apply : val_main_v11 (F := Ideal) x0 x1 (ix2 i k) = Ideal.div (Ideal.exp (val_main_values (F := Ideal) x0 x1 (ix2 i k) - max (Ideal.ofBits .f32 0xFF800000#32) (Finset.fold max (Ideal.ofBits .f32 0xFF800000#32) (fun x => val_main_values (F := Ideal) x0 x1 (ix2 i x)) Finset.univ)))
      (0 + ∑ y, Ideal.exp (val_main_values (F := Ideal) x0 x1 (ix2 i y) - max (Ideal.ofBits .f32 0xFF800000#32) (Finset.fold max (Ideal.ofBits .f32 0xFF800000#32) (fun x => val_main_values (F := Ideal) x0 x1 (ix2 i x)) Finset.univ))) := by
  pointwise [val_main_v11, val_main_v10, val_main_v9, val_main_v8, val_main_v7, val_main_v6, val_main_v5, val_main_v4, val_main_v3, val_main_v2, val_main_v1, val_main_cst, val_main_cst_0, val_main_cst_1]

/-- The weights, before the softmax is read. -/
theorem gates_apply : val_main_v16 (F := Ideal) x0 x1 (ix2 i e) = 0 + ∑ x : Fin 2, FloatOps.uitofp (F := Ideal) .f32 (IntOp.cmpi .eq (val_main_indices (F := Ideal) x0 x1 (ix2 i x)) (BitVec.ofNat 32 e.val)) * val_main_v11 (F := Ideal) x0 x1 (ix2 i x) := by
  pointwise [val_main_v16, val_main_v15, val_main_v14, val_main_v13, val_main_v12, val_main_call0_v0, val_main_call0_v1, val_main_call0_v2, val_main_call0_v3, val_main_call0_v4, val_main_cst_2]

/-- The word of minus infinity. -/
theorem ofBits_bot : Ideal.ofBits .f32 0xFF800000#32 = ⊥ := by simp [Ideal.ofBits, Ideal.ieee]

/-- The exponential of zero. -/
theorem exp_zero : Ideal.exp (0 : EReal) = 1 := by
  show ((Real.exp 0 : ℝ) : EReal) = 1
  rw [Real.exp_zero]; rfl

/-- One at the chosen expert, zero elsewhere. -/
theorem hot (a e : Fin 8) : FloatOps.uitofp (F := Ideal) .f32 (IntOp.cmpi .eq (BitVec.ofNat 32 a.val) (BitVec.ofNat 32 e.val)) = if e = a then 1 else 0 := by
  have : ∀ a e : Fin 8, IntOp.cmpi .eq (BitVec.ofNat 32 a.val) (BitVec.ofNat 32 e.val) = if e = a then 1#1 else 0#1 := by decide
  rw [this]
  split
  · show (((1 : ℕ) : ℝ) : EReal) = 1
    norm_num
  · show (((0 : ℕ) : ℝ) : EReal) = 0
    norm_num

/-- The reference's weights are the softmax of the two largest logits. -/
theorem weight_apply (L : Fin 8 → EReal) (hL : ∀ e, val_main_v0 (F := Ideal) x0 x1 (ix2 i e) = L e) (i1 i2 : Fin 8) (h : Top L i1) (h' : Next L i1 i2) (ht : L i1 ≠ ⊤) (hb : L i1 ≠ ⊥) :
    val_main_v16 (F := Ideal) x0 x1 (ix2 i e) = weight L i1 i2 e := by
  obtain ⟨s0, s1⟩ := sorted_two L i1 i2 h h' (order x0 x1 i) (fun a b => by unfold order; rw [hL, hL])
  have v0 : val_main_values (F := Ideal) x0 x1 (ix2 i 0) = L i1 := by rw [values_apply, hL]; exact congrArg L s0
  have v1 : val_main_values (F := Ideal) x0 x1 (ix2 i 1) = L i2 := by rw [values_apply, hL]; exact congrArg L s1
  have j0 : val_main_indices (F := Ideal) x0 x1 (ix2 i 0) = BitVec.ofNat 32 i1.val := by rw [indices_apply]; exact congrArg (fun a : Fin 8 => BitVec.ofNat 32 a.val) s0
  have j1 : val_main_indices (F := Ideal) x0 x1 (ix2 i 1) = BitVec.ofNat 32 i2.val := by rw [indices_apply]; exact congrArg (fun a : Fin 8 => BitVec.ofNat 32 a.val) s1
  have hm : max (Ideal.ofBits .f32 0xFF800000#32) (Finset.fold max (Ideal.ofBits .f32 0xFF800000#32) (fun x => val_main_values (F := Ideal) x0 x1 (ix2 i x)) Finset.univ) = L i1 := by
    rw [ofBits_bot, fold_max (fun x => val_main_values (F := Ideal) x0 x1 (ix2 i x)) 0 ?_, v0]
    · exact max_eq_right bot_le
    · intro x
      refine ⟨?_, fun _ => Fin.zero_le _⟩
      match x with
      | ⟨0, _⟩ => exact le_rfl
      | ⟨1, _⟩ => show val_main_values (F := Ideal) x0 x1 (ix2 i 1) ≤ val_main_values (F := Ideal) x0 x1 (ix2 i 0); rw [v0, v1]; exact (h i2).1
  have hz : L i1 - L i1 = 0 := EReal.sub_self ht hb
  rw [gates_apply, Fin.sum_univ_two, soft_apply, soft_apply, hm, Fin.sum_univ_two, v0, v1, j0, j1, hot, hot, hz, exp_zero, weight]
  simp only [zero_add, ite_mul, one_mul, zero_mul]

end Cert.MoeRef
end
-- ==== Proof.MoeGate.lean ====
module

public import proofs.«01_k».proof.Proof.MoeCount
public import proofs.«01_k».proof.Proof.MoePair
public import proofs.«01_k».proof.Proof.MoeRef

/-! The router call on a row, over the extended reals: the two chosen experts, their weights and ranks. -/

@[expose] public section
set_option maxRecDepth 16384
noncomputable section
namespace Cert.MoeGate
open Idealize.ShloMosaic Idealize.ShloMosaic.TcCoe Idealize.ShloMosaic.Tactic Idealize.ShloMosaic.Pointwise Cert.KernelIdeal Cert.KernelIdeal.Gen
open Cert.Swiglu Cert.Moe
variable (X : Vec Ideal S1024x1024 .f32) (W : Vec Ideal S1024x128 .f32) (i : Fin 1024)

/-- The word of infinity. -/
theorem ofBits_top : Ideal.ofBits .f32 0x7F800000#32 = ⊤ := by simp [Ideal.ofBits, Ideal.ieee]
/-- Eight. -/
theorem ofBits_8 : Ideal.ofBits .f32 0x41000000#32 = ((8 : ℝ) : EReal) := by
  simp [Ideal.ofBits, Ideal.ieee]; rw [← EReal.coe_mul]; norm_num
/-- A hundred and twenty-eight. -/
theorem ofBits_128 : Ideal.ofBits .f32 0x43000000#32 = ((128 : ℝ) : EReal) := by
  simp [Ideal.ofBits, Ideal.ieee]; rw [← EReal.coe_mul]; norm_num
/-- Minus one. -/
theorem ofBits_neg : Ideal.ofBits .f32 0xBF800000#32 = ((-1 : ℝ) : EReal) := by
  simp [Ideal.ofBits, Ideal.ieee]; rw [← EReal.coe_mul]; norm_num

/-- The lanes of a row: a logit at the first eight, minus infinity at the others. -/
def lanes (L : Fin 8 → EReal) (x : Fin 128) : EReal := if h : x.val < 8 then L ⟨x.val, h⟩ else ⊥

/-- The first eight lanes. -/
def lane (e : Fin 8) : Fin 128 := ⟨e.val, by omega⟩

/-- Different experts have different lanes. -/
theorem lane_inj (a b : Fin 8) : lane a = lane b ↔ a = b := by
  rw [Fin.ext_iff, Fin.ext_iff]; rfl

/-- An expert's lane holds its logit. -/
theorem lanes_lane (L : Fin 8 → EReal) (e : Fin 8) : lanes L (lane e) = L e := by
  unfold lanes lane
  rw [dif_pos e.isLt]

/-- The largest logit is the largest lane. -/
theorem top_lanes (L : Fin 8 → EReal) (i1 : Fin 8) (h : Top L i1) (hb : ∀ e, L e ≠ ⊥) : Top (lanes L) (lane i1) := by
  intro x
  rw [lanes_lane]
  unfold lanes
  split
  · exact ⟨(h _).1, fun e => (h _).2 e⟩
  · exact ⟨bot_le, fun e => absurd e.symm (hb _)⟩

/-- The lanes without the largest. -/
def rest (L : Fin 8 → EReal) (i1 : Fin 8) (x : Fin 128) : EReal := if x = lane i1 then ⊥ else lanes L x

/-- The second largest logit is the largest of the rest. -/
theorem top_rest (L : Fin 8 → EReal) (i1 i2 : Fin 8) (h : Next L i1 i2) (hb : ∀ e, L e ≠ ⊥) : Top (rest L i1) (lane i2) := by
  have hne : lane i2 ≠ lane i1 := fun e => h.1 ((lane_inj _ _).1 e)
  intro x
  unfold rest
  rw [if_neg hne, lanes_lane]
  split
  · exact ⟨bot_le, fun e => absurd e.symm (hb _)⟩
  · rename_i hx
    unfold lanes
    split
    · rename_i h8
      have hx' : (⟨x.val, h8⟩ : Fin 8) ≠ i1 := fun e => hx (Fin.ext (show x.val = i1.val from congrArg Fin.val e))
      exact ⟨(h.2 _ hx').1, fun e => (h.2 _ hx').2 e⟩
    · exact ⟨bot_le, fun e => absurd e.symm (hb _)⟩

/-- The lane's number. -/
theorem pay6_apply (e : Fin 128) : k0_pay6 (F := Ideal) (ix2 i e) = ((e.val : ℝ) : EReal) := by
  have : k0_pay6 (F := Ideal) (ix2 i e) = FloatOps.sitofp (F := Ideal) .f32 (BitVec.ofNat 32 e.val) := by pointwise [k0_pay6]
  rw [this, sitofp_small _ (by omega)]

/-- The logits in their lanes. -/
theorem pay7_apply (L : Fin 8 → EReal) (hL : ∀ e, ∑ x, X (ix2 i x) * W (ix2 x (lane e)) = L e) (e : Fin 128) : k0_pay7 X W (ix2 i e) = lanes L e := by
  have : k0_pay7 X W (ix2 i e) = if k0_pay6 (F := Ideal) (ix2 i e) < Ideal.ofBits .f32 0x41000000#32 then ∑ x, X (ix2 i x) * W (ix2 x e) else Ideal.ofBits .f32 0xFF800000#32 := by pointwise [k0_pay7]
  rw [this, pay6_apply, ofBits_8, MoeRef.ofBits_bot]
  unfold lanes
  by_cases h : e.val < 8
  · rw [dif_pos h, if_pos (EReal.coe_lt_coe_iff.2 (by exact_mod_cast h)), ← hL]; rfl
  · rw [dif_neg h, if_neg (fun h' => h (by exact_mod_cast EReal.coe_lt_coe_iff.1 h'))]

/-- Choosing by a decided proposition. -/
theorem sel (p : Prop) [Decidable p] (x y : EReal) : Scalar.select (BitVec.ofBool (decide p)) x y = if p then x else y := by
  unfold Scalar.select
  by_cases h : p <;> simp [h]

/-- Equal lanes have equal numbers. -/
theorem lane_eq (a b : Fin 128) : (((a.val : ℝ) : EReal) = ((b.val : ℝ) : EReal)) ↔ a = b := by
  rw [EReal.coe_eq_coe_iff, Nat.cast_inj, Fin.ext_iff]

variable (L : Fin 8 → EReal) (hL : ∀ e, ∑ x, X (ix2 i x) * W (ix2 x (lane e)) = L e) (hb : ∀ e, L e ≠ ⊥) (i1 i2 : Fin 8) (h1 : Top L i1) (h2 : Next L i1 i2)
include hL hb h1

/-- The first choice is the largest logit's lane. -/
theorem pay9_apply (e : Fin 128) : k0_pay9 X W (ix2 i e) = BitVec.ofBool (decide (e = lane i1)) := by
  have h : k0_pay9 X W (ix2 i e) = BitVec.ofBool (decide (k0_pay6 (F := Ideal) (ix2 i e) = Finset.fold min (Ideal.ofBits .f32 0x7F800000#32)
      (fun x => if k0_pay7 X W (ix2 i x) = Finset.fold max (Ideal.ofBits .f32 0xFF800000#32) (fun x => k0_pay7 X W (ix2 i x)) Finset.univ then k0_pay6 (F := Ideal) (ix2 i x) else Ideal.ofBits .f32 0x43000000#32) Finset.univ)) := by
    unfold k0_pay9; pointwise [k0_pay8]
  have hT := top_lanes L i1 h1 hb
  rw [h]
  simp only [pay7_apply X W i L hL, pay6_apply, ofBits_top, MoeRef.ofBits_bot, ofBits_128]
  rw [fold_max _ _ hT, fold_min _ _ hT _ le_rfl]
  simp only [lane_eq]

/-- The lanes without the first choice. -/
theorem rest_apply (e : Fin 128) : Scalar.select (k0_pay9 X W (ix2 i e)) (⊥ : EReal) (k0_pay7 X W (ix2 i e)) = rest L i1 e := by
  rw [pay9_apply X W i L hL hb i1 h1, pay7_apply X W i L hL]
  unfold rest Scalar.select
  by_cases h : e = lane i1 <;> simp [h]

include h2

/-- The second choice is the second largest logit's lane. -/
theorem pay12_apply (e : Fin 128) : k0_pay12 X W (ix2 i e) = BitVec.ofBool (decide (e = lane i2)) := by
  have h : k0_pay12 X W (ix2 i e) = BitVec.ofBool (decide (k0_pay6 (F := Ideal) (ix2 i e) = Finset.fold min (Ideal.ofBits .f32 0x7F800000#32)
      (fun x => if Scalar.select (k0_pay9 X W (ix2 i x)) (Ideal.ofBits .f32 0xFF800000#32) (k0_pay7 X W (ix2 i x)) = Finset.fold max (Ideal.ofBits .f32 0xFF800000#32) (fun x => Scalar.select (k0_pay9 X W (ix2 i x)) (Ideal.ofBits .f32 0xFF800000#32) (k0_pay7 X W (ix2 i x))) Finset.univ then k0_pay6 (F := Ideal) (ix2 i x) else Ideal.ofBits .f32 0x43000000#32) Finset.univ)) := by
    unfold k0_pay12; pointwise [k0_pay11, k0_pay10]
  have hT := top_rest L i1 i2 h2 hb
  rw [h]
  simp only [ofBits_top, MoeRef.ofBits_bot, ofBits_128, rest_apply X W i L hL hb i1 h1, pay6_apply]
  rw [fold_max _ _ hT, fold_min _ _ hT _ le_rfl]
  simp only [lane_eq]

/-- A token's choice. -/
theorem pay2_apply (e : Fin 128) : k0_pay2 (k0_pay9 X W) (k0_pay12 X W) (ix2 i e) = BitVec.ofBool (decide (e = lane i1 ∨ e = lane i2)) := by
  have h : k0_pay2 (k0_pay9 X W) (k0_pay12 X W) (ix2 i e) = IntOp.ori (k0_pay9 X W (ix2 i e)) (k0_pay12 X W (ix2 i e)) := by pointwise [k0_pay2]
  rw [h, pay9_apply X W i L hL hb i1 h1, pay12_apply X W i L hL hb i1 i2 h1 h2]
  show BitVec.ofBool (decide (e = lane i1)) ||| BitVec.ofBool (decide (e = lane i2)) = _
  have : ∀ a b : Bool, BitVec.ofBool a ||| BitVec.ofBool b = BitVec.ofBool (a || b) := by decide
  rw [this, Bool.decide_or]

/-- The kernel's weights are the softmax of the two largest logits. -/
theorem gate_apply (e : Fin 8) : gateOf X W (ix2 i (lane e)) = MoeRef.weight L i1 i2 e := by
  have h : gateOf X W (ix2 i (lane e)) = Scalar.select (k0_pay9 X W (ix2 i (lane e))) (k0_pay14 X W (ix2 i 0)) 0 + Scalar.select (k0_pay12 X W (ix2 i (lane e))) (k0_pay15 X W (ix2 i 0)) 0 := by
    unfold gateOf; pointwise [k0_pay1]
  have h13 : k0_pay13 X W (ix2 i 0) = Ideal.exp (L i2 - L i1) := by
    have : k0_pay13 X W (ix2 i 0) = Ideal.exp (Finset.fold max (Ideal.ofBits .f32 0xFF800000#32) (fun x => Scalar.select (k0_pay9 X W (ix2 i x)) (Ideal.ofBits .f32 0xFF800000#32) (k0_pay7 X W (ix2 i x))) Finset.univ - Finset.fold max (Ideal.ofBits .f32 0xFF800000#32) (fun x => k0_pay7 X W (ix2 i x)) Finset.univ) := by
      unfold k0_pay13; pointwise [k0_pay11, k0_pay10, k0_pay8]
    have hne : lane i2 ≠ lane i1 := fun e => h2.1 ((lane_inj _ _).1 e)
    rw [this]
    simp only [MoeRef.ofBits_bot, rest_apply X W i L hL hb i1 h1]
    simp only [pay7_apply X W i L hL]
    rw [fold_max _ _ (top_rest L i1 i2 h2 hb), fold_max _ _ (top_lanes L i1 h1 hb), lanes_lane]
    unfold rest
    rw [if_neg hne, lanes_lane]
  have h14 : k0_pay14 X W (ix2 i 0) = Ideal.div 1 (1 + k0_pay13 X W (ix2 i 0)) := by
    unfold k0_pay14; pointwise
  have h15 : k0_pay15 X W (ix2 i 0) = Ideal.div (k0_pay13 X W (ix2 i 0)) (1 + k0_pay13 X W (ix2 i 0)) := by
    unfold k0_pay15; pointwise
  rw [h, h14, h15, h13, pay9_apply X W i L hL hb i1 h1, pay12_apply X W i L hL hb i1 i2 h1 h2, MoeRef.weight]
  simp only [sel, lane_inj]

end Cert.MoeGate
end
-- ==== Proof.MoeBlocks.lean ====
module

public import proofs.«01_k».proof.Proof.MoeGate
public import Idealize.ShloMosaic.Lib.KernelVsHost

/-! What the three calls read and leave, index by index, from the arguments. -/

@[expose] public section
set_option maxRecDepth 16384
noncomputable section
namespace Cert.MoeBlocks
open Idealize.ShloMosaic Idealize.ShloMosaic.TcCoe Idealize.ShloMosaic.Tactic Idealize.ShloMosaic.Pointwise Cert.KernelIdeal Cert.KernelIdeal.Gen
open Cert.Swiglu Cert.Moe Cert.MoeGate
open Idealize.SL Idealize.SL.Sem
open Idealize.ShloMosaic.Pipeline (Dat Cfg Window)
variable (m : (ℓ : Loc nD τ sig) → Buf (Elt Ideal) ℓ) (c : Dev nD)

/-- Row `r` of block `b` of the 16384 rows. -/
def row (b : Fin 16) (r : Fin 1024) : Fin 16384 := ⟨1024 * b.val + r.val, by omega⟩

/-- Half `h` of the inner width 2816. -/
def inner (h : Fin 2) (k : Fin 1408) : Fin 2816 := ⟨1408 * h.val + k.val, by omega⟩

/-! ## The arrays before the calls -/

/-- The padded router has the router in its first eight columns. -/
theorem router_read (x : Fin 1024) (e : Fin 8) : V2 m c main_v5 (ix2 x (lane e)) = m ((c : Thread nD τ).loc main_arg1) (ix2 x e) := by
  unfold_abbrev_sides; after_results
  show pad S1024x128 ![0, 0] ![0, 120] ![0, 0] (m ((c : Thread nD τ).loc main_arg1) : FVec Ideal S1024x8 .f32) (sitofp (F := Ideal) .f32 (constantI S_ 32 0#32)) pads_S1024x8_S1024x128_000_01200 h_S_ (ix2 x (lane e)) = _
  refine pad_apply_of_inside _ _ _ _ _ _ _ _ (ix2 x e) fun d => ?_
  match d with
  | ⟨0, _⟩ => show x.val = 0 + x.val * (0 + 1); omega
  | ⟨1, _⟩ => show e.val = 0 + e.val * (0 + 1); omega

/-- The router call reads the tokens. -/
theorem tokens_read : V2 m c main_arg0 = m ((c : Thread nD τ).loc main_arg0) := by
  unfold_abbrev_sides; after_results

/-- The expert call's tokens are the tokens. -/
theorem rows_read (outs : Outs (F := Ideal)) (i : Fin 16384) (j : Fin 1024) : V4 m outs c main_v13 (ix2 i j) = m ((c : Thread nD τ).loc main_arg0) (ix2 i j) := by
  unfold_abbrev_sides; after_results; rfl

/-- The transposed ranks. -/
theorem posT_read (outs : Outs (F := Ideal)) (e : Fin 8) (i : Fin 16384) : V4 m outs c main_v8 (ix2 e i) = V3 m outs c main_v6_1 (ix2 i (lane e)) := by
  unfold_abbrev_sides; after_results
  have h := e.isLt
  unfold lane
  pointwise
  rfl

/-- Weight 0. -/
theorem w0_read (outs : Outs (F := Ideal)) (e : Fin 8) (i : Fin 1024) (k : Fin 2816) : V4 m outs c main_v0 (ix3 e i k) = m ((c : Thread nD τ).loc main_arg2) (ix3 e i k) := by
  unfold_abbrev_sides; after_results; rfl

/-- Weight 1. -/
theorem w1_read (outs : Outs (F := Ideal)) (e : Fin 8) (i : Fin 1024) (k : Fin 2816) : V4 m outs c main_v1 (ix3 e i k) = m ((c : Thread nD τ).loc main_arg3) (ix3 e i k) := by
  unfold_abbrev_sides; after_results; rfl

/-- Weight 2. -/
theorem w2_read (outs : Outs (F := Ideal)) (e : Fin 8) (i : Fin 2816) (k : Fin 1024) : V4 m outs c main_v2 (ix3 e i k) = m ((c : Thread nD τ).loc main_arg4) (ix3 e i k) := by
  unfold_abbrev_sides; after_results; rfl

/-- The scale. -/
theorem scale_read (outs : Outs (F := Ideal)) (j : Fin 1024) : V4 m outs c main_v3 (ix2 0 j) = m ((c : Thread nD τ).loc main_arg5) (ix1 j) := by
  rw [V4_of m outs c main_v3 (by decide), V3_of m outs c main_v3 (by decide)]
  unfold_abbrev_sides; after_results; pointwise

/-- The shift. -/
theorem shift_read (outs : Outs (F := Ideal)) (j : Fin 1024) : V4 m outs c main_v4 (ix2 0 j) = m ((c : Thread nD τ).loc main_arg6) (ix1 j) := by
  rw [V4_of m outs c main_v4 (by decide), V3_of m outs c main_v4 (by decide)]
  unfold_abbrev_sides; after_results; pointwise

/-! ## The router call's blocks -/

/-- Block `b` of the router call. -/
def p0 (b : Fin 16) : Fin cfg0.N := ⟨b.val, b.isLt.trans_eq N_0.symm⟩

/-- The tokens' block. -/
theorem blk0_read (b : Fin 16) (r : Fin 1024) (j : Fin 1024) : routeBlk (V2 m) c 0 (p0 b) (ix2 r j) = m ((c : Thread nD τ).loc main_arg0) (ix2 (row b r) j) := by
  obtain ⟨⟨e0, e1⟩, _⟩ := idx0 (p0 b)
  have hv : (p0 b).val = b.val := rfl
  show V2 m c main_arg0 (((cfg0.win 0).blk (p0 b)).view.emb (ix2 r j)) = _
  rw [tokens_read]
  congr 1
  funext a; apply Fin.ext
  match a with
  | ⟨0, _⟩ => show win0_0.index (p0 b) (0 : Fin 2) * 1024 + 1 * r.val = 1024 * b.val + r.val; omega
  | ⟨1, _⟩ => show win0_0.index (p0 b) (1 : Fin 2) * 1024 + 1 * j.val = j.val; omega

/-- The router. -/
theorem blk1_read (b : Fin 16) (x : Fin 1024) (e : Fin 8) : routeBlk (V2 m) c 1 (p0 b) (ix2 x (lane e)) = m ((c : Thread nD τ).loc main_arg1) (ix2 x e) := by
  obtain ⟨_, ⟨e0, e1⟩, _⟩ := idx0 (p0 b)
  rw [← router_read m c]
  show V2 m c main_v5 (((cfg0.win 1).blk (p0 b)).view.emb (ix2 x (lane e))) = _
  congr 1
  funext a; apply Fin.ext
  match a with
  | ⟨0, _⟩ => show win0_1.index (p0 b) (0 : Fin 2) * 1024 + 1 * x.val = x.val; omega
  | ⟨1, _⟩ => show win0_1.index (p0 b) (1 : Fin 2) * 128 + 1 * (lane e).val = (lane e).val; omega

/-- Different points leave different blocks. -/
theorem inj0_2 : ∀ t t' : Fin grid0.N, win0_2.index t = win0_2.index t' → t = t' := by decide +kernel

/-- What the router call leaves in main_v6_0. -/
theorem left_main_v6_0 (b : Fin 16) (r : Fin 1024) (j : Fin 128) :
    V3 m (outs3 m) c main_v6_0 (ix2 (row b r) j) = gateOf (routeBlk (V2 m) c 0 (p0 b)) (routeBlk (V2 m) c 1 (p0 b)) (ix2 r j) := by
  have e : V3 m (outs3 m) c main_v6_0 = (routeDat (V2 m) c).arrAt 2 cfg0.N :=
    (congrFun (after_route m c) (Proc.devRef .tc main_v6_0)).symm.trans (Pipeline.afterRegion_arr (routeDat (V2 m) c) (V2 m c) winFacts0.arr_inj 2)
  have h := (routeDat (V2 m) c).arrAt_emb_eq_flushed 2 (fun t t' _ _ hne => (cfg0.win 2).disjoint_blk fun h => hne (inj0_2 t t' h)) (p0 b) (flush0_2 (p0 b)) (ix2 r j)
  have he : ((cfg0.win 2).blk (p0 b)).view.emb (ix2 r j) = ix2 (row b r) j := by
    obtain ⟨_, _, ⟨e2, e2'⟩, ⟨e3, e3'⟩, _⟩ := idx0 (p0 b)
    have hv : (p0 b).val = b.val := rfl
    funext a; apply Fin.ext
    match a with
    | ⟨0, _⟩ => show win0_2.index (p0 b) (0 : Fin 2) * 1024 + 1 * r.val = 1024 * b.val + r.val; omega
    | ⟨1, _⟩ => show win0_2.index (p0 b) (1 : Fin 2) * 128 + 1 * j.val = j.val; omega
  rw [e, ← he, h]
  show (routeDat (V2 m) c).after 2 (p0 b) (ix2 r j) = _
  rw [route_after2]

/-- Different points leave different blocks. -/
theorem inj0_3 : ∀ t t' : Fin grid0.N, win0_3.index t = win0_3.index t' → t = t' := by decide +kernel

/-- What the router call leaves in main_v6_1. -/
theorem left_main_v6_1 (b : Fin 16) (r : Fin 1024) (j : Fin 128) :
    V3 m (outs3 m) c main_v6_1 (ix2 (row b r) j) = posOf (routeBlk (V2 m) c 0 (p0 b)) (routeBlk (V2 m) c 1 (p0 b)) (ix2 r j) := by
  have e : V3 m (outs3 m) c main_v6_1 = (routeDat (V2 m) c).arrAt 3 cfg0.N :=
    (congrFun (after_route m c) (Proc.devRef .tc main_v6_1)).symm.trans (Pipeline.afterRegion_arr (routeDat (V2 m) c) (V2 m c) winFacts0.arr_inj 3)
  have h := (routeDat (V2 m) c).arrAt_emb_eq_flushed 3 (fun t t' _ _ hne => (cfg0.win 3).disjoint_blk fun h => hne (inj0_3 t t' h)) (p0 b) (flush0_3 (p0 b)) (ix2 r j)
  have he : ((cfg0.win 3).blk (p0 b)).view.emb (ix2 r j) = ix2 (row b r) j := by
    obtain ⟨_, _, ⟨e2, e2'⟩, ⟨e3, e3'⟩, _⟩ := idx0 (p0 b)
    have hv : (p0 b).val = b.val := rfl
    funext a; apply Fin.ext
    match a with
    | ⟨0, _⟩ => show win0_3.index (p0 b) (0 : Fin 2) * 1024 + 1 * r.val = 1024 * b.val + r.val; omega
    | ⟨1, _⟩ => show win0_3.index (p0 b) (1 : Fin 2) * 128 + 1 * j.val = j.val; omega
  rw [e, ← he, h]
  show (routeDat (V2 m) c).after 3 (p0 b) (ix2 r j) = _
  rw [route_after3]

/-! ## The expert call's blocks -/

/-- Where the expert call's blocks lie. -/
theorem idx1 : ∀ t : Fin grid1.N, (cc1_transform_0 (grid1.coords t) 0 = t.val / 16 ∧ cc1_transform_0 (grid1.coords t) 1 = 0)
    ∧ (cc1_transform_1 (grid1.coords t) 0 = 0 ∧ cc1_transform_1 (grid1.coords t) 1 = t.val / 16)
    ∧ (cc1_transform_2 (grid1.coords t) 0 = t.val / 16 ∧ cc1_transform_2 (grid1.coords t) 1 = 0)
    ∧ (cc1_transform_3 (grid1.coords t) 0 = t.val / 16 ∧ cc1_transform_3 (grid1.coords t) 1 = 0)
    ∧ (cc1_transform_4 (grid1.coords t) 0 = t.val / 2 % 8 ∧ cc1_transform_4 (grid1.coords t) 1 = 0 ∧ cc1_transform_4 (grid1.coords t) 2 = t.val % 2)
    ∧ (cc1_transform_5 (grid1.coords t) 0 = t.val / 2 % 8 ∧ cc1_transform_5 (grid1.coords t) 1 = 0 ∧ cc1_transform_5 (grid1.coords t) 2 = t.val % 2)
    ∧ (cc1_transform_6 (grid1.coords t) 0 = t.val / 2 % 8 ∧ cc1_transform_6 (grid1.coords t) 1 = t.val % 2 ∧ cc1_transform_6 (grid1.coords t) 2 = 0)
    ∧ (cc1_transform_7 (grid1.coords t) 0 = t.val / 16 ∧ cc1_transform_7 (grid1.coords t) 1 = 0) := by
  decide +kernel

variable (a : (pcfg1 (F := Ideal)).Adm)

/-- The tokens of a point. -/
theorem bx0_read (b : Fin 16) (e : Fin 8) (h : Fin 2) (r : Fin 1024) (j : Fin 1024) (t : Fin (cfg1 a).N) (ht : t.val = 16 * b.val + 2 * e.val + h.val) :
    bx0 a (V4 m (outs3 m)) c t (ix2 r j) = m ((c : Thread nD τ).loc main_arg0) (ix2 (row b r) j) := by
  have hi := idx1 t
  rw [← rows_read m c (outs3 m)]
  show V4 m (outs3 m) c main_v13 ((((cfg1 a).win 0).blk t).view.emb (ix2 r j)) = _
  congr 1
  funext d; apply Fin.ext
  match d with
  | ⟨0, _⟩ => show cc1_transform_0 (grid1.coords t) 0 * 1024 + 1 * r.val = 1024 * b.val + r.val; omega
  | ⟨1, _⟩ => show cc1_transform_0 (grid1.coords t) 1 * 1024 + 1 * j.val = j.val; omega

/-- The transposed ranks of a point. -/
theorem bx1_read (b : Fin 16) (e : Fin 8) (h : Fin 2) (s : Fin 8) (r : Fin 1024) (t : Fin (cfg1 a).N) (ht : t.val = 16 * b.val + 2 * e.val + h.val) :
    bx1 a (V4 m (outs3 m)) c t (ix2 s r) = V3 m (outs3 m) c main_v6_1 (ix2 (row b r) (lane s)) := by
  have hi := idx1 t
  rw [← posT_read m c (outs3 m)]
  show V4 m (outs3 m) c main_v8 ((((cfg1 a).win 1).blk t).view.emb (ix2 s r)) = _
  congr 1
  funext d; apply Fin.ext
  match d with
  | ⟨0, _⟩ => show cc1_transform_1 (grid1.coords t) 0 * 8 + 1 * s.val = s.val; omega
  | ⟨1, _⟩ => show cc1_transform_1 (grid1.coords t) 1 * 1024 + 1 * r.val = 1024 * b.val + r.val; omega

/-- The ranks of a point. -/
theorem bx2_read (b : Fin 16) (e : Fin 8) (h : Fin 2) (r : Fin 1024) (x : Fin 128) (t : Fin (cfg1 a).N) (ht : t.val = 16 * b.val + 2 * e.val + h.val) :
    bx2 a (V4 m (outs3 m)) c t (ix2 r x) = V3 m (outs3 m) c main_v6_1 (ix2 (row b r) x) := by
  have hi := idx1 t
  rw [← V4_of m (outs3 m) c main_v6_1 (by decide)]
  show V4 m (outs3 m) c main_v6_1 ((((cfg1 a).win 2).blk t).view.emb (ix2 r x)) = _
  congr 1
  funext d; apply Fin.ext
  match d with
  | ⟨0, _⟩ => show cc1_transform_2 (grid1.coords t) 0 * 1024 + 1 * r.val = 1024 * b.val + r.val; omega
  | ⟨1, _⟩ => show cc1_transform_2 (grid1.coords t) 1 * 128 + 1 * x.val = x.val; omega

/-- The weights of a point. -/
theorem bx3_read (b : Fin 16) (e : Fin 8) (h : Fin 2) (r : Fin 1024) (x : Fin 128) (t : Fin (cfg1 a).N) (ht : t.val = 16 * b.val + 2 * e.val + h.val) :
    bx3 a (V4 m (outs3 m)) c t (ix2 r x) = V3 m (outs3 m) c main_v6_0 (ix2 (row b r) x) := by
  have hi := idx1 t
  rw [← V4_of m (outs3 m) c main_v6_0 (by decide)]
  show V4 m (outs3 m) c main_v6_0 ((((cfg1 a).win 3).blk t).view.emb (ix2 r x)) = _
  congr 1
  funext d; apply Fin.ext
  match d with
  | ⟨0, _⟩ => show cc1_transform_3 (grid1.coords t) 0 * 1024 + 1 * r.val = 1024 * b.val + r.val; omega
  | ⟨1, _⟩ => show cc1_transform_3 (grid1.coords t) 1 * 128 + 1 * x.val = x.val; omega

/-- The first weight of a point. -/
theorem bx4_read (b : Fin 16) (e : Fin 8) (h : Fin 2) (i : Fin 1024) (k : Fin 1408) (t : Fin (cfg1 a).N) (ht : t.val = 16 * b.val + 2 * e.val + h.val) :
    bx4 a (V4 m (outs3 m)) c t (ix3 0 i k) = m ((c : Thread nD τ).loc main_arg2) (ix3 e i (inner h k)) := by
  have hi := idx1 t
  rw [← w0_read m c (outs3 m)]
  show V4 m (outs3 m) c main_v0 ((((cfg1 a).win 4).blk t).view.emb (ix3 0 i k)) = _
  congr 1
  funext d; apply Fin.ext
  match d with
  | ⟨0, _⟩ => show cc1_transform_4 (grid1.coords t) 0 * 1 + 1 * 0 = e.val; omega
  | ⟨1, _⟩ => show cc1_transform_4 (grid1.coords t) 1 * 1024 + 1 * i.val = i.val; omega
  | ⟨2, _⟩ => show cc1_transform_4 (grid1.coords t) 2 * 1408 + 1 * k.val = 1408 * h.val + k.val; omega

/-- The second weight of a point. -/
theorem bx5_read (b : Fin 16) (e : Fin 8) (h : Fin 2) (i : Fin 1024) (k : Fin 1408) (t : Fin (cfg1 a).N) (ht : t.val = 16 * b.val + 2 * e.val + h.val) :
    bx5 a (V4 m (outs3 m)) c t (ix3 0 i k) = m ((c : Thread nD τ).loc main_arg3) (ix3 e i (inner h k)) := by
  have hi := idx1 t
  rw [← w1_read m c (outs3 m)]
  show V4 m (outs3 m) c main_v1 ((((cfg1 a).win 5).blk t).view.emb (ix3 0 i k)) = _
  congr 1
  funext d; apply Fin.ext
  match d with
  | ⟨0, _⟩ => show cc1_transform_5 (grid1.coords t) 0 * 1 + 1 * 0 = e.val; omega
  | ⟨1, _⟩ => show cc1_transform_5 (grid1.coords t) 1 * 1024 + 1 * i.val = i.val; omega
  | ⟨2, _⟩ => show cc1_transform_5 (grid1.coords t) 2 * 1408 + 1 * k.val = 1408 * h.val + k.val; omega

/-- The third weight of a point. -/
theorem bx6_read (b : Fin 16) (e : Fin 8) (h : Fin 2) (k : Fin 1408) (j : Fin 1024) (t : Fin (cfg1 a).N) (ht : t.val = 16 * b.val + 2 * e.val + h.val) :
    bx6 a (V4 m (outs3 m)) c t (ix3 0 k j) = m ((c : Thread nD τ).loc main_arg4) (ix3 e (inner h k) j) := by
  have hi := idx1 t
  rw [← w2_read m c (outs3 m)]
  show V4 m (outs3 m) c main_v2 ((((cfg1 a).win 6).blk t).view.emb (ix3 0 k j)) = _
  congr 1
  funext d; apply Fin.ext
  match d with
  | ⟨0, _⟩ => show cc1_transform_6 (grid1.coords t) 0 * 1 + 1 * 0 = e.val; omega
  | ⟨1, _⟩ => show cc1_transform_6 (grid1.coords t) 1 * 1408 + 1 * k.val = 1408 * h.val + k.val; omega
  | ⟨2, _⟩ => show cc1_transform_6 (grid1.coords t) 2 * 1024 + 1 * j.val = j.val; omega

/-- Where that row lies. -/
theorem off2_facts : ∀ t : Fin grid1.N, k1_off2 (grid1.coords t) 0 = t.val / 2 % 8 ∧ k1_off2 (grid1.coords t) 1 = 0 := by
  decide +kernel

/-- The row of the transposed ranks that a pair reads. -/
theorem rank_read (b : Fin 16) (e : Fin 8) (r : Fin 1024) (q : ℕ) (hq : q = 8 * b.val + e.val) :
    rankRow (grid1.coords (pt (2 * q))) (bx1 a (V4 m (outs3 m)) c (pt (2 * q))) (c3 q) (ix2 0 r) = V3 m (outs3 m) c main_v6_1 (ix2 (row b r) (lane e)) := by
  have hp : (pt (2 * q)).val = 16 * b.val + 2 * e.val + (0 : Fin 2).val := by show 2 * q % 256 = _ + 0; omega
  rw [← bx1_read m c a b e 0 e r (pt (2 * q)) hp]
  have h := off2_facts (pt (2 * q))
  unfold rankRow
  show bx1 a (V4 m (outs3 m)) c (pt (2 * q)) _ = _
  congr 1
  funext d; apply Fin.ext
  match d with
  | ⟨0, _⟩ => show k1_off2 (grid1.coords (pt (2 * q))) 0 + 1 * 0 = e.val; omega
  | ⟨1, _⟩ => show k1_off2 (grid1.coords (pt (2 * q))) 1 + 1 * r.val = r.val; omega

/-- What the expert call leaves. -/
theorem moe_read (b : Fin 16) (r : Fin 1024) (j : Fin 1024) :
    V5 m (outs5 m) c main_v14 (ix2 (row b r) j) = outAfter (table m) (V4 m (outs3 m)) c (8 * b.val + 7) (ix2 r j) := by
  have hN : (cfg1 (F := Ideal) (table m)).N = 256 := N_1
  let t : Fin (cfg1 (F := Ideal) (table m)).N := ⟨16 * b.val + 15, by rw [hN]; omega⟩
  have htv : t.val = 16 * b.val + 15 := rfl
  have e : V5 m (outs5 m) c main_v14 = (moeDat (table m) (V4 m (outs3 m)) c).arrAt 7 (cfg1 (table m)).N :=
    (congrFun (after_moe m c) (Proc.devRef .tc main_v14)).symm.trans (Pipeline.afterRegion_arr (moeDat (table m) (V4 m (outs3 m)) c) (V4 m (outs3 m) c) winFacts1.arr_inj 7)
  have h := (moeDat (table m) (V4 m (outs3 m)) c).arrAt_emb_eq_flushed 7 (fun t t' hf hf' hne => ((cfg1 (table m)).win 7).disjoint_blk fun h => hne (by
      have h0 : cc1_transform_7 (grid1.coords t) 0 = cc1_transform_7 (grid1.coords t') 0 := congrFun h (0 : Fin 2)
      have g := (flush1_7 (table m) t).1 hf
      have g' := (flush1_7 (table m) t').1 hf'
      obtain ⟨_, _, _, _, _, _, _, e7, _⟩ := idx1 t
      obtain ⟨_, _, _, _, _, _, _, e7', _⟩ := idx1 t'
      exact Fin.ext (by omega))) t ((flush1_7 (table m) t).2 (by omega)) (ix2 r j)
  have he : (((cfg1 (table m)).win 7).blk t).view.emb (ix2 r j) = ix2 (row b r) j := by
    obtain ⟨_, _, _, _, _, _, _, e7, e7'⟩ := idx1 t
    funext d; apply Fin.ext
    match d with
    | ⟨0, _⟩ => show cc1_transform_7 (grid1.coords t) 0 * 1024 + 1 * r.val = 1024 * b.val + r.val; omega
    | ⟨1, _⟩ => show cc1_transform_7 (grid1.coords t) 1 * 1024 + 1 * j.val = j.val; omega
  rw [e, ← he, h]
  show (moeDat (table m) (V4 m (outs3 m)) c).after 7 t (ix2 r j) = _
  rw [moe_after7, outAt, if_neg (by omega), show t.val / 2 = 8 * b.val + 7 by omega]

/-! ## The last call -/

/-- Where the last call's blocks lie. -/
theorem idx2 : ∀ t : Fin grid2.N, (win2_0.index t (0 : Fin 2) = t.val ∧ win2_0.index t (1 : Fin 2) = 0) ∧ (win2_1.index t (0 : Fin 2) = t.val ∧ win2_1.index t (1 : Fin 2) = 0)
    ∧ (win2_2.index t (0 : Fin 2) = 0 ∧ win2_2.index t (1 : Fin 2) = 0) ∧ (win2_3.index t (0 : Fin 2) = 0 ∧ win2_3.index t (1 : Fin 2) = 0)
    ∧ (win2_4.index t (0 : Fin 2) = t.val ∧ win2_4.index t (1 : Fin 2) = 0) := by
  decide +kernel

/-- Different points leave different blocks. -/
theorem inj2_4 : ∀ t t' : Fin grid2.N, win2_4.index t = win2_4.index t' → t = t' := by decide +kernel

/-- Block `b` of the last call. -/
def p2 (b : Fin 16) : Fin cfg2.N := ⟨b.val, b.isLt.trans_eq N_2.symm⟩

/-- The last call's rows, from main_arg0. -/
theorem nb0_read (b : Fin 16) (r : Fin 1024) (j : Fin 1024) : normBlk (V5 m (outs5 m)) c 0 (p2 b) (ix2 r j) = m ((c : Thread nD τ).loc main_arg0) (ix2 (row b r) j) := by
  obtain ⟨⟨e0, e0'⟩, ⟨e1, e1'⟩, _⟩ := idx2 (p2 b)
  have hv : (p2 b).val = b.val := rfl
  show V5 m (outs5 m) c main_arg0 (((cfg2.win 0).blk (p2 b)).view.emb (ix2 r j)) = _
  rw [V5_of m (outs5 m) c main_arg0 (by decide), V4_of m (outs5 m) c main_arg0 (by decide), V3_of m (outs5 m) c main_arg0 (by decide), tokens_read]
  congr 1
  funext a; apply Fin.ext
  match a with
  | ⟨0, _⟩ => show win2_0.index (p2 b) (0 : Fin 2) * 1024 + 1 * r.val = 1024 * b.val + r.val; omega
  | ⟨1, _⟩ => show win2_0.index (p2 b) (1 : Fin 2) * 1024 + 1 * j.val = j.val; omega

/-- The last call's rows, from main_v14. -/
theorem nb1_read (b : Fin 16) (r : Fin 1024) (j : Fin 1024) : normBlk (V5 m (outs5 m)) c 1 (p2 b) (ix2 r j) = V5 m (outs5 m) c main_v14 (ix2 (row b r) j) := by
  obtain ⟨⟨e0, e0'⟩, ⟨e1, e1'⟩, _⟩ := idx2 (p2 b)
  have hv : (p2 b).val = b.val := rfl
  show V5 m (outs5 m) c main_v14 (((cfg2.win 1).blk (p2 b)).view.emb (ix2 r j)) = _
  congr 1
  funext a; apply Fin.ext
  match a with
  | ⟨0, _⟩ => show win2_1.index (p2 b) (0 : Fin 2) * 1024 + 1 * r.val = 1024 * b.val + r.val; omega
  | ⟨1, _⟩ => show win2_1.index (p2 b) (1 : Fin 2) * 1024 + 1 * j.val = j.val; omega

/-- The last call's scale. -/
theorem nb2_read (b : Fin 16) (j : Fin 1024) : normBlk (V5 m (outs5 m)) c 2 (p2 b) (ix2 0 j) = m ((c : Thread nD τ).loc main_arg5) (ix1 j) := by
  obtain ⟨_, _, ⟨e2, e2'⟩, ⟨e3, e3'⟩, _⟩ := idx2 (p2 b)
  rw [← scale_read m c (outs5 m), ← V5_of m (outs5 m) c main_v3 (by decide)]
  show V5 m (outs5 m) c main_v3 (((cfg2.win 2).blk (p2 b)).view.emb (ix2 0 j)) = _
  congr 1
  funext a; apply Fin.ext
  match a with
  | ⟨0, _⟩ => show win2_2.index (p2 b) (0 : Fin 2) * 1 + 1 * 0 = 0; omega
  | ⟨1, _⟩ => show win2_2.index (p2 b) (1 : Fin 2) * 1024 + 1 * j.val = j.val; omega

/-- The last call's shift. -/
theorem nb3_read (b : Fin 16) (j : Fin 1024) : normBlk (V5 m (outs5 m)) c 3 (p2 b) (ix2 0 j) = m ((c : Thread nD τ).loc main_arg6) (ix1 j) := by
  obtain ⟨_, _, ⟨e2, e2'⟩, ⟨e3, e3'⟩, _⟩ := idx2 (p2 b)
  rw [← shift_read m c (outs5 m), ← V5_of m (outs5 m) c main_v4 (by decide)]
  show V5 m (outs5 m) c main_v4 (((cfg2.win 3).blk (p2 b)).view.emb (ix2 0 j)) = _
  congr 1
  funext a; apply Fin.ext
  match a with
  | ⟨0, _⟩ => show win2_3.index (p2 b) (0 : Fin 2) * 1 + 1 * 0 = 0; omega
  | ⟨1, _⟩ => show win2_3.index (p2 b) (1 : Fin 2) * 1024 + 1 * j.val = j.val; omega

/-- The last call on a row: the residual sum, normalized. -/
theorem norm_apply (x f : Vec Ideal S1024x1024 .f32) (g b : Vec Ideal S1x1024 .f32) (r j : Fin 1024) :
    normOf x f g b (ix2 r j) = lnorm (fun k => resid (x (ix2 r k)) (f (ix2 r k))) (g (ix2 0 j)) (b (ix2 0 j)) j := by
  unfold normOf k2_pay1
  pointwise [lnorm, resid]

/-- What the last call leaves. -/
theorem norm_read (b : Fin 16) (r : Fin 1024) (j : Fin 1024) :
    V6 m (outs m) c main_v15 (ix2 (row b r) j)
      = lnorm (fun k => resid (m ((c : Thread nD τ).loc main_arg0) (ix2 (row b r) k)) (outAfter (table m) (V4 m (outs3 m)) c (8 * b.val + 7) (ix2 r k)))
          (m ((c : Thread nD τ).loc main_arg5) (ix1 j)) (m ((c : Thread nD τ).loc main_arg6) (ix1 j)) j := by
  have e : V6 m (outs m) c main_v15 = (normDat (V5 m (outs5 m)) c).arrAt 4 cfg2.N :=
    (congrFun (after_norm m c) (Proc.devRef .tc main_v15)).symm.trans (Pipeline.afterRegion_arr (normDat (V5 m (outs5 m)) c) (V5 m (outs5 m) c) winFacts2.arr_inj 4)
  have h := (normDat (V5 m (outs5 m)) c).arrAt_emb_eq_flushed 4 (fun t t' _ _ hne => (cfg2.win 4).disjoint_blk fun h => hne (inj2_4 t t' h)) (p2 b) (flush2_4 (p2 b)) (ix2 r j)
  have he : ((cfg2.win 4).blk (p2 b)).view.emb (ix2 r j) = ix2 (row b r) j := by
    obtain ⟨_, _, _, _, e4, e4'⟩ := idx2 (p2 b)
    have hv : (p2 b).val = b.val := rfl
    funext a; apply Fin.ext
    match a with
    | ⟨0, _⟩ => show win2_4.index (p2 b) (0 : Fin 2) * 1024 + 1 * r.val = 1024 * b.val + r.val; omega
    | ⟨1, _⟩ => show win2_4.index (p2 b) (1 : Fin 2) * 1024 + 1 * j.val = j.val; omega
  rw [e, ← he, h]
  show (normDat (V5 m (outs5 m)) c).after 4 (p2 b) (ix2 r j) = _
  rw [norm_after4, norm_apply]
  simp only [nb0_read, nb1_read, nb2_read, nb3_read]
  refine congrArg (fun f => lnorm f _ _ _) (funext fun k => congrArg (resid _) ?_)
  exact moe_read m c b r k

end Cert.MoeBlocks
end
-- ==== Proof.MoeRank.lean ====
module

public import proofs.«01_k».proof.Proof.MoeBlocks
public import proofs.«01_k».proof.Defs
public import Idealize.ShloMosaic.Lib.ReduceAll
public import proofs.«01_k».proof.Proof.Gen.Pre_finite

/-! Ranks of the chosen tokens, the sum over the experts, and the finiteness that the ranks need. -/

@[expose] public section
set_option maxRecDepth 16384
noncomputable section
namespace Cert.MoeRank
open Idealize.ShloMosaic Idealize.ShloMosaic.TcCoe Idealize.ShloMosaic.Tactic Idealize.ShloMosaic.Pointwise Cert.KernelIdeal Cert.KernelIdeal.Gen
open Cert.Swiglu Cert.Moe Cert.MoeGate Cert.MoeBlocks
open Idealize.SL Idealize.SL.Sem

/-! ## Finite values -/

/-- A real number. -/
def IsReal (x : EReal) : Prop := ∃ r : ℝ, x = (r : EReal)

/-- A value of finite magnitude is a real number. -/
theorem isReal_of_abs (x : EReal) (h : FloatOps.cmpf (F := Ideal) (φ := .f32) .olt (FloatOps.absf (F := Ideal) (φ := .f32) x) (Ideal.ofBits .f32 0x7F800000#32) = 1#1) : IsReal x := by
  rw [ofBits_top] at h
  have h' : max x (-x) < ⊤ := by
    by_contra hc
    have : BitVec.ofBool (decide (max x (-x) < (⊤ : EReal))) = 1#1 := h
    rw [decide_eq_false hc] at this
    exact absurd this (by decide)
  induction x using EReal.rec with
  | bot => exact absurd h' (by simp)
  | coe r => exact ⟨r, rfl⟩
  | top => exact absurd h' (by simp)

/-- A sum of products of real numbers is a real number. -/
theorem isReal_sum {n : ℕ} (f g : Fin n → EReal) (hf : ∀ k, IsReal (f k)) (hg : ∀ k, IsReal (g k)) : IsReal (∑ k, f k * g k) := by
  have h : ∀ s : Finset (Fin n), IsReal (∑ k ∈ s, f k * g k) := by
    intro s
    induction s using Finset.induction_on with
    | empty => exact ⟨0, by simp⟩
    | insert x s hx ih =>
      obtain ⟨a, ha⟩ := ih
      obtain ⟨b, hb⟩ := hf x
      obtain ⟨d, hd⟩ := hg x
      exact ⟨b * d + a, by rw [Finset.sum_insert hx, ha, hb, hd]; push_cast; rfl⟩
  exact h _

variable (m : (ℓ : Loc nD τ sig) → Buf (Elt Ideal) ℓ)

/-- Under the precondition the tokens and the router are real numbers. -/
theorem reals (h : Cert.Pre_KernelIdeal_finite m) (c : Dev nD) : (∀ i, IsReal (m ((c : Thread nD τ).loc main_arg0) i)) ∧ ∀ i, IsReal (m ((c : Thread nD τ).loc main_arg1) i) := by
  have hs := congrFun (h c) ix0
  unfold Cert.Pre_finite.fn at hs
  obtain ⟨h0, h1⟩ := IntOp.andi_eq_one.1 hs
  exact ⟨fun i => isReal_of_abs _ (Host.reduce_andi_all _ _ _ _ _ h0 i), fun i => isReal_of_abs _ (Host.reduce_andi_all _ _ _ _ _ h1 i)⟩

/-! ## The ranks -/

/-- The tokens of block `b`. -/
def blkX (b : Fin 16) : Vec Ideal S1024x1024 .f32 := routeBlk (V2 m) 0 0 (p0 b)

/-- The router, as block `b` reads it. -/
def blkW (b : Fin 16) : Vec Ideal S1024x128 .f32 := routeBlk (V2 m) 0 1 (p0 b)

variable (X : Vec Ideal S1024x1024 .f32) (W : Vec Ideal S1024x128 .f32)

/-- Token `r` of a block chose lane `e`. -/
def ch (e : Fin 128) (r : Fin 1024) : Prop := k0_pay2 (k0_pay9 X W) (k0_pay12 X W) (ix2 r e) = 1#1

instance (e : Fin 128) : DecidablePred (ch X W e) := fun _ => by unfold ch; infer_instance

/-- How many earlier tokens of the block chose the lane. -/
def rank (e : Fin 128) (r : Fin 1024) : ℕ := (Finset.univ.filter fun x : Fin 1024 => x < r ∧ ch X W e x).card

/-- A rank counts tokens of a block. -/
theorem rank_le (e : Fin 128) (r : Fin 1024) : rank X W e r ≤ 1024 := (Finset.card_filter_le _ _).trans (by simp)

/-- An earlier chosen token has a smaller rank. -/
theorem rank_lt (e : Fin 128) (r r' : Fin 1024) (h : r < r') (hr : ch X W e r) : rank X W e r < rank X W e r' := by
  refine Finset.card_lt_card ⟨fun x hx => ?_, fun hsub => ?_⟩
  · obtain ⟨_, h1, h2⟩ := Finset.mem_filter.1 hx
    exact Finset.mem_filter.2 ⟨Finset.mem_univ _, h1.trans h, h2⟩
  · exact absurd (Finset.mem_filter.1 (hsub (Finset.mem_filter.2 ⟨Finset.mem_univ r, h, hr⟩))).2.1 (lt_irrefl r)

/-- Chosen tokens of equal rank are the same. -/
theorem rank_inj (e : Fin 128) (r r' : Fin 1024) (hr : ch X W e r) (hr' : ch X W e r') (h : rank X W e r' = rank X W e r) : r' = r := by
  rcases lt_trichotomy r r' with hl | hl | hl
  · exact absurd (rank_lt X W e r r' hl hr) (by omega)
  · exact hl.symm
  · exact absurd (rank_lt X W e r' r hl hr') (by omega)

/-- A chosen token's rank is below the count. -/
theorem rank_count (e : Fin 128) (r : Fin 1024) (hr : ch X W e r) : rank X W e r < (Finset.univ.filter fun x : Fin 1024 => ch X W e x).card := by
  refine Finset.card_lt_card ⟨fun x hx => ?_, fun hsub => ?_⟩
  · exact Finset.mem_filter.2 ⟨Finset.mem_univ _, (Finset.mem_filter.1 hx).2.2⟩
  · exact absurd (Finset.mem_filter.1 (hsub (Finset.mem_filter.2 ⟨Finset.mem_univ r, hr⟩))).2.1 (lt_irrefl r)

/-- A sum of ones counts. -/
theorem sum_ones (p q : Fin 1024 → Prop) [DecidablePred p] [DecidablePred q] :
    ∑ x, (if p x then (if q x then (1 : EReal) else 0) else 0) = (((Finset.univ.filter fun x : Fin 1024 => p x ∧ q x).card : ℝ) : EReal) := by
  have h : ∀ s : Finset (Fin 1024), ∑ x ∈ s, (if p x then (if q x then (1 : EReal) else 0) else 0) = (((s.filter fun x : Fin 1024 => p x ∧ q x).card : ℝ) : EReal) := by
    intro s
    induction s using Finset.induction_on with
    | empty => simp
    | insert x s hx ih =>
      rw [Finset.sum_insert hx, ih, Finset.filter_insert]
      by_cases hc : p x ∧ q x
      · rw [if_pos hc, if_pos hc.1, if_pos hc.2, Finset.card_insert_of_notMem (fun h => hx (Finset.mem_filter.mp h).1)]
        push_cast
        rw [add_comm]
      · rw [if_neg hc]
        by_cases hp : p x
        · rw [if_pos hp, if_neg fun hq => hc ⟨hp, hq⟩, zero_add]
        · rw [if_neg hp, zero_add]
  exact h _

/-- The ranks the router call leaves: the number of earlier choices, minus one where the token did not choose the lane. -/
theorem pos_apply (e : Fin 128) (r : Fin 1024) : posOf X W (ix2 r e) = if ch X W e r then ((rank X W e r : ℝ) : EReal) else ((-1 : ℝ) : EReal) := by
  have h : posOf X W (ix2 r e) = Scalar.select (k0_pay2 (k0_pay9 X W) (k0_pay12 X W) (ix2 r e)) (∑ x : Fin 1024, Scalar.select (IntOp.cmpi .slt (BitVec.ofNat 32 x.val) (BitVec.ofNat 32 r.val)) (k0_pay3 (F := Ideal) (k0_pay9 X W) (k0_pay12 X W) (ix2 x e)) 0) (Ideal.ofBits .f32 0xBF800000#32) := by
    unfold posOf
    pointwise [k0_pay4]
  have hs : ∀ x : Fin 1024, Scalar.select (IntOp.cmpi .slt (BitVec.ofNat 32 x.val) (BitVec.ofNat 32 r.val)) (k0_pay3 (F := Ideal) (k0_pay9 X W) (k0_pay12 X W) (ix2 x e)) 0 = if x < r then (if ch X W e x then (1 : EReal) else 0) else 0 := by
    intro x
    have hc : k0_pay3 (F := Ideal) (k0_pay9 X W) (k0_pay12 X W) (ix2 x e) = if ch X W e x then (1 : EReal) else 0 := by
      unfold ch
      have : k0_pay3 (F := Ideal) (k0_pay9 X W) (k0_pay12 X W) (ix2 x e) = Scalar.select (k0_pay2 (k0_pay9 X W) (k0_pay12 X W) (ix2 x e)) 1 0 := by pointwise [k0_pay3]
      rw [this]; rfl
    have hl : IntOp.cmpi .slt (BitVec.ofNat 32 x.val) (BitVec.ofNat 32 r.val) = BitVec.ofBool (decide (x < r)) := by
      show BitVec.ofBool ((BitVec.ofNat 32 x.val).slt (BitVec.ofNat 32 r.val)) = _
      congr 1
      have ht : ∀ y : Fin 1024, (BitVec.ofNat 32 y.val).toInt = (y.val : ℤ) := fun y => by
        have hy := y.isLt
        rw [BitVec.toInt_eq_toNat_of_lt (by rw [BitVec.toNat_ofNat]; omega), BitVec.toNat_ofNat]
        omega
      rw [BitVec.slt_eq_decide, ht, ht]
      apply decide_eq_decide.2
      rw [Fin.lt_def]
      omega
    rw [hc, hl, sel]
  rw [h, ofBits_neg]
  simp only [hs]
  rw [sum_ones]
  rfl

/-- The table's word is the count. -/
theorem word_card (b : Fin 16) (e : Fin 8) (q : ℕ) (hq : q = 8 * b.val + e.val) :
    (wordAt (table m) q).toNat = (Finset.univ.filter fun r : Fin 1024 => ch (blkX m b) (blkW m b) (lane e) r).card := by
  rw [word_count m (p0 b) e q (by show q % 128 = 8 * b.val + e.val; omega), ideal_count]
  show (Ideal.fptosi 32 _).toNat = _
  have hc : (Finset.univ.filter fun r : Fin 1024 => ch (blkX m b) (blkW m b) (lane e) r).card ≤ 1024 := (Finset.card_filter_le _ _).trans (by simp)
  refine (congrArg BitVec.toNat (fptosi_nat _ ?_)).trans ?_
  · exact lt_of_le_of_lt hc (by norm_num)
  · rw [BitVec.toNat_ofNat]
    exact Nat.mod_eq_of_lt (lt_of_le_of_lt hc (by norm_num))

/-! ## One expert's share -/

/-- A sum over the inner width, half by half. -/
theorem sum_inner (f : Fin 2816 → EReal) : ∑ k, f k = (∑ k : Fin 1408, f (inner 0 k)) + ∑ k : Fin 1408, f (inner 1 k) := by
  rw [sum_cut f 1408 1408 (by norm_num)]
  refine congrArg₂ (· + ·) (Finset.sum_congr rfl fun k _ => congrArg f (Fin.ext ?_)) (Finset.sum_congr rfl fun k _ => congrArg f (Fin.ext ?_))
  · show k.val = 1408 * 0 + k.val; omega
  · show 1408 + k.val = 1408 * 1 + k.val; omega

/-- Equal rows and weights have equal products. -/
theorem unit_congr {x x' a a' b b' : Fin 1024 → EReal} {d d' : EReal} (hx : ∀ l, x l = x' l) (ha : ∀ l, a l = a' l) (hb : ∀ l, b l = b' l) (hd : d = d') : unit x a b d = unit x' a' b' d' := by
  rw [funext hx, funext ha, funext hb, hd]

/-- A token's logits. -/
def logits (x0 : FVec Ideal S16384x1024 .f32) (x1 : FVec Ideal S1024x8 .f32) (i : Fin 16384) (e : Fin 8) : EReal := ∑ x, x0 (ix2 i x) * x1 (ix2 x e)

/-- The router call's logits are the token's. -/
theorem logits_read (b : Fin 16) (r : Fin 1024) (e : Fin 8) :
    ∑ x, blkX m b (ix2 r x) * blkW m b (ix2 x (lane e))
      = logits (m (((0 : Dev nD) : Thread nD τ).loc main_arg0)) (m (((0 : Dev nD) : Thread nD τ).loc main_arg1)) (row b r) e := by
  unfold logits
  exact Finset.sum_congr rfl fun x _ => by unfold blkX blkW; rw [blk0_read, blk1_read]

/-- What pair `8 b + e` adds at a token: the expert's value there, times the token's weight. -/
theorem add_expert (hre : Cert.Pre_KernelIdeal_finite m) (b : Fin 16) (e : Fin 8) (q : ℕ) (hq : q = 8 * b.val + e.val) (o : Vec Ideal S1024x1024 .f32) (r j : Fin 1024)
    (i1 i2 : Fin 8) (h1 : Top (logits (m (((0 : Dev nD) : Thread nD τ).loc main_arg0)) (m (((0 : Dev nD) : Thread nD τ).loc main_arg1)) (row b r)) i1) (h2 : Next (logits (m (((0 : Dev nD) : Thread nD τ).loc main_arg0)) (m (((0 : Dev nD) : Thread nD τ).loc main_arg1)) (row b r)) i1 i2) :
    addAt (table m) (V4 m (outs3 m)) 0 q o (ix2 r j) = o (ix2 r j) + MoeRef.weight (logits (m (((0 : Dev nD) : Thread nD τ).loc main_arg0)) (m (((0 : Dev nD) : Thread nD τ).loc main_arg1)) (row b r)) i1 i2 e
      * MoeRef.swi (m (((0 : Dev nD) : Thread nD τ).loc main_arg2)) (m (((0 : Dev nD) : Thread nD τ).loc main_arg3)) (m (((0 : Dev nD) : Thread nD τ).loc main_arg4)) e j (fun l => m (((0 : Dev nD) : Thread nD τ).loc main_arg0) (ix2 (row b r) l)) := by
  have hb : ∀ e, logits (m (((0 : Dev nD) : Thread nD τ).loc main_arg0)) (m (((0 : Dev nD) : Thread nD τ).loc main_arg1)) (row b r) e ≠ ⊥ := fun e => by
    obtain ⟨y, hy⟩ := isReal_sum _ _ (fun k => (reals m hre 0).1 (ix2 (row b r) k)) (fun k => (reals m hre 0).2 (ix2 k e))
    unfold logits
    rw [hy]; exact EReal.coe_ne_bot y
  have t0 : (pt (2 * q)).val = 16 * b.val + 2 * e.val + (0 : Fin 2).val := by show 2 * q % 256 = _ + 0; omega
  have t1 : (pt (2 * q + 1)).val = 16 * b.val + 2 * e.val + (1 : Fin 2).val := by show (2 * q + 1) % 256 = _ + 1; omega
  have hpos : ∀ r', V3 m (outs3 m) 0 main_v6_1 (ix2 (row b r') (lane e)) = if ch (blkX m b) (blkW m b) (lane e) r' then ((rank (blkX m b) (blkW m b) (lane e) r' : ℝ) : EReal) else ((-1 : ℝ) : EReal) := fun r' =>
    (left_main_v6_1 m 0 b r' (lane e)).trans (pos_apply (blkX m b) (blkW m b) (lane e) r')
  have key := add_pair (table m) (V4 m (outs3 m)) 0 q (word_ideal m q) (lane e) (by show q % 8 = e.val; omega) o r j
    (ch (blkX m b) (blkW m b) (lane e)) (rank (blkX m b) (blkW m b) (lane e))
    ((bx2_read m 0 (table m) b e 1 r (lane e) _ t1).trans (hpos r))
    (fun r' => (rank_read m 0 (table m) b e r' q hq).trans (hpos r'))
    (fun r' hr hr' h => rank_inj _ _ _ r r' hr hr' h)
    (fun hr => (rank_count _ _ _ r hr).trans_eq (word_card m b e q hq).symm)
    (lt_of_le_of_lt (rank_le _ _ _ r) (by norm_num))
  have hg : bx3 (table m) (V4 m (outs3 m)) 0 (pt (2 * q + 1)) (ix2 r (lane e)) = MoeRef.weight (logits (m (((0 : Dev nD) : Thread nD τ).loc main_arg0)) (m (((0 : Dev nD) : Thread nD τ).loc main_arg1)) (row b r)) i1 i2 e :=
    (bx3_read m 0 (table m) b e 1 r (lane e) _ t1).trans ((left_main_v6_0 m 0 b r (lane e)).trans (gate_apply (blkX m b) (blkW m b) r _ (fun e => logits_read m b r e) hb i1 i2 h1 h2 e))
  refine key.trans (congrArg (o (ix2 r j) + ·) ?_)
  rw [hg]
  by_cases hc : ch (blkX m b) (blkW m b) (lane e) r
  · rw [if_pos hc]
    refine congrArg (MoeRef.weight _ i1 i2 e * ·) ?_
    unfold expert MoeRef.swi
    rw [sum_inner]
    have a0 : ∀ l, bx0 (table m) (V4 m (outs3 m)) 0 (pt (2 * q)) (ix2 r l) = m (((0 : Dev nD) : Thread nD τ).loc main_arg0) (ix2 (row b r) l) := fun l => bx0_read m 0 (table m) b e 0 r l _ t0
    refine congrArg₂ (· + ·) (Finset.sum_congr rfl fun k _ => ?_) (Finset.sum_congr rfl fun k _ => ?_)
    · exact unit_congr (fun l => a0 l) (fun l => bx4_read m 0 (table m) b e 0 l k _ t0) (fun l => bx5_read m 0 (table m) b e 0 l k _ t0) (bx6_read m 0 (table m) b e 0 k j _ t0)
    · exact unit_congr (fun l => a0 l) (fun l => bx4_read m 0 (table m) b e 1 l k _ t1) (fun l => bx5_read m 0 (table m) b e 1 l k _ t1) (bx6_read m 0 (table m) b e 1 k j _ t1)
  · rw [if_neg hc, mul_zero]
    have hn : ¬ (lane e = lane i1 ∨ lane e = lane i2) := fun h => hc (by
      unfold ch
      rw [pay2_apply (blkX m b) (blkW m b) r _ (fun e => logits_read m b r e) hb i1 i2 h1 h2, decide_eq_true h]; rfl)
    rw [lane_inj, lane_inj, not_or] at hn
    unfold MoeRef.weight
    rw [if_neg hn.1, if_neg hn.2, zero_add, zero_mul]

/-- The expert call's result at a token: the experts, each times the token's weight. -/
theorem out_apply (hre : Cert.Pre_KernelIdeal_finite m) (b : Fin 16) (r j : Fin 1024)
    (i1 i2 : Fin 8) (h1 : Top (logits (m (((0 : Dev nD) : Thread nD τ).loc main_arg0)) (m (((0 : Dev nD) : Thread nD τ).loc main_arg1)) (row b r)) i1) (h2 : Next (logits (m (((0 : Dev nD) : Thread nD τ).loc main_arg0)) (m (((0 : Dev nD) : Thread nD τ).loc main_arg1)) (row b r)) i1 i2) :
    outAfter (table m) (V4 m (outs3 m)) 0 (8 * b.val + 7) (ix2 r j) = MoeRef.mix (fun e => MoeRef.weight (logits (m (((0 : Dev nD) : Thread nD τ).loc main_arg0)) (m (((0 : Dev nD) : Thread nD τ).loc main_arg1)) (row b r)) i1 i2 e)
      (fun e => MoeRef.swi (m (((0 : Dev nD) : Thread nD τ).loc main_arg2)) (m (((0 : Dev nD) : Thread nD τ).loc main_arg3)) (m (((0 : Dev nD) : Thread nD τ).loc main_arg4)) e j (fun l => m (((0 : Dev nD) : Thread nD τ).loc main_arg0) (ix2 (row b r) l))) := by
  have step : ∀ n (hn : n + 1 < 8), outAfter (table m) (V4 m (outs3 m)) 0 (8 * b.val + (n + 1)) (ix2 r j)
      = outAfter (table m) (V4 m (outs3 m)) 0 (8 * b.val + n) (ix2 r j) + MoeRef.weight (logits (m (((0 : Dev nD) : Thread nD τ).loc main_arg0)) (m (((0 : Dev nD) : Thread nD τ).loc main_arg1)) (row b r)) i1 i2 ⟨n + 1, hn⟩
      * MoeRef.swi (m (((0 : Dev nD) : Thread nD τ).loc main_arg2)) (m (((0 : Dev nD) : Thread nD τ).loc main_arg3)) (m (((0 : Dev nD) : Thread nD τ).loc main_arg4)) ⟨n + 1, hn⟩ j (fun l => m (((0 : Dev nD) : Thread nD τ).loc main_arg0) (ix2 (row b r) l)) := fun n hn => by
    rw [outAfter_eq, add_expert m hre b ⟨n + 1, hn⟩ _ rfl _ r j i1 i2 h1 h2, outBefore, if_neg (by omega)]
    rfl
  have first : outAfter (table m) (V4 m (outs3 m)) 0 (8 * b.val + 0) (ix2 r j)
      = 0 + MoeRef.weight (logits (m (((0 : Dev nD) : Thread nD τ).loc main_arg0)) (m (((0 : Dev nD) : Thread nD τ).loc main_arg1)) (row b r)) i1 i2 0
      * MoeRef.swi (m (((0 : Dev nD) : Thread nD τ).loc main_arg2)) (m (((0 : Dev nD) : Thread nD τ).loc main_arg3)) (m (((0 : Dev nD) : Thread nD τ).loc main_arg4)) 0 j (fun l => m (((0 : Dev nD) : Thread nD τ).loc main_arg0) (ix2 (row b r) l)) := by
    have hz : k1_pay41 (F := Ideal) (ix2 r j) = 0 := by pointwise [k1_pay41]
    rw [outAfter_eq, add_expert m hre b 0 (8 * b.val + 0) rfl _ r j i1 i2 h1 h2, outBefore, if_pos (by omega), hz]
  rw [show 8 * b.val + 7 = 8 * b.val + (6 + 1) from rfl, step 6 (by norm_num), step 5 (by norm_num), step 4 (by norm_num), step 3 (by norm_num), step 2 (by norm_num), step 1 (by norm_num), step 0 (by norm_num), first]
  rfl

end Cert.MoeRank
end
-- ==== Proof.MoeBitsCount.lean ====
module

public import proofs.«01_k».proof.Proof.MoeBitsRun
public import Idealize.ShloMosaic.Lib.Pointwise
public import Idealize.ShloMosaic.Lib.Tactic
public import Idealize.ShloMosaic.Lib.NatWords
public import Idealize.ShloMosaic.Lib.Pipeline.Value
public import Idealize.ShloMosaic.Lib.Pipeline.ValueKit

/-! The counts that the expert call is handed are at most 1024, the rows of a block: the call's writes stay inside its buffers. -/

@[expose] public section
set_option maxRecDepth 16384
noncomputable section
namespace Cert.MoeBits
open Idealize.ShloMosaic Idealize.ShloMosaic.TcCoe Idealize.ShloMosaic.Tactic Idealize.ShloMosaic.Pointwise Cert.Kernel Cert.Kernel.Gen
open Idealize.SL.Sem
open Idealize.ShloMosaic.Pipeline (Dat Cfg Window)
variable {F : FTy → Type} [FloatOps F]
variable (m : (ℓ : Loc nD τ sig) → Buf (Elt F) ℓ)

/-- Where the router call's blocks lie. -/
theorem idx0 : ∀ t : Fin grid0.N, (win0_0.index t (0 : Fin 2) = t.val ∧ win0_0.index t (1 : Fin 2) = 0) ∧ (win0_1.index t (0 : Fin 2) = 0 ∧ win0_1.index t (1 : Fin 2) = 0)
    ∧ (win0_2.index t (0 : Fin 2) = t.val ∧ win0_2.index t (1 : Fin 2) = 0) ∧ (win0_3.index t (0 : Fin 2) = t.val ∧ win0_3.index t (1 : Fin 2) = 0)
    ∧ (win0_4.index t (0 : Fin 3) = t.val ∧ win0_4.index t (1 : Fin 3) = 0 ∧ win0_4.index t (2 : Fin 3) = 0) := by
  decide +kernel

/-- Different grid points of the router call write different blocks of the counts. -/
theorem inj0_4 : ∀ t t' : Fin grid0.N, win0_4.index t = win0_4.index t' → t = t' := by decide +kernel

/-- Row `t` of the router call's result for the counts. -/
def blockIx (t : Fin cfg0.N) : Fin 16 := ⟨t.val, t.isLt.trans_eq N_0⟩

/-- The counts the router call leaves for a block are those computed from the block. -/
theorem cnt_read (c : Dev nD) (t : Fin cfg0.N) (s : Fin 8) (j : Fin 128) :
    V3 m (outs3 m) c main_v6_2 (ix3 (blockIx t) s j) = cntOf (routeBlk (V2 m) c 0 t) (routeBlk (V2 m) c 1 t) (ix3 0 s j) := by
  have e : V3 m (outs3 m) c main_v6_2 = (routeDat (V2 m) c).arrAt 4 cfg0.N :=
    (congrFun (after_route m c) (Proc.devRef .tc main_v6_2)).symm.trans (Pipeline.afterRegion_arr (routeDat (V2 m) c) (V2 m c) winFacts0.arr_inj 4)
  have h := (routeDat (V2 m) c).arrAt_emb_eq_flushed 4 (fun t t' _ _ hne => (cfg0.win 4).disjoint_blk fun h => hne (inj0_4 t t' h)) t (flush0_4 t) (ix3 0 s j)
  have he : ((cfg0.win 4).blk t).view.emb (ix3 (0 : Fin 1) s j) = ix3 (blockIx t) s j := by
    obtain ⟨_, _, _, _, e0, e1, e2⟩ := idx0 t
    funext a; apply Fin.ext
    match a with
    | ⟨0, _⟩ => show win0_4.index t (0 : Fin 3) * 1 + 1 * 0 = t.val; omega
    | ⟨1, _⟩ => show win0_4.index t (1 : Fin 3) * 8 + 1 * s.val = s.val; omega
    | ⟨2, _⟩ => show win0_4.index t (2 : Fin 3) * 128 + 1 * j.val = j.val; omega
  rw [e, ← he, h]
  show (routeDat (V2 m) c).after 4 t (ix3 0 s j) = _
  rw [route_after4]

/-- A word of the table is a count, as an integer. -/
theorem table_read (outs : Outs (F := F)) (c : Dev nD) (t : Fin 16) (e : Fin 8) :
    V4 m outs c main_v12 (ix1 ⟨8 * t.val + e.val, by omega⟩) = FloatOps.fptosi (F := F) 32 (V3 m outs c main_v6_2 (ix3 t 0 ⟨e.val, by omega⟩)) := by
  unfold_abbrev_sides; after_results
  pointwise

/-- A count is the sum of its column of the block's choices. -/
theorem cnt_apply (x0 : Vec F S1024x1024 .f32) (x1 : Vec F S1024x128 .f32) (s : Fin 8) (j : Fin 128) :
    cntOf x0 x1 (ix3 0 s j) = multiReduction .add [0] S128 (k0_pay3 (F := F) (k0_pay9 x0 x1) (k0_pay12 x0 x1)) 0x00000000#32 reduces_S1024x128_S128 (.inl rfl) rfl (ix1 j) := by
  unfold cntOf k0_pay5
  pointwise

/-- A word of the table, as the expert call reads it. -/
theorem word_read (a : (pcfg1 (F := F)).Adm) (q : ℕ) : wordAt a q = a.1 0 (ix1 ⟨q % 128, Nat.mod_lt _ (by decide)⟩) := by
  unfold wordAt word
  have h := (place_facts (pt (2 * q))).1
  have hp : (pt (2 * q)).val = (2 * q) % 256 := rfl
  show a.1 0 _ = _
  refine congrArg (a.1 0) (funext fun b => Fin.ext ?_)
  match b with
  | ⟨0, _⟩ => show k1_off1 (grid1.coords (pt (2 * q))) 0 + 1 * 0 = q % 128; omega

/-- The choices as numbers: one where a token chose the expert. -/
theorem pay3_cases (a b : IVec S1024x128 1) (i : S1024x128.Idx) :
    k0_pay3 (F := F) a b i = Scalar.ofBits .f32 0x3F800000#32 ∨ k0_pay3 (F := F) a b i = Scalar.ofBits .f32 0x00000000#32 := by
  unfold k0_pay3
  show Scalar.select _ _ _ = _ ∨ Scalar.select _ _ _ = _
  unfold Scalar.select
  split
  · exact .inl rfl
  · exact .inr rfl

/-- On machine words a count is at most 1024. -/
theorem bits_bound (a b : IVec S1024x128 1) (j : Fin 128) :
    (FloatOps.fptosi (F := Bits) (φ := .f32) 32 (multiReduction .add [0] S128 (k0_pay3 (F := Bits) a b) 0x00000000#32 reduces_S1024x128_S128 (.inl rfl) rfl (ix1 j))).toNat ≤ 1024 := by
  have one : (Scalar.ofBits .f32 0x3F800000#32 : Bits .f32) = Bits.f32OfNat 1 := by rw [Bits.f32OfNat_eq 1 (by decide)]; decide
  have zero : (Scalar.ofBits .f32 0x00000000#32 : Bits .f32) = Bits.f32OfNat 0 := Bits.f32OfNat_zero.symm
  let n : S1024x128.Idx → ℕ := fun i => if k0_pay3 (F := Bits) a b i = Bits.f32OfNat 1 then 1 else 0
  have hn : ∀ i, Bits.natOfF32? (k0_pay3 (F := Bits) a b i) = some (n i) := by
    intro i
    show _ = some (if _ then _ else _)
    split
    · next h => rw [h, Bits.natOfF32?_f32OfNat 1 (by decide)]
    · next h =>
      rcases pay3_cases (F := Bits) a b i with e | e
      · exact absurd (e.trans one) h
      · rw [e, zero, Bits.natOfF32?_f32OfNat 0 (by decide)]
  have hsum : (Bits.reduceFiber reduces_S1024x128_S128 (ix1 j)).sum n ≤ 1024 := by
    refine (Finset.sum_le_card_nsmul _ _ 1 (fun i _ => by show (if _ then _ else _) ≤ 1; split <;> omega)).trans ?_
    rw [smul_eq_mul, mul_one]
    refine (Finset.card_le_card_of_injOn (t := (Finset.univ : Finset (Fin 1024))) (fun i : S1024x128.Idx => i 0) (fun _ _ => Finset.mem_univ _) ?_).trans (by simp)
    intro x hx y hy hxy
    have hx' := (Finset.mem_filter.mp hx).2
    have hy' := (Finset.mem_filter.mp hy).2
    have hd := congrFun (hx'.trans hy'.symm) 0
    have h1 : (x 1).val = (y 1).val := by
      rw [← reduces_S1024x128_S128.drop_apply_val_of_eq x 0 1, hd, reduces_S1024x128_S128.drop_apply_val_of_eq y 0 1]
    funext b
    match b with
    | ⟨0, _⟩ => exact hxy
    | ⟨1, _⟩ => exact Fin.ext h1
  rw [Bits.multiReduction_add_nat [0] reduces_S1024x128_S128 _ (ix1 j) n (fun i _ => hn i) (by omega)]
  show (Bits.fptosi32 32 _).toNat ≤ _
  rw [Bits.fptosi32_nat _ (by omega), BitVec.toNat_ofNat]
  omega

/-- The `q`-th word of the table is the count of block `q / 8` and expert `q % 8`. -/
theorem word_count (t : Fin cfg0.N) (e : Fin 8) (q : ℕ) (hq : q % 128 = 8 * t.val + e.val) :
    wordAt (table m) q = FloatOps.fptosi (F := F) (φ := .f32) 32 (multiReduction .add [0] S128
      (k0_pay3 (F := F) (k0_pay9 (routeBlk (V2 m) 0 0 t) (routeBlk (V2 m) 0 1 t)) (k0_pay12 (routeBlk (V2 m) 0 0 t) (routeBlk (V2 m) 0 1 t)))
      0x00000000#32 reduces_S1024x128_S128 (.inl rfl) rfl (ix1 ⟨e.val, by omega⟩)) := by
  rw [word_read]
  have ht : (blockIx t).val = t.val := rfl
  have h := table_read m (outs3 m) 0 (blockIx t) e
  rw [cnt_read, cnt_apply] at h
  rw [← h]
  exact congrArg (V4 m (outs3 m) 0 main_v12) (congrArg Idealize.ShloMosaic.ix1 (Fin.ext hq))

/-- The bound, from the bound on a column's sum. -/
theorem bound_of (hb : ∀ (a b : IVec S1024x128 1) (j : Fin 128), (FloatOps.fptosi (F := F) (φ := .f32) 32 (multiReduction .add [0] S128 (k0_pay3 (F := F) a b) 0x00000000#32 reduces_S1024x128_S128 (.inl rfl) rfl (ix1 j))).toNat ≤ 1024)
    (q : ℕ) : (wordAt (table m) q).toNat ≤ 1024 := by
  rw [word_count m ⟨q % 128 / 8, by rw [show cfg0.N = 16 from N_0]; omega⟩ ⟨q % 8, by omega⟩ q (by show q % 128 = 8 * (q % 128 / 8) + q % 8; omega)]
  exact hb _ _ _

/-- The bound on machine words. -/
theorem word_bits (m : (ℓ : Loc nD τ sig) → Buf (Elt Bits) ℓ) (q : ℕ) : (wordAt (table m) q).toNat ≤ 1024 := bound_of m bits_bound q

end Cert.MoeBits
end
-- ==== Proof.MoeFrame.lean ====
module

public import proofs.«01_k».proof.Defs
public import proofs.«01_k».proof.Proof.MoeCount
public import proofs.«01_k».proof.Proof.MoeBitsCount
public import proofs.«01_k».proof.Proof.Gen.Kernel
public import proofs.«01_k».proof.Proof.Gen.KernelIdeal
public import proofs.«01_k».proof.Proof.Gen.ReferenceIdeal
public import proofs.«01_k».proof.Proof.Gen.Pre_finite
public import proofs.«01_k».proof.Proof.Gen.ReferenceIdeal.Run
public import Idealize.ShloMosaic.Lib.Claim
public import Idealize.ShloMosaic.Lib.Quiescent

/-! The expert program and its reference run to the end and change nothing of their arguments. -/

@[expose] public section
set_option maxRecDepth 16384
noncomputable section
namespace Cert.Moe
open Idealize.ShloMosaic Idealize.SL.Sem

/-- The kernel, on machine words. -/
theorem frame_kernel : Cert.quiescent_Kernel := fun m g _ =>
  (θ_run Cert.Kernel.defs _ _).mono (fun _ h => ⟨fun c => ⟨(h.1 c).1, (h.1 c).2.1, (h.1 c).2.2.1, (h.1 c).2.2.2.1, (h.1 c).2.2.2.2.1, (h.1 c).2.2.2.2.2.1, (h.1 c).2.2.2.2.2.2.1⟩, h.2⟩)
    (MoeBits.run_main (F := Bits) m g (MoeBits.word_bits m))

/-- The kernel, over the extended reals. -/
theorem frame_ideal : Cert.quiescent_KernelIdeal := fun m g _ =>
  (θ_run Cert.KernelIdeal.defs _ _).mono (fun _ h => ⟨fun c => ⟨(h.1 c).1, (h.1 c).2.1, (h.1 c).2.2.1, (h.1 c).2.2.2.1, (h.1 c).2.2.2.2.1, (h.1 c).2.2.2.2.2.1, (h.1 c).2.2.2.2.2.2.1⟩, h.2⟩)
    (run_main (F := Ideal) m g (word_ideal m))

/-- The kernel, over the extended reals, from finite activations and router. -/
theorem frame_ideal_finite : Cert.quiescent_KernelIdeal_pre_finite := fun m g _ => frame_ideal m g trivial

/-- The reference. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- The reference, from finite activations and router. -/
theorem frame_reference_finite : Cert.quiescent_ReferenceIdeal_pre_finite := fun m g _ => frame_reference m g trivial

end Cert.Moe
end
-- ==== Proof.MoeFinal.lean ====
module

public import proofs.«01_k».proof.Proof.MoeRank
public import proofs.«01_k».proof.Proof.MoeFrame

/-! The expert program's value claim: over the extended reals it leaves the reference's array. -/

@[expose] public section
set_option maxRecDepth 16384
noncomputable section
open Idealize.ShloMosaic Idealize.ShloMosaic.TcCoe Idealize.SL.Sem
open Cert.KernelIdeal Cert.KernelIdeal.Gen Cert.Swiglu

namespace Cert.Moe
open Cert.MoeBlocks Cert.MoeRank
variable (m : (ℓ : Loc nD τ sig) → Buf (Elt Ideal) ℓ)

/-- The result array at row `r` of block `b` is the reference's. -/
theorem final_row (hre : Cert.Pre_KernelIdeal_finite m) (b : Fin 16) (r j : Fin 1024) :
    V6 m (outs m) 0 main_v15 (ix2 (row b r) j)
      = Cert.ReferenceIdeal.Read.val_main_v162 (F := Ideal) (m (((0 : Dev nD) : Thread nD τ).loc main_arg0)) (m (((0 : Dev nD) : Thread nD τ).loc main_arg1)) (m (((0 : Dev nD) : Thread nD τ).loc main_arg2))
          (m (((0 : Dev nD) : Thread nD τ).loc main_arg3)) (m (((0 : Dev nD) : Thread nD τ).loc main_arg4)) (m (((0 : Dev nD) : Thread nD τ).loc main_arg5)) (m (((0 : Dev nD) : Thread nD τ).loc main_arg6)) (ix2 (row b r) j) := by
  obtain ⟨i1, i2, h1, h2⟩ := exists_two (logits (m (((0 : Dev nD) : Thread nD τ).loc main_arg0)) (m (((0 : Dev nD) : Thread nD τ).loc main_arg1)) (row b r))
  obtain ⟨y, hy⟩ : IsReal (logits (m (((0 : Dev nD) : Thread nD τ).loc main_arg0)) (m (((0 : Dev nD) : Thread nD τ).loc main_arg1)) (row b r) i1) :=
    isReal_sum _ _ (fun k => (reals m hre 0).1 (ix2 (row b r) k)) (fun k => (reals m hre 0).2 (ix2 k i1))
  refine (norm_read m 0 b r j).trans ((MoeRef.ref_apply ..).trans ?_).symm
  refine congrArg (fun f => lnorm f _ _ _) (funext fun k => congrArg (resid _) ?_)
  refine Eq.trans ?_ (out_apply m hre b r k i1 i2 h1 h2).symm
  exact congrArg (fun w => MoeRef.mix w _) (funext fun e => MoeRef.weight_apply _ _ (row b r) e _ (fun e => MoeRef.logit_apply ..) i1 i2 h1 h2
    (fun h => EReal.coe_ne_top y (hy.symm.trans h)) (fun h => EReal.coe_ne_bot y (hy.symm.trans h)))

/-- The result array is the reference's term of the arguments. -/
theorem final (hre : Cert.Pre_KernelIdeal_finite m) (c : Dev nD) :
    V6 m (outs m) c main_v15
      = Cert.ReferenceIdeal.Read.val_main_v162 (F := Ideal) (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (m ((c : Thread nD τ).loc main_arg6)) := by
  obtain rfl := one_core c
  refine funext fun (i : S16384x1024.Idx) => ?_
  have hi : (i 0).val < 16384 := (i 0).isLt
  have e : i = ix2 (row ⟨(i 0).val / 1024, by omega⟩ ⟨(i 0).val % 1024, by omega⟩) (i 1) := by
    funext a
    match a with
    | ⟨0, _⟩ => exact Fin.ext (Nat.div_add_mod _ 1024).symm
    | ⟨1, _⟩ => rfl
  rw [e]
  exact final_row m hre _ _ _

/-- The run, with the result as the reference's term. -/
theorem run_final (hre : Cert.Pre_KernelIdeal_finite m) (g : Dev nD → PrngReg) :
    θ_run defs (onTc (τ := τ) (main (F := Ideal))) ⟨m, fun _ => 0, g⟩ (fun r => ∀ c : Dev nD,
      r.2.mem ((c.tc : Thread nD τ).loc main_v15) = Cert.ReferenceIdeal.Read.val_main_v162 (F := Ideal) (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (m ((c : Thread nD τ).loc main_arg6)) ∧
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4) ∧
      r.2.mem ((c.tc : Thread nD τ).loc main_arg5) = m ((c.tc : Thread nD τ).loc main_arg5) ∧
      r.2.mem ((c.tc : Thread nD τ).loc main_arg6) = m ((c.tc : Thread nD τ).loc main_arg6)) :=
  (θ_run defs _ _).mono (fun _ h c => ⟨(h.1 c).2.2.2.2.2.2.2.trans (final m hre c), (h.1 c).1, (h.1 c).2.1, (h.1 c).2.2.1, (h.1 c).2.2.2.1, (h.1 c).2.2.2.2.1, (h.1 c).2.2.2.2.2.1, (h.1 c).2.2.2.2.2.2.1⟩)
    (run_main (F := Ideal) m g (word_ideal m))

/-- From equal arguments, the activations and the router finite, both leave the same array. -/
theorem algebraic : Cert.algebraic_KernelIdeal_ReferenceIdeal_pre_finite := by
  intro m g m' g' hre hagree
  refine ⟨fun c => Cert.ReferenceIdeal.Read.val_main_v162 (F := Ideal) (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (m ((c : Thread nD τ).loc main_arg6)), run_final m hre g, ?_⟩
  refine (θ_run Cert.ReferenceIdeal.defs _ _).mono (fun r h c => ⟨(h c).1.trans ?_, (h c).2⟩) (Cert.ReferenceIdeal.Value.run (F := Ideal) m' g')
  rw [ReferenceIdeal.Read.val_main_v162_eq]
  obtain ⟨h0, h1, h2, h3, h4, h5, h6⟩ := hagree c
  show Cert.ReferenceIdeal.Read.val_main_v162 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) = _
  rw [h0, h1, h2, h3, h4, h5, h6]

end Cert.Moe
end
-- ==== Proof.OutprojRun.lean ====
module

public import proofs.«01_k».proof.Proof.Gen.Kernel4.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Swiglu
public import proofs.«01_k».proof.Defs
public import Idealize.ShloMosaic.Lib.Claim
public import Idealize.ShloMosaic.Lib.Quiescent
public import Idealize.ShloMosaic.Lib.Pointwise

/-! The output projection of a layer with its residual and layer norm: what one call leaves in its output block, what the
reference computes, what the whole grid leaves, and that program's claims. -/

@[expose] public section

set_option maxRecDepth 16384

noncomputable section

open Idealize.ShloMosaic Idealize.ShloMosaic.TcCoe Idealize.SL.Sem
open Cert.Kernel4Ideal Cert.Kernel4Ideal.Gen Cert.Swiglu

namespace Cert.OutprojRun

/-- One output of the projection: the three mixers' stretches of a row against the three stretches of a weight column. -/
def mixed (p : Fin 256 → EReal) (q s : Fin 384 → EReal) (w : Fin 1024 → EReal) : EReal :=
  (∑ k : Fin 256, p k * w ⟨k.val, by omega⟩) + (∑ k : Fin 384, q k * w ⟨256 + k.val, by omega⟩) + ∑ k : Fin 384, s k * w ⟨640 + k.val, by omega⟩

/-! ## One call -/

/-- The offset of a whole block is zero on both axes. -/
theorem hz : (![0, 0] : Fin 2 → Nat) = fun _ => 0 := funext fun a => by fin_cases a <;> rfl

section
variable (P : FVec Ideal S512x256 .bf16) (Q S : FVec Ideal S512x384 .bf16) (x : FVec Ideal S512x1024 .f32) (g h : FVec Ideal S1x1024 .f32) (r : Fin 512) (j : Fin 1024)

/-- The call's arithmetic at an index, the three stretches of the weights loaded apart. -/
theorem pay_apply (a : Vec Ideal S256x1024 .bf16) (b d : Vec Ideal S384x1024 .bf16) :
    k0_pay1 (F := Ideal) (k0_pay2 g) (k0_pay3 h) (k0_pay4 P a Q b S d x) (k0_pay5 P a Q b S d x) (ix2 r j)
      = lnorm (fun c => resid (x (ix2 r c)) ((∑ k, P (ix2 r k) * a (ix2 k c)) + (∑ k, Q (ix2 r k) * b (ix2 k c)) + ∑ k, S (ix2 r k) * d (ix2 k c)))
          (g (ix2 0 j)) (h (ix2 0 j)) j := by
  pointwise [k0_pay1, k0_pay2, k0_pay3, k0_pay4, k0_pay5, lnorm, resid]

/-- The output block at an index. -/
theorem out_apply (A : Vec Ideal S1024x1024 .bf16) : out0_7 (F := Ideal) P Q S x A g h (ix2 r j)
    = lnorm (fun c => resid (x (ix2 r c)) (mixed (fun k => P (ix2 r k)) (fun k => Q (ix2 r k)) (fun k => S (ix2 r k)) (fun k => A (ix2 k c))))
        (g (ix2 0 j)) (h (ix2 0 j)) j := by
  unfold out0_7
  rw [View.canon_unit_zero hz]
  rw [View.ld_unit_zero (S := S512x256) hz, View.ld_unit_zero (S := S512x384) hz, View.ld_unit_zero (S := S512x384) hz, View.ld_unit_zero (S := S512x1024) hz, View.ld_unit_zero (S := S1x1024) hz, View.ld_unit_zero (S := S1x1024) hz]
  rw [pay_apply]
  unfold mixed
  refine congrArg (fun f => lnorm f _ _ j) (funext fun c => congrArg (resid _) ?_)
  pointwise
end

/-! ## The reference -/

section
open Cert.Reference4Ideal.Read
variable (P : FVec Ideal S16384x256 .bf16) (Q S : FVec Ideal S16384x384 .bf16) (x : FVec Ideal S16384x1024 .f32) (A : FVec Ideal S1024x1024 .f32) (g h : FVec Ideal S1024 .f32) (r : Fin 16384) (j : Fin 1024)

/-- The mixers' rows set side by side, within the pooling branch. -/
theorem cat_p (k : Fin 256) : val_main_v0 (F := Ideal) P Q S (ix2 r ⟨k.val, by omega⟩) = P (ix2 r k) :=
  concatenate_apply_piece (t := S16384x1024) 1 [⟨S16384x256, P⟩, ⟨S16384x384, Q⟩, ⟨S16384x384, S⟩] _ (ix2 r ⟨k.val, by omega⟩) 0 (show 0 < 3 by decide) _ P rfl rfl 0 rfl (ix2 r k)
    (fun b hb => by match b with | ⟨0, _⟩ => rfl | ⟨1, _⟩ => exact absurd rfl hb) (Nat.zero_add _)

/-- Within the chunk attention. -/
theorem cat_q (k : Fin 384) : val_main_v0 (F := Ideal) P Q S (ix2 r ⟨256 + k.val, by omega⟩) = Q (ix2 r k) :=
  concatenate_apply_piece (t := S16384x1024) 1 [⟨S16384x256, P⟩, ⟨S16384x384, Q⟩, ⟨S16384x384, S⟩] _ (ix2 r ⟨256 + k.val, by omega⟩) 1 (show 1 < 3 by decide) _ Q rfl rfl 256 rfl (ix2 r k)
    (fun b hb => by match b with | ⟨0, _⟩ => rfl | ⟨1, _⟩ => exact absurd rfl hb) rfl

/-- Within the stick-breaking attention. -/
theorem cat_s (k : Fin 384) : val_main_v0 (F := Ideal) P Q S (ix2 r ⟨640 + k.val, by omega⟩) = S (ix2 r k) :=
  concatenate_apply_piece (t := S16384x1024) 1 [⟨S16384x256, P⟩, ⟨S16384x384, Q⟩, ⟨S16384x384, S⟩] _ (ix2 r ⟨640 + k.val, by omega⟩) 2 (show 2 < 3 by decide) _ S rfl rfl 640 rfl (ix2 r k)
    (fun b hb => by match b with | ⟨0, _⟩ => rfl | ⟨1, _⟩ => exact absurd rfl hb) rfl

/-- The product with the weights at an index, cut into the three stretches. -/
theorem dot_apply : val_main_v4 (F := Ideal) P Q S A (ix2 r j)
    = mixed (fun k => P (ix2 r k)) (fun k => Q (ix2 r k)) (fun k => S (ix2 r k)) (fun k => A (ix2 k j)) := by
  have e : val_main_v4 (F := Ideal) P Q S A (ix2 r j) = ∑ k : Fin 1024, val_main_v0 (F := Ideal) P Q S (ix2 r k) * A (ix2 k j) := by
    pointwise [val_main_v4, val_main_v1]
  rw [e, sum_cut _ 640 384 rfl, ← sum_grow (fun k : Fin 1024 => val_main_v0 (F := Ideal) P Q S (ix2 r k) * A (ix2 k j)) 256 384 640 rfl (by decide)]
  simp only [cat_p, cat_q, cat_s, mixed]

/-- The reference's result at an index is the layer norm of the residual sums of its row. -/
theorem norm_apply : val_main_v27 (F := Ideal) P Q S x A g h (ix2 r j)
    = lnorm (fun c => resid (x (ix2 r c)) (val_main_v4 (F := Ideal) P Q S A (ix2 r c))) (g (ix1 j)) (h (ix1 j)) j := by
  pointwise [val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v3, val_main_v2, val_main_cst, val_main_cst_0, val_main_cst_1, val_main_cst_2, val_main_cst_3, val_main_cst_4, lnorm, resid]

/-- The reference's result at an index, from the arguments. -/
theorem ref_apply : val_main_v27 (F := Ideal) P Q S x A g h (ix2 r j)
    = lnorm (fun c => resid (x (ix2 r c)) (mixed (fun k => P (ix2 r k)) (fun k => Q (ix2 r k)) (fun k => S (ix2 r k)) (fun k => A (ix2 k c))))
        (g (ix1 j)) (h (ix1 j)) j := by
  rw [norm_apply]
  simp only [dot_apply]
end

/-! ## The whole grid -/

variable (m : (ℓ : Loc nD τ sig) → Buf (Elt Ideal) ℓ)

/-- The blocks' indices: the rows' blocks step with the grid point, the weights' and the vectors' stay. -/
theorem idx_facts : ∀ t : Fin cfg0.N, (win0_0.index t 0 = t.val ∧ win0_0.index t 1 = 0)
    ∧ (win0_1.index t 0 = t.val ∧ win0_1.index t 1 = 0)
    ∧ (win0_2.index t 0 = t.val ∧ win0_2.index t 1 = 0)
    ∧ (win0_3.index t 0 = t.val ∧ win0_3.index t 1 = 0)
    ∧ (win0_4.index t 0 = 0 ∧ win0_4.index t 1 = 0)
    ∧ (win0_5.index t 0 = 0 ∧ win0_5.index t 1 = 0)
    ∧ (win0_6.index t 0 = 0 ∧ win0_6.index t 1 = 0)
    ∧ (win0_7.index t 0 = t.val ∧ win0_7.index t 1 = 0) :=
  (by decide +kernel : ∀ t : Fin grid0.N, _)

/-- There are 32 blocks of rows. -/
theorem t_lt (t : Fin cfg0.N) : t.val < 32 := lt_of_lt_of_eq t.isLt N_0

/-- Row `r` of block `t` of the 16384 rows. -/
def row (t : Fin cfg0.N) (r : Fin 512) : Fin 16384 := ⟨512 * t.val + r.val, by have := t_lt t; omega⟩

/-- The block of the pooling branch at point `t` is rows `512 t` onward. -/
theorem iblk0 (c : Dev nD) (t : Fin cfg0.N) (r : Fin 512) (j : Fin 256) :
    iblk m c 0 t (ix2 r j) = m ((c : Thread nD τ).loc main_arg0) (ix2 (row t r) j) := by
  obtain ⟨⟨e0, e1⟩, _⟩ := idx_facts t
  show V m c main_arg0 (((cfg0.win 0).blk t).view.emb (ix2 r j)) = _
  rw [V_main_arg0]
  congr 1
  funext a; apply Fin.ext
  match a with
  | ⟨0, _⟩ => show win0_0.index t (0 : Fin 2) * 512 + 1 * r.val = 512 * t.val + r.val; omega
  | ⟨1, _⟩ => show win0_0.index t (1 : Fin 2) * 256 + 1 * j.val = j.val; omega

/-- The block of the chunk attention at point `t` is rows `512 t` onward. -/
theorem iblk1 (c : Dev nD) (t : Fin cfg0.N) (r : Fin 512) (j : Fin 384) :
    iblk m c 1 t (ix2 r j) = m ((c : Thread nD τ).loc main_arg1) (ix2 (row t r) j) := by
  obtain ⟨_, ⟨e0, e1⟩, _⟩ := idx_facts t
  show V m c main_arg1 (((cfg0.win 1).blk t).view.emb (ix2 r j)) = _
  rw [V_main_arg1]
  congr 1
  funext a; apply Fin.ext
  match a with
  | ⟨0, _⟩ => show win0_1.index t (0 : Fin 2) * 512 + 1 * r.val = 512 * t.val + r.val; omega
  | ⟨1, _⟩ => show win0_1.index t (1 : Fin 2) * 384 + 1 * j.val = j.val; omega

/-- The block of the stick-breaking attention at point `t` is rows `512 t` onward. -/
theorem iblk2 (c : Dev nD) (t : Fin cfg0.N) (r : Fin 512) (j : Fin 384) :
    iblk m c 2 t (ix2 r j) = m ((c : Thread nD τ).loc main_arg2) (ix2 (row t r) j) := by
  obtain ⟨_, _, ⟨e0, e1⟩, _⟩ := idx_facts t
  show V m c main_arg2 (((cfg0.win 2).blk t).view.emb (ix2 r j)) = _
  rw [V_main_arg2]
  congr 1
  funext a; apply Fin.ext
  match a with
  | ⟨0, _⟩ => show win0_2.index t (0 : Fin 2) * 512 + 1 * r.val = 512 * t.val + r.val; omega
  | ⟨1, _⟩ => show win0_2.index t (1 : Fin 2) * 384 + 1 * j.val = j.val; omega

/-- The block of the activations at point `t` is rows `512 t` onward. -/
theorem iblk3 (c : Dev nD) (t : Fin cfg0.N) (r : Fin 512) (j : Fin 1024) :
    iblk m c 3 t (ix2 r j) = m ((c : Thread nD τ).loc main_arg3) (ix2 (row t r) j) := by
  obtain ⟨_, _, _, ⟨e0, e1⟩, _⟩ := idx_facts t
  show V m c main_arg3 (((cfg0.win 3).blk t).view.emb (ix2 r j)) = _
  rw [V_main_arg3]
  congr 1
  funext a; apply Fin.ext
  match a with
  | ⟨0, _⟩ => show win0_3.index t (0 : Fin 2) * 512 + 1 * r.val = 512 * t.val + r.val; omega
  | ⟨1, _⟩ => show win0_3.index t (1 : Fin 2) * 1024 + 1 * j.val = j.val; omega

/-- The weights the call reads are the argument's. -/
theorem V4 (c : Dev nD) (i : Fin 1024) (k : Fin 1024) : V m c main_v0 (ix2 i k) = m ((c : Thread nD τ).loc main_arg4) (ix2 i k) := by
  unfold_abbrev_sides; after_results; rfl

/-- The block of the weights at any point is the whole argument. -/
theorem iblk4 (c : Dev nD) (t : Fin cfg0.N) (i : Fin 1024) (k : Fin 1024) : iblk m c 4 t (ix2 i k) = m ((c : Thread nD τ).loc main_arg4) (ix2 i k) := by
  obtain ⟨_, _, _, _, ⟨e0, e1⟩, _⟩ := idx_facts t
  rw [← V4 m]
  show V m c main_v0 (((cfg0.win 4).blk t).view.emb (ix2 i k)) = _
  congr 1
  funext a; apply Fin.ext
  match a with
  | ⟨0, _⟩ => show win0_4.index t (0 : Fin 2) * 1024 + 1 * i.val = i.val; omega
  | ⟨1, _⟩ => show win0_4.index t (1 : Fin 2) * 1024 + 1 * k.val = k.val; omega

/-- The norm's scale the call reads are the argument's. -/
theorem V5 (c : Dev nD) (k : Fin 1024) : V m c main_v1 (ix2 0 k) = m ((c : Thread nD τ).loc main_arg5) (ix1 k) := by
  unfold_abbrev_sides; after_results; pointwise

/-- The block of the norm's scale at any point is the whole argument. -/
theorem iblk5 (c : Dev nD) (t : Fin cfg0.N) (k : Fin 1024) : iblk m c 5 t (ix2 0 k) = m ((c : Thread nD τ).loc main_arg5) (ix1 k) := by
  obtain ⟨_, _, _, _, _, ⟨e0, e1⟩, _⟩ := idx_facts t
  rw [← V5 m]
  show V m c main_v1 (((cfg0.win 5).blk t).view.emb (ix2 0 k)) = _
  congr 1
  funext a; apply Fin.ext
  match a with
  | ⟨0, _⟩ => show win0_5.index t (0 : Fin 2) * 1 + 1 * 0 = 0; omega
  | ⟨1, _⟩ => show win0_5.index t (1 : Fin 2) * 1024 + 1 * k.val = k.val; omega

/-- The norm's shift the call reads are the argument's. -/
theorem V6 (c : Dev nD) (k : Fin 1024) : V m c main_v2 (ix2 0 k) = m ((c : Thread nD τ).loc main_arg6) (ix1 k) := by
  unfold_abbrev_sides; after_results; pointwise

/-- The block of the norm's shift at any point is the whole argument. -/
theorem iblk6 (c : Dev nD) (t : Fin cfg0.N) (k : Fin 1024) : iblk m c 6 t (ix2 0 k) = m ((c : Thread nD τ).loc main_arg6) (ix1 k) := by
  obtain ⟨_, _, _, _, _, _, ⟨e0, e1⟩, _⟩ := idx_facts t
  rw [← V6 m]
  show V m c main_v2 (((cfg0.win 6).blk t).view.emb (ix2 0 k)) = _
  congr 1
  funext a; apply Fin.ext
  match a with
  | ⟨0, _⟩ => show win0_6.index t (0 : Fin 2) * 1 + 1 * 0 = 0; omega
  | ⟨1, _⟩ => show win0_6.index t (1 : Fin 2) * 1024 + 1 * k.val = k.val; omega

/-- Where an index of the output block lies in the result. -/
theorem emb7 (t : Fin cfg0.N) (r : Fin 512) (j : Fin 1024) : ((cfg0.win 7).blk t).view.emb (ix2 r j) = ix2 (row t r) j := by
  obtain ⟨_, _, _, _, _, _, _, ⟨e0, e1⟩⟩ := idx_facts t
  funext a; apply Fin.ext
  match a with
  | ⟨0, _⟩ => show win0_7.index t (0 : Fin 2) * 512 + 1 * r.val = 512 * t.val + r.val; omega
  | ⟨1, _⟩ => show win0_7.index t (1 : Fin 2) * 1024 + 1 * j.val = j.val; omega

/-- The result array after the run, at row `r` of block `t`. -/
theorem final_row (c : Dev nD) (t : Fin cfg0.N) (r : Fin 512) (j : Fin 1024) : (dats m 0 c).arrAt 7 cfg0.N (ix2 (row t r) j)
    = Reference4Ideal.Read.val_main_v27 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 (row t r) j) := by
  have b := congrFun (Value.blocks7 m c t (flush0_7 t)) (ix2 r j)
  rw [Value.flushed7] at b
  have b' : (dats m 0 c).arrAt 7 cfg0.N (((cfg0.win 7).blk t).view.emb (ix2 r j)) = out0_7 (iblk m c 0 t) (iblk m c 1 t) (iblk m c 2 t) (iblk m c 3 t) (iblk m c 4 t) (iblk m c 5 t) (iblk m c 6 t) (ix2 r j) := b
  rw [emb7, out_apply] at b'
  rw [b', ref_apply]
  simp only [iblk0, iblk1, iblk2, iblk3, iblk4, iblk5, iblk6]

/-- The result array after the run is the reference's term of the arguments. -/
theorem final (c : Dev nD) : (dats m 0 c).arrAt 7 cfg0.N = Reference4Ideal.Read.val_main_v27 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine funext fun (i : S16384x1024.Idx) => ?_
  have e : i = ix2 (row ⟨(i 0).val / 512, by rw [show cfg0.N = 32 from N_0]; exact Nat.div_lt_of_lt_mul (i 0).isLt⟩ ⟨(i 0).val % 512, Nat.mod_lt _ (by decide)⟩) (i 1) := by
    funext a
    match a with
    | ⟨0, _⟩ => exact Fin.ext (Nat.div_add_mod _ 512).symm
    | ⟨1, _⟩ => rfl
  rw [e]
  exact final_row m c _ _ _

end Cert.OutprojRun

/-! ## The claims -/

namespace Cert.Outproj

/-- The output projection runs to the end and changes nothing of its arguments, on machine words. -/
theorem frame_kernel : Cert.quiescent_Kernel4 := fun m ρ _ => Cert.Kernel4.Gen.frame m ρ

/-- and over the extended reals. -/
theorem frame_ideal : Cert.quiescent_Kernel4Ideal := fun m ρ _ => Cert.Kernel4Ideal.Gen.frame m ρ

/-- The reference runs to the end and changes nothing of its arguments. -/
theorem frame_reference : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- From equal arguments both leave the same array. -/
theorem algebraic : Cert.algebraic_Kernel4Ideal_Reference4Ideal := by
  pair_intro
  · run_from Cert.Kernel4Ideal.Value.run_blocks m g
  · run_from Cert.Reference4Ideal.Value.run m' g'
    rw [Reference4Ideal.Read.val_main_v27_eq, OutprojRun.final]
    obtain ⟨h0, h1, h2, h3, h4, h5, h6⟩ := hagree c
    rw [h0, h1, h2, h3, h4, h5, h6]

end Cert.Outproj
-- ==== Proof.InprojRun.lean ====
module

public import proofs.«01_k».proof.Proof.Gen.Kernel3.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Swiglu
public import proofs.«01_k».proof.Defs
public import Idealize.ShloMosaic.Lib.Claim
public import Idealize.ShloMosaic.Lib.Quiescent
public import Idealize.ShloMosaic.Lib.Pointwise

/-! The input projection of a layer: what one call leaves in its seven output blocks, what the whole grid leaves, what the
reference computes, and that program's claims. -/

@[expose] public section

set_option maxRecDepth 16384

noncomputable section

open Idealize.ShloMosaic Idealize.ShloMosaic.TcCoe Idealize.SL.Sem
open Cert.Kernel3Ideal Cert.Kernel3Ideal.Gen

namespace Cert.InprojRun

/-! ## One call -/

/-- The words of an eighth, by which the queries are scaled. -/
def eighth : EReal := Ideal.ofBits .f32 0x3E000000#32

/-- The offset of a whole block is zero on both axes. -/
theorem hz : (![0, 0] : Fin 2 → Nat) = fun _ => 0 := funext fun a => by fin_cases a <;> rfl

section
variable (x : FVec Ideal S512x1024 .f32) (A : Vec Ideal S1024x2560 .bf16) (r : Fin 512)

/-- The product that makes the pooling branch, at an index. -/
theorem pay_w2 (a : Vec Ideal S1024x256 .bf16) (j : Fin 256) : k0_pay5 (F := Ideal) x a (ix2 r j) = (∑ i : Fin 1024, x (ix2 r i) * a (ix2 i j)) := by
  pointwise [k0_pay5, k0_pay4]

/-- The output block of the pooling branch, at an index. -/
theorem out_w2 (j : Fin 256) : out0_2 (F := Ideal) x A (ix2 r j) = (∑ i : Fin 1024, x (ix2 r i) * A (ix2 i ⟨0 + j.val, by omega⟩)) := by
  unfold out0_2
  rw [View.canon_unit_zero hz, View.ld_unit_zero hz, pay_w2]
  pointwise

/-- The product that makes the chunk attention's scaled queries, at an index. -/
theorem pay_w3 (a : Vec Ideal S1024x384 .bf16) (j : Fin 384) : k0_pay6 (F := Ideal) x a (ix2 r j) = (∑ i : Fin 1024, x (ix2 r i) * a (ix2 i j)) * eighth := by
  pointwise [k0_pay6, k0_pay4, eighth]

/-- The output block of the chunk attention's scaled queries, at an index. -/
theorem out_w3 (j : Fin 384) : out0_3 (F := Ideal) x A (ix2 r j) = (∑ i : Fin 1024, x (ix2 r i) * A (ix2 i ⟨256 + j.val, by omega⟩)) * eighth := by
  unfold out0_3
  rw [View.canon_unit_zero hz, View.ld_unit_zero hz, pay_w3]
  pointwise

/-- The product that makes the chunk attention's keys, at an index. -/
theorem pay_w4 (a : Vec Ideal S1024x384 .bf16) (j : Fin 384) : k0_pay7 (F := Ideal) x a (ix2 r j) = (∑ i : Fin 1024, x (ix2 r i) * a (ix2 i j)) := by
  pointwise [k0_pay7, k0_pay4]

/-- The output block of the chunk attention's keys, at an index. -/
theorem out_w4 (j : Fin 384) : out0_4 (F := Ideal) x A (ix2 r j) = (∑ i : Fin 1024, x (ix2 r i) * A (ix2 i ⟨640 + j.val, by omega⟩)) := by
  unfold out0_4
  rw [View.canon_unit_zero hz, View.ld_unit_zero hz, pay_w4]
  pointwise

/-- The product that makes the chunk attention's values, at an index. -/
theorem pay_w5 (a : Vec Ideal S1024x384 .bf16) (j : Fin 384) : k0_pay8 (F := Ideal) x a (ix2 r j) = (∑ i : Fin 1024, x (ix2 r i) * a (ix2 i j)) := by
  pointwise [k0_pay8, k0_pay4]

/-- The output block of the chunk attention's values, at an index. -/
theorem out_w5 (j : Fin 384) : out0_5 (F := Ideal) x A (ix2 r j) = (∑ i : Fin 1024, x (ix2 r i) * A (ix2 i ⟨1024 + j.val, by omega⟩)) := by
  unfold out0_5
  rw [View.canon_unit_zero hz, View.ld_unit_zero hz, pay_w5]
  pointwise

/-- The product that makes the stick-breaking attention's scaled queries, at an index. -/
theorem pay_w6 (a : Vec Ideal S1024x384 .bf16) (j : Fin 384) : k0_pay1 (F := Ideal) (k0_pay9 x a) (ix2 r j) = (∑ i : Fin 1024, x (ix2 r i) * a (ix2 i j)) * eighth := by
  pointwise [k0_pay1, k0_pay9, k0_pay4, eighth]

/-- The output block of the stick-breaking attention's scaled queries, at an index. -/
theorem out_w6 (j : Fin 384) : out0_6 (F := Ideal) x A (ix2 r j) = (∑ i : Fin 1024, x (ix2 r i) * A (ix2 i ⟨1408 + j.val, by omega⟩)) * eighth := by
  unfold out0_6
  rw [View.canon_unit_zero hz, View.ld_unit_zero hz, pay_w6]
  pointwise

/-- The product that makes the stick-breaking attention's keys, at an index. -/
theorem pay_w7 (a : Vec Ideal S1024x384 .bf16) (j : Fin 384) : k0_pay2 (F := Ideal) (k0_pay4 x) a (ix2 r j) = (∑ i : Fin 1024, x (ix2 r i) * a (ix2 i j)) := by
  pointwise [k0_pay2, k0_pay4]

/-- The output block of the stick-breaking attention's keys, at an index. -/
theorem out_w7 (j : Fin 384) : out0_7 (F := Ideal) x A (ix2 r j) = (∑ i : Fin 1024, x (ix2 r i) * A (ix2 i ⟨1792 + j.val, by omega⟩)) := by
  unfold out0_7 k0_pay10
  rw [View.canon_unit_zero hz, View.ld_unit_zero hz, pay_w7]
  pointwise

/-- The product that makes the stick-breaking attention's values, at an index. -/
theorem pay_w8 (a : Vec Ideal S1024x384 .bf16) (j : Fin 384) : k0_pay3 (F := Ideal) (k0_pay4 x) a (ix2 r j) = (∑ i : Fin 1024, x (ix2 r i) * a (ix2 i j)) := by
  pointwise [k0_pay3, k0_pay4]

/-- The output block of the stick-breaking attention's values, at an index. -/
theorem out_w8 (j : Fin 384) : out0_8 (F := Ideal) x A (ix2 r j) = (∑ i : Fin 1024, x (ix2 r i) * A (ix2 i ⟨2176 + j.val, by omega⟩)) := by
  unfold out0_8 k0_pay10
  rw [View.canon_unit_zero hz, View.ld_unit_zero hz, pay_w8]
  pointwise

end

/-! ## The reference -/

section
variable (x : FVec Ideal S16384x1024 .f32) (A : FVec Ideal S1024x2560 .f32) (r : Fin 16384)

/-- The reference's array of the pooling branch, at an index. -/
theorem ref_w2 (j : Fin 256) : Reference3Ideal.Read.val_main_v1 (F := Ideal) x A (ix2 r j) = (∑ i : Fin 1024, x (ix2 r i) * A (ix2 i ⟨0 + j.val, by omega⟩)) := by
  pointwise [Reference3Ideal.Read.val_main_v1, Reference3Ideal.Read.val_main_v0]

/-- The reference's array of the chunk attention's scaled queries, at an index. -/
theorem ref_w3 (j : Fin 384) : Reference3Ideal.Read.val_main_v14 (F := Ideal) x A (ix2 r j) = (∑ i : Fin 1024, x (ix2 r i) * A (ix2 i ⟨256 + j.val, by omega⟩)) * eighth := by
  pointwise [Reference3Ideal.Read.val_main_v14, Reference3Ideal.Read.val_main_v11, Reference3Ideal.Read.val_main_v10, Reference3Ideal.Read.val_main_cst, Reference3Ideal.Read.val_main_v4, Reference3Ideal.Read.val_main_v2, Reference3Ideal.Read.val_main_v0, eighth]

/-- The reference's array of the chunk attention's keys, at an index. -/
theorem ref_w4 (j : Fin 384) : Reference3Ideal.Read.val_main_v15 (F := Ideal) x A (ix2 r j) = (∑ i : Fin 1024, x (ix2 r i) * A (ix2 i ⟨640 + j.val, by omega⟩)) := by
  pointwise [Reference3Ideal.Read.val_main_v15, Reference3Ideal.Read.val_main_v5, Reference3Ideal.Read.val_main_v2, Reference3Ideal.Read.val_main_v0]
  exact Finset.sum_congr rfl fun i _ => congrArg (fun k => x (ix2 r i) * A (ix2 i k)) (Fin.ext (by show 256 + (384 + j.val) = 640 + j.val; omega))

/-- The reference's array of the chunk attention's values, at an index. -/
theorem ref_w5 (j : Fin 384) : Reference3Ideal.Read.val_main_v16 (F := Ideal) x A (ix2 r j) = (∑ i : Fin 1024, x (ix2 r i) * A (ix2 i ⟨1024 + j.val, by omega⟩)) := by
  pointwise [Reference3Ideal.Read.val_main_v16, Reference3Ideal.Read.val_main_v6, Reference3Ideal.Read.val_main_v2, Reference3Ideal.Read.val_main_v0]
  exact Finset.sum_congr rfl fun i _ => congrArg (fun k => x (ix2 r i) * A (ix2 i k)) (Fin.ext (by show 256 + (768 + j.val) = 1024 + j.val; omega))

/-- The reference's array of the stick-breaking attention's scaled queries, at an index. -/
theorem ref_w6 (j : Fin 384) : Reference3Ideal.Read.val_main_v17 (F := Ideal) x A (ix2 r j) = (∑ i : Fin 1024, x (ix2 r i) * A (ix2 i ⟨1408 + j.val, by omega⟩)) * eighth := by
  pointwise [Reference3Ideal.Read.val_main_v17, Reference3Ideal.Read.val_main_v13, Reference3Ideal.Read.val_main_v12, Reference3Ideal.Read.val_main_cst_0, Reference3Ideal.Read.val_main_v7, Reference3Ideal.Read.val_main_v3, Reference3Ideal.Read.val_main_v0, eighth]

/-- The reference's array of the stick-breaking attention's keys, at an index. -/
theorem ref_w7 (j : Fin 384) : Reference3Ideal.Read.val_main_v18 (F := Ideal) x A (ix2 r j) = (∑ i : Fin 1024, x (ix2 r i) * A (ix2 i ⟨1792 + j.val, by omega⟩)) := by
  pointwise [Reference3Ideal.Read.val_main_v18, Reference3Ideal.Read.val_main_v8, Reference3Ideal.Read.val_main_v3, Reference3Ideal.Read.val_main_v0]
  exact Finset.sum_congr rfl fun i _ => congrArg (fun k => x (ix2 r i) * A (ix2 i k)) (Fin.ext (by show 1408 + (384 + j.val) = 1792 + j.val; omega))

/-- The reference's array of the stick-breaking attention's values, at an index. -/
theorem ref_w8 (j : Fin 384) : Reference3Ideal.Read.val_main_v19 (F := Ideal) x A (ix2 r j) = (∑ i : Fin 1024, x (ix2 r i) * A (ix2 i ⟨2176 + j.val, by omega⟩)) := by
  pointwise [Reference3Ideal.Read.val_main_v19, Reference3Ideal.Read.val_main_v9, Reference3Ideal.Read.val_main_v3, Reference3Ideal.Read.val_main_v0]
  exact Finset.sum_congr rfl fun i _ => congrArg (fun k => x (ix2 r i) * A (ix2 i k)) (Fin.ext (by show 1408 + (768 + j.val) = 2176 + j.val; omega))

end

/-! ## The whole grid -/

variable (m : (ℓ : Loc nD τ sig) → Buf (Elt Ideal) ℓ)

/-- The blocks' indices: the activations' and the results' step with the grid point, the weights' stays. -/
theorem idx_facts : ∀ t : Fin cfg0.N, (win0_0.index t 0 = t.val ∧ win0_0.index t 1 = 0) ∧ (win0_1.index t 0 = 0 ∧ win0_1.index t 1 = 0)
    ∧ (win0_2.index t 0 = t.val ∧ win0_2.index t 1 = 0)
    ∧ (win0_3.index t 0 = t.val ∧ win0_3.index t 1 = 0)
    ∧ (win0_4.index t 0 = t.val ∧ win0_4.index t 1 = 0)
    ∧ (win0_5.index t 0 = t.val ∧ win0_5.index t 1 = 0)
    ∧ (win0_6.index t 0 = t.val ∧ win0_6.index t 1 = 0)
    ∧ (win0_7.index t 0 = t.val ∧ win0_7.index t 1 = 0)
    ∧ (win0_8.index t 0 = t.val ∧ win0_8.index t 1 = 0) :=
  (by decide +kernel : ∀ t : Fin grid0.N, _)

/-- There are 32 blocks of rows. -/
theorem t_lt (t : Fin cfg0.N) : t.val < 32 := lt_of_lt_of_eq t.isLt N_0

/-- Row `r` of block `t` of the 16384 rows. -/
def row (t : Fin cfg0.N) (r : Fin 512) : Fin 16384 := ⟨512 * t.val + r.val, by have := t_lt t; omega⟩

/-- The activations' block at point `t` is rows `512 t` onward. -/
theorem iblk0 (c : Dev nD) (t : Fin cfg0.N) (r : Fin 512) (j : Fin 1024) :
    iblk m c 0 t (ix2 r j) = m ((c : Thread nD τ).loc main_arg0) (ix2 (row t r) j) := by
  obtain ⟨⟨e0, e1⟩, _⟩ := idx_facts t
  show V m c main_arg0 (((cfg0.win 0).blk t).view.emb (ix2 r j)) = _
  rw [V_main_arg0]
  congr 1
  funext a; apply Fin.ext
  match a with
  | ⟨0, _⟩ => show win0_0.index t (0 : Fin 2) * 512 + 1 * r.val = 512 * t.val + r.val; omega
  | ⟨1, _⟩ => show win0_0.index t (1 : Fin 2) * 1024 + 1 * j.val = j.val; omega

/-- The weights the call reads are the argument's. -/
theorem V0 (c : Dev nD) (i : Fin 1024) (k : Fin 2560) : V m c main_v0 (ix2 i k) = m ((c : Thread nD τ).loc main_arg1) (ix2 i k) := by
  unfold_abbrev_sides; after_results; rfl

/-- The weights' block at any point is the whole argument. -/
theorem iblk1 (c : Dev nD) (t : Fin cfg0.N) (i : Fin 1024) (k : Fin 2560) :
    iblk m c 1 t (ix2 i k) = m ((c : Thread nD τ).loc main_arg1) (ix2 i k) := by
  obtain ⟨_, ⟨e0, e1⟩, _⟩ := idx_facts t
  rw [← V0 m]
  show V m c main_v0 (((cfg0.win 1).blk t).view.emb (ix2 i k)) = _
  congr 1
  funext a; apply Fin.ext
  match a with
  | ⟨0, _⟩ => show win0_1.index t (0 : Fin 2) * 1024 + 1 * i.val = i.val; omega
  | ⟨1, _⟩ => show win0_1.index t (1 : Fin 2) * 2560 + 1 * k.val = k.val; omega

/-- Where an index of the block of the pooling branch lies in the result. -/
theorem emb2 (t : Fin cfg0.N) (r : Fin 512) (j : Fin 256) : ((cfg0.win 2).blk t).view.emb (ix2 r j) = ix2 (row t r) j := by
  obtain ⟨_, _, ⟨e0, e1⟩, _⟩ := idx_facts t
  funext a; apply Fin.ext
  match a with
  | ⟨0, _⟩ => show win0_2.index t (0 : Fin 2) * 512 + 1 * r.val = 512 * t.val + r.val; omega
  | ⟨1, _⟩ => show win0_2.index t (1 : Fin 2) * 256 + 1 * j.val = j.val; omega

/-- The result of the pooling branch after the run, at row `r` of block `t`. -/
theorem final_row2 (c : Dev nD) (t : Fin cfg0.N) (r : Fin 512) (j : Fin 256) : (dats m 0 c).arrAt 2 cfg0.N (ix2 (row t r) j)
    = Reference3Ideal.Read.val_main_v1 (F := Ideal) (m ((c : Thread nD τ).loc main_arg0)) (m ((c : Thread nD τ).loc main_arg1)) (ix2 (row t r) j) := by
  have b := congrFun (Value.blocks2 m c t (flush0_2 t)) (ix2 r j)
  rw [Value.flushed2] at b
  have b' : (dats m 0 c).arrAt 2 cfg0.N (((cfg0.win 2).blk t).view.emb (ix2 r j)) = out0_2 (iblk m c 0 t) (iblk m c 1 t) (ix2 r j) := b
  rw [emb2, out_w2] at b'
  rw [b', ref_w2]
  simp only [iblk0, iblk1]

/-- The result of the pooling branch after the run is the reference's array. -/
theorem final2 (c : Dev nD) : (dats m 0 c).arrAt 2 cfg0.N
    = Reference3Ideal.Read.val_main_v1 (F := Ideal) (m ((c : Thread nD τ).loc main_arg0)) (m ((c : Thread nD τ).loc main_arg1)) := by
  refine funext fun (i : S16384x256.Idx) => ?_
  have e : i = ix2 (row ⟨(i 0).val / 512, by rw [show cfg0.N = 32 from N_0]; exact Nat.div_lt_of_lt_mul (i 0).isLt⟩ ⟨(i 0).val % 512, Nat.mod_lt _ (by decide)⟩) (i 1) := by
    funext a
    match a with
    | ⟨0, _⟩ => exact Fin.ext (Nat.div_add_mod _ 512).symm
    | ⟨1, _⟩ => rfl
  rw [e]
  exact final_row2 m c _ _ _

/-- Where an index of the block of the chunk attention's scaled queries lies in the result. -/
theorem emb3 (t : Fin cfg0.N) (r : Fin 512) (j : Fin 384) : ((cfg0.win 3).blk t).view.emb (ix2 r j) = ix2 (row t r) j := by
  obtain ⟨_, _, _, ⟨e0, e1⟩, _⟩ := idx_facts t
  funext a; apply Fin.ext
  match a with
  | ⟨0, _⟩ => show win0_3.index t (0 : Fin 2) * 512 + 1 * r.val = 512 * t.val + r.val; omega
  | ⟨1, _⟩ => show win0_3.index t (1 : Fin 2) * 384 + 1 * j.val = j.val; omega

/-- The result of the chunk attention's scaled queries after the run, at row `r` of block `t`. -/
theorem final_row3 (c : Dev nD) (t : Fin cfg0.N) (r : Fin 512) (j : Fin 384) : (dats m 0 c).arrAt 3 cfg0.N (ix2 (row t r) j)
    = Reference3Ideal.Read.val_main_v14 (F := Ideal) (m ((c : Thread nD τ).loc main_arg0)) (m ((c : Thread nD τ).loc main_arg1)) (ix2 (row t r) j) := by
  have b := congrFun (Value.blocks3 m c t (flush0_3 t)) (ix2 r j)
  rw [Value.flushed3] at b
  have b' : (dats m 0 c).arrAt 3 cfg0.N (((cfg0.win 3).blk t).view.emb (ix2 r j)) = out0_3 (iblk m c 0 t) (iblk m c 1 t) (ix2 r j) := b
  rw [emb3, out_w3] at b'
  rw [b', ref_w3]
  simp only [iblk0, iblk1]

/-- The result of the chunk attention's scaled queries after the run is the reference's array. -/
theorem final3 (c : Dev nD) : (dats m 0 c).arrAt 3 cfg0.N
    = Reference3Ideal.Read.val_main_v14 (F := Ideal) (m ((c : Thread nD τ).loc main_arg0)) (m ((c : Thread nD τ).loc main_arg1)) := by
  refine funext fun (i : S16384x384.Idx) => ?_
  have e : i = ix2 (row ⟨(i 0).val / 512, by rw [show cfg0.N = 32 from N_0]; exact Nat.div_lt_of_lt_mul (i 0).isLt⟩ ⟨(i 0).val % 512, Nat.mod_lt _ (by decide)⟩) (i 1) := by
    funext a
    match a with
    | ⟨0, _⟩ => exact Fin.ext (Nat.div_add_mod _ 512).symm
    | ⟨1, _⟩ => rfl
  rw [e]
  exact final_row3 m c _ _ _

/-- Where an index of the block of the chunk attention's keys lies in the result. -/
theorem emb4 (t : Fin cfg0.N) (r : Fin 512) (j : Fin 384) : ((cfg0.win 4).blk t).view.emb (ix2 r j) = ix2 (row t r) j := by
  obtain ⟨_, _, _, _, ⟨e0, e1⟩, _⟩ := idx_facts t
  funext a; apply Fin.ext
  match a with
  | ⟨0, _⟩ => show win0_4.index t (0 : Fin 2) * 512 + 1 * r.val = 512 * t.val + r.val; omega
  | ⟨1, _⟩ => show win0_4.index t (1 : Fin 2) * 384 + 1 * j.val = j.val; omega

/-- The result of the chunk attention's keys after the run, at row `r` of block `t`. -/
theorem final_row4 (c : Dev nD) (t : Fin cfg0.N) (r : Fin 512) (j : Fin 384) : (dats m 0 c).arrAt 4 cfg0.N (ix2 (row t r) j)
    = Reference3Ideal.Read.val_main_v15 (F := Ideal) (m ((c : Thread nD τ).loc main_arg0)) (m ((c : Thread nD τ).loc main_arg1)) (ix2 (row t r) j) := by
  have b := congrFun (Value.blocks4 m c t (flush0_4 t)) (ix2 r j)
  rw [Value.flushed4] at b
  have b' : (dats m 0 c).arrAt 4 cfg0.N (((cfg0.win 4).blk t).view.emb (ix2 r j)) = out0_4 (iblk m c 0 t) (iblk m c 1 t) (ix2 r j) := b
  rw [emb4, out_w4] at b'
  rw [b', ref_w4]
  simp only [iblk0, iblk1]

/-- The result of the chunk attention's keys after the run is the reference's array. -/
theorem final4 (c : Dev nD) : (dats m 0 c).arrAt 4 cfg0.N
    = Reference3Ideal.Read.val_main_v15 (F := Ideal) (m ((c : Thread nD τ).loc main_arg0)) (m ((c : Thread nD τ).loc main_arg1)) := by
  refine funext fun (i : S16384x384.Idx) => ?_
  have e : i = ix2 (row ⟨(i 0).val / 512, by rw [show cfg0.N = 32 from N_0]; exact Nat.div_lt_of_lt_mul (i 0).isLt⟩ ⟨(i 0).val % 512, Nat.mod_lt _ (by decide)⟩) (i 1) := by
    funext a
    match a with
    | ⟨0, _⟩ => exact Fin.ext (Nat.div_add_mod _ 512).symm
    | ⟨1, _⟩ => rfl
  rw [e]
  exact final_row4 m c _ _ _

/-- Where an index of the block of the chunk attention's values lies in the result. -/
theorem emb5 (t : Fin cfg0.N) (r : Fin 512) (j : Fin 384) : ((cfg0.win 5).blk t).view.emb (ix2 r j) = ix2 (row t r) j := by
  obtain ⟨_, _, _, _, _, ⟨e0, e1⟩, _⟩ := idx_facts t
  funext a; apply Fin.ext
  match a with
  | ⟨0, _⟩ => show win0_5.index t (0 : Fin 2) * 512 + 1 * r.val = 512 * t.val + r.val; omega
  | ⟨1, _⟩ => show win0_5.index t (1 : Fin 2) * 384 + 1 * j.val = j.val; omega

/-- The result of the chunk attention's values after the run, at row `r` of block `t`. -/
theorem final_row5 (c : Dev nD) (t : Fin cfg0.N) (r : Fin 512) (j : Fin 384) : (dats m 0 c).arrAt 5 cfg0.N (ix2 (row t r) j)
    = Reference3Ideal.Read.val_main_v16 (F := Ideal) (m ((c : Thread nD τ).loc main_arg0)) (m ((c : Thread nD τ).loc main_arg1)) (ix2 (row t r) j) := by
  have b := congrFun (Value.blocks5 m c t (flush0_5 t)) (ix2 r j)
  rw [Value.flushed5] at b
  have b' : (dats m 0 c).arrAt 5 cfg0.N (((cfg0.win 5).blk t).view.emb (ix2 r j)) = out0_5 (iblk m c 0 t) (iblk m c 1 t) (ix2 r j) := b
  rw [emb5, out_w5] at b'
  rw [b', ref_w5]
  simp only [iblk0, iblk1]

/-- The result of the chunk attention's values after the run is the reference's array. -/
theorem final5 (c : Dev nD) : (dats m 0 c).arrAt 5 cfg0.N
    = Reference3Ideal.Read.val_main_v16 (F := Ideal) (m ((c : Thread nD τ).loc main_arg0)) (m ((c : Thread nD τ).loc main_arg1)) := by
  refine funext fun (i : S16384x384.Idx) => ?_
  have e : i = ix2 (row ⟨(i 0).val / 512, by rw [show cfg0.N = 32 from N_0]; exact Nat.div_lt_of_lt_mul (i 0).isLt⟩ ⟨(i 0).val % 512, Nat.mod_lt _ (by decide)⟩) (i 1) := by
    funext a
    match a with
    | ⟨0, _⟩ => exact Fin.ext (Nat.div_add_mod _ 512).symm
    | ⟨1, _⟩ => rfl
  rw [e]
  exact final_row5 m c _ _ _

/-- Where an index of the block of the stick-breaking attention's scaled queries lies in the result. -/
theorem emb6 (t : Fin cfg0.N) (r : Fin 512) (j : Fin 384) : ((cfg0.win 6).blk t).view.emb (ix2 r j) = ix2 (row t r) j := by
  obtain ⟨_, _, _, _, _, _, ⟨e0, e1⟩, _⟩ := idx_facts t
  funext a; apply Fin.ext
  match a with
  | ⟨0, _⟩ => show win0_6.index t (0 : Fin 2) * 512 + 1 * r.val = 512 * t.val + r.val; omega
  | ⟨1, _⟩ => show win0_6.index t (1 : Fin 2) * 384 + 1 * j.val = j.val; omega

/-- The result of the stick-breaking attention's scaled queries after the run, at row `r` of block `t`. -/
theorem final_row6 (c : Dev nD) (t : Fin cfg0.N) (r : Fin 512) (j : Fin 384) : (dats m 0 c).arrAt 6 cfg0.N (ix2 (row t r) j)
    = Reference3Ideal.Read.val_main_v17 (F := Ideal) (m ((c : Thread nD τ).loc main_arg0)) (m ((c : Thread nD τ).loc main_arg1)) (ix2 (row t r) j) := by
  have b := congrFun (Value.blocks6 m c t (flush0_6 t)) (ix2 r j)
  rw [Value.flushed6] at b
  have b' : (dats m 0 c).arrAt 6 cfg0.N (((cfg0.win 6).blk t).view.emb (ix2 r j)) = out0_6 (iblk m c 0 t) (iblk m c 1 t) (ix2 r j) := b
  rw [emb6, out_w6] at b'
  rw [b', ref_w6]
  simp only [iblk0, iblk1]

/-- The result of the stick-breaking attention's scaled queries after the run is the reference's array. -/
theorem final6 (c : Dev nD) : (dats m 0 c).arrAt 6 cfg0.N
    = Reference3Ideal.Read.val_main_v17 (F := Ideal) (m ((c : Thread nD τ).loc main_arg0)) (m ((c : Thread nD τ).loc main_arg1)) := by
  refine funext fun (i : S16384x384.Idx) => ?_
  have e : i = ix2 (row ⟨(i 0).val / 512, by rw [show cfg0.N = 32 from N_0]; exact Nat.div_lt_of_lt_mul (i 0).isLt⟩ ⟨(i 0).val % 512, Nat.mod_lt _ (by decide)⟩) (i 1) := by
    funext a
    match a with
    | ⟨0, _⟩ => exact Fin.ext (Nat.div_add_mod _ 512).symm
    | ⟨1, _⟩ => rfl
  rw [e]
  exact final_row6 m c _ _ _

/-- Where an index of the block of the stick-breaking attention's keys lies in the result. -/
theorem emb7 (t : Fin cfg0.N) (r : Fin 512) (j : Fin 384) : ((cfg0.win 7).blk t).view.emb (ix2 r j) = ix2 (row t r) j := by
  obtain ⟨_, _, _, _, _, _, _, ⟨e0, e1⟩, _⟩ := idx_facts t
  funext a; apply Fin.ext
  match a with
  | ⟨0, _⟩ => show win0_7.index t (0 : Fin 2) * 512 + 1 * r.val = 512 * t.val + r.val; omega
  | ⟨1, _⟩ => show win0_7.index t (1 : Fin 2) * 384 + 1 * j.val = j.val; omega

/-- The result of the stick-breaking attention's keys after the run, at row `r` of block `t`. -/
theorem final_row7 (c : Dev nD) (t : Fin cfg0.N) (r : Fin 512) (j : Fin 384) : (dats m 0 c).arrAt 7 cfg0.N (ix2 (row t r) j)
    = Reference3Ideal.Read.val_main_v18 (F := Ideal) (m ((c : Thread nD τ).loc main_arg0)) (m ((c : Thread nD τ).loc main_arg1)) (ix2 (row t r) j) := by
  have b := congrFun (Value.blocks7 m c t (flush0_7 t)) (ix2 r j)
  rw [Value.flushed7] at b
  have b' : (dats m 0 c).arrAt 7 cfg0.N (((cfg0.win 7).blk t).view.emb (ix2 r j)) = out0_7 (iblk m c 0 t) (iblk m c 1 t) (ix2 r j) := b
  rw [emb7, out_w7] at b'
  rw [b', ref_w7]
  simp only [iblk0, iblk1]

/-- The result of the stick-breaking attention's keys after the run is the reference's array. -/
theorem final7 (c : Dev nD) : (dats m 0 c).arrAt 7 cfg0.N
    = Reference3Ideal.Read.val_main_v18 (F := Ideal) (m ((c : Thread nD τ).loc main_arg0)) (m ((c : Thread nD τ).loc main_arg1)) := by
  refine funext fun (i : S16384x384.Idx) => ?_
  have e : i = ix2 (row ⟨(i 0).val / 512, by rw [show cfg0.N = 32 from N_0]; exact Nat.div_lt_of_lt_mul (i 0).isLt⟩ ⟨(i 0).val % 512, Nat.mod_lt _ (by decide)⟩) (i 1) := by
    funext a
    match a with
    | ⟨0, _⟩ => exact Fin.ext (Nat.div_add_mod _ 512).symm
    | ⟨1, _⟩ => rfl
  rw [e]
  exact final_row7 m c _ _ _

/-- Where an index of the block of the stick-breaking attention's values lies in the result. -/
theorem emb8 (t : Fin cfg0.N) (r : Fin 512) (j : Fin 384) : ((cfg0.win 8).blk t).view.emb (ix2 r j) = ix2 (row t r) j := by
  obtain ⟨_, _, _, _, _, _, _, _, ⟨e0, e1⟩⟩ := idx_facts t
  funext a; apply Fin.ext
  match a with
  | ⟨0, _⟩ => show win0_8.index t (0 : Fin 2) * 512 + 1 * r.val = 512 * t.val + r.val; omega
  | ⟨1, _⟩ => show win0_8.index t (1 : Fin 2) * 384 + 1 * j.val = j.val; omega

/-- The result of the stick-breaking attention's values after the run, at row `r` of block `t`. -/
theorem final_row8 (c : Dev nD) (t : Fin cfg0.N) (r : Fin 512) (j : Fin 384) : (dats m 0 c).arrAt 8 cfg0.N (ix2 (row t r) j)
    = Reference3Ideal.Read.val_main_v19 (F := Ideal) (m ((c : Thread nD τ).loc main_arg0)) (m ((c : Thread nD τ).loc main_arg1)) (ix2 (row t r) j) := by
  have b := congrFun (Value.blocks8 m c t (flush0_8 t)) (ix2 r j)
  rw [Value.flushed8] at b
  have b' : (dats m 0 c).arrAt 8 cfg0.N (((cfg0.win 8).blk t).view.emb (ix2 r j)) = out0_8 (iblk m c 0 t) (iblk m c 1 t) (ix2 r j) := b
  rw [emb8, out_w8] at b'
  rw [b', ref_w8]
  simp only [iblk0, iblk1]

/-- The result of the stick-breaking attention's values after the run is the reference's array. -/
theorem final8 (c : Dev nD) : (dats m 0 c).arrAt 8 cfg0.N
    = Reference3Ideal.Read.val_main_v19 (F := Ideal) (m ((c : Thread nD τ).loc main_arg0)) (m ((c : Thread nD τ).loc main_arg1)) := by
  refine funext fun (i : S16384x384.Idx) => ?_
  have e : i = ix2 (row ⟨(i 0).val / 512, by rw [show cfg0.N = 32 from N_0]; exact Nat.div_lt_of_lt_mul (i 0).isLt⟩ ⟨(i 0).val % 512, Nat.mod_lt _ (by decide)⟩) (i 1) := by
    funext a
    match a with
    | ⟨0, _⟩ => exact Fin.ext (Nat.div_add_mod _ 512).symm
    | ⟨1, _⟩ => rfl
  rw [e]
  exact final_row8 m c _ _ _

end Cert.InprojRun

/-! ## The claims -/

namespace Cert.Inproj

/-- The input projection runs to the end and changes nothing of its arguments, on machine words. -/
theorem frame_kernel : Cert.quiescent_Kernel3 := fun m ρ _ => Cert.Kernel3.Gen.frame m ρ

/-- and over the extended reals. -/
theorem frame_ideal : Cert.quiescent_Kernel3Ideal := fun m ρ _ => Cert.Kernel3Ideal.Gen.frame m ρ

/-- The reference runs to the end and changes nothing of its arguments. -/
theorem frame_reference : Cert.quiescent_Reference3Ideal := fun m ρ _ =>
  (θ_run Cert.Reference3Ideal.defs _ _).mono (fun r h => ⟨fun c => (h c).2.2.2.2.2.2.2, sem_eq_zero_of_no_sems (by decide) r.2⟩)
    (Cert.Reference3Ideal.Value.run (F := Ideal) m ρ)

/-- From equal arguments both leave the same seven arrays. -/
theorem algebraic : Cert.algebraic_Kernel3Ideal_Reference3Ideal := by
  pair_intro
  · run_from Cert.Kernel3Ideal.Value.run_blocks m g
  · run_from Cert.Reference3Ideal.Value.run m' g'
    · exact (Reference3Ideal.Read.val_main_v1_eq ..).trans (InprojRun.final2 m c).symm
    · exact (Reference3Ideal.Read.val_main_v14_eq ..).trans (InprojRun.final3 m c).symm
    · exact (Reference3Ideal.Read.val_main_v15_eq ..).trans (InprojRun.final4 m c).symm
    · exact (Reference3Ideal.Read.val_main_v16_eq ..).trans (InprojRun.final5 m c).symm
    · exact (Reference3Ideal.Read.val_main_v17_eq ..).trans (InprojRun.final6 m c).symm
    · exact (Reference3Ideal.Read.val_main_v18_eq ..).trans (InprojRun.final7 m c).symm
    · exact (Reference3Ideal.Read.val_main_v19_eq ..).trans (InprojRun.final8 m c).symm

end Cert.Inproj
-- ==== Proof.lean ====
/-
  The claims of the certificate, each proved in a module of its own name and only assembled here.
-/
module

public import proofs.«01_k».proof.Proof.Gen.Kernel
public import proofs.«01_k».proof.Proof.Gen.Pre_finite
public import proofs.«01_k».proof.Proof.Gen.KernelIdeal.Regions
public import proofs.«01_k».proof.Proof.Gen.Kernel.Regions
public import proofs.«01_k».proof.Proof.Gen.KernelIdeal.Points
public import proofs.«01_k».proof.Proof.Gen.Kernel.Points
public import proofs.«01_k».proof.Proof.Gen.KernelIdeal.Loops
public import proofs.«01_k».proof.Proof.Gen.Kernel.Loops
public import proofs.«01_k».proof.Proof.Gen.ReferenceIdeal.Run
public import proofs.«01_k».proof.Proof.Gen.ReferenceIdeal.Read
public import proofs.«01_k».proof.Defs
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel2Ideal.Value
public import proofs.«01_k».proof.Proof.Gen.Reference2Ideal.Run
public import proofs.«01_k».proof.Proof.Gen.Reference2Ideal.Read
public import proofs.«01_k».proof.Proof.FfnRun
public import proofs.«01_k».proof.Proof.MoeFinal
public import proofs.«01_k».proof.Proof.OutprojRun
public import proofs.«01_k».proof.Proof.InprojRun
public import Idealize.ShloMosaic.Adequacy
public import Idealize.ShloMosaic.Init

@[expose] public section

noncomputable section

namespace Cert.Proof

open Idealize.ShloMosaic Idealize.SL.Sem Cert.Kernel2

/-- Everything stated: the frames and the value of the mixture-of-experts layer, then those of the dense
feed-forward, the input projection and the output projection. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts, Cert.Pre_finite.Gen.facts,
  Cert.Moe.frame_kernel, Cert.Moe.frame_ideal, Cert.Moe.frame_ideal_finite, Cert.Moe.frame_reference,
  Cert.Moe.frame_reference_finite, Cert.Ffn.frame_kernel, Cert.Ffn.frame_ideal, Cert.Ffn.frame_reference,
  Cert.Inproj.frame_kernel, Cert.Inproj.frame_ideal, Cert.Inproj.frame_reference,
  Cert.Outproj.frame_kernel, Cert.Outproj.frame_ideal, Cert.Outproj.frame_reference,
  trivial, Cert.Moe.algebraic, trivial, Cert.Ffn.algebraic, trivial, Cert.Inproj.algebraic, trivial, Cert.Outproj.algebraic⟩

end Cert.Proof

end
